-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ffn [hPre_finite_ffn : Cert.Pre_finite_ffn.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ffn.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ffn [hPre_finite_ffn : Cert.Pre_finite_ffn.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ffn.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite_ffn [hKernel9Ideal : Cert.Kernel9Ideal.Facts] [hPre_finite_ffn : Cert.Pre_finite_ffn.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ffn m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite_ffn [hReference9Ideal : Cert.Reference9Ideal.Facts] [hPre_finite_ffn : Cert.Pre_finite_ffn.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ffn m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v35)) (v1 : (c : Dev Cert.Kernel10Ideal.nD) → Buf (Elt Ideal) ((c.tc : Thread Cert.Kernel10Ideal.nD Cert.Kernel10Ideal.τ).loc Cert.Kernel10Ideal.main_v34_1)) (v2 : (c : Dev Cert.Kernel10Ideal.nD) → Buf (Elt Ideal) ((c.tc : Thread Cert.Kernel10Ideal.nD Cert.Kernel10Ideal.τ).loc Cert.Kernel10Ideal.main_v34_2)) (v3 : (c : Dev Cert.Kernel10Ideal.nD) → Buf (Elt Ideal) ((c.tc : Thread Cert.Kernel10Ideal.nD Cert.Kernel10Ideal.τ).loc Cert.Kernel10Ideal.main_v34_3)) (v4 : (c : Dev Cert.Kernel10Ideal.nD) → Buf (Elt Ideal) ((c.tc : Thread Cert.Kernel10Ideal.nD Cert.Kernel10Ideal.τ).loc Cert.Kernel10Ideal.main_v34_4)) (v5 : (c : Dev Cert.Kernel10Ideal.nD) → Buf (Elt Ideal) ((c.tc : Thread Cert.Kernel10Ideal.nD Cert.Kernel10Ideal.τ).loc Cert.Kernel10Ideal.main_v34_5)) (v6 : (c : Dev Cert.Kernel10Ideal.nD) → Buf (Elt Ideal) ((c.tc : Thread Cert.Kernel10Ideal.nD Cert.Kernel10Ideal.τ).loc Cert.Kernel10Ideal.main_v34_6)) (v7 : (c : Dev Cert.Kernel10Ideal.nD) → Buf (Elt Ideal) ((c.tc : Thread Cert.Kernel10Ideal.nD Cert.Kernel10Ideal.τ).loc Cert.Kernel10Ideal.main_v34_7)) (v8 : (c : Dev Cert.Kernel10Ideal.nD) → Buf (Elt Ideal) ((c.tc : Thread Cert.Kernel10Ideal.nD Cert.Kernel10Ideal.τ).loc Cert.Kernel10Ideal.main_v34_8)) (v9 : (c : Dev Cert.Kernel10Ideal.nD) → Buf (Elt Ideal) ((c.tc : Thread Cert.Kernel10Ideal.nD Cert.Kernel10Ideal.τ).loc Cert.Kernel10Ideal.main_v34_9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v35) = v0 c
          ∧ r.2.mem ((c.tc : Thread Cert.Kernel10Ideal.nD Cert.Kernel10Ideal.τ).loc Cert.Kernel10Ideal.main_v34_1) = v1 c
          ∧ r.2.mem ((c.tc : Thread Cert.Kernel10Ideal.nD Cert.Kernel10Ideal.τ).loc Cert.Kernel10Ideal.main_v34_2) = v2 c
          ∧ r.2.mem ((c.tc : Thread Cert.Kernel10Ideal.nD Cert.Kernel10Ideal.τ).loc Cert.Kernel10Ideal.main_v34_3) = v3 c
          ∧ r.2.mem ((c.tc : Thread Cert.Kernel10Ideal.nD Cert.Kernel10Ideal.τ).loc Cert.Kernel10Ideal.main_v34_4) = v4 c
          ∧ r.2.mem ((c.tc : Thread Cert.Kernel10Ideal.nD Cert.Kernel10Ideal.τ).loc Cert.Kernel10Ideal.main_v34_5) = v5 c
          ∧ r.2.mem ((c.tc : Thread Cert.Kernel10Ideal.nD Cert.Kernel10Ideal.τ).loc Cert.Kernel10Ideal.main_v34_6) = v6 c
          ∧ r.2.mem ((c.tc : Thread Cert.Kernel10Ideal.nD Cert.Kernel10Ideal.τ).loc Cert.Kernel10Ideal.main_v34_7) = v7 c
          ∧ r.2.mem ((c.tc : Thread Cert.Kernel10Ideal.nD Cert.Kernel10Ideal.τ).loc Cert.Kernel10Ideal.main_v34_8) = v8 c
          ∧ r.2.mem ((c.tc : Thread Cert.Kernel10Ideal.nD Cert.Kernel10Ideal.τ).loc Cert.Kernel10Ideal.main_v34_9) = v9 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v100) = v0 c
          ∧ r.2.mem ((c.tc : Thread Cert.Reference10Ideal.nD Cert.Reference10Ideal.τ).loc Cert.Reference10Ideal.main_v101) = v1 c
          ∧ r.2.mem ((c.tc : Thread Cert.Reference10Ideal.nD Cert.Reference10Ideal.τ).loc Cert.Reference10Ideal.main_v102) = v2 c
          ∧ r.2.mem ((c.tc : Thread Cert.Reference10Ideal.nD Cert.Reference10Ideal.τ).loc Cert.Reference10Ideal.main_v103) = v3 c
          ∧ r.2.mem ((c.tc : Thread Cert.Reference10Ideal.nD Cert.Reference10Ideal.τ).loc Cert.Reference10Ideal.main_v91) = v4 c
          ∧ r.2.mem ((c.tc : Thread Cert.Reference10Ideal.nD Cert.Reference10Ideal.τ).loc Cert.Reference10Ideal.main_v83) = v5 c
          ∧ r.2.mem ((c.tc : Thread Cert.Reference10Ideal.nD Cert.Reference10Ideal.τ).loc Cert.Reference10Ideal.main_v76) = v6 c
          ∧ r.2.mem ((c.tc : Thread Cert.Reference10Ideal.nD Cert.Reference10Ideal.τ).loc Cert.Reference10Ideal.main_v71) = v7 c
          ∧ r.2.mem ((c.tc : Thread Cert.Reference10Ideal.nD Cert.Reference10Ideal.τ).loc Cert.Reference10Ideal.main_v99) = v8 c
          ∧ r.2.mem ((c.tc : Thread Cert.Reference10Ideal.nD Cert.Reference10Ideal.τ).loc Cert.Reference10Ideal.main_v53) = v9 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_v32) = v2 c
          ∧ r.2.mem ((c.tc : Thread Cert.Reference11Ideal.nD Cert.Reference11Ideal.τ).loc Cert.Reference11Ideal.main_v59) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_v35) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel9_Kernel9Ideal : Prop :=
  True

def algebraic_Kernel9Ideal_Reference9Ideal_pre_finite_ffn [hKernel9Ideal : Cert.Kernel9Ideal.Facts] [hReference9Ideal : Cert.Reference9Ideal.Facts] [hPre_finite_ffn : Cert.Pre_finite_ffn.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ffn m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_2)) (v2 : (c : Dev Cert.Kernel9Ideal.nD) → Buf (Elt Ideal) ((c.tc : Thread Cert.Kernel9Ideal.nD Cert.Kernel9Ideal.τ).loc Cert.Kernel9Ideal.main_v1_0)) (v3 : (c : Dev Cert.Kernel9Ideal.nD) → Buf (Elt Ideal) ((c.tc : Thread Cert.Kernel9Ideal.nD Cert.Kernel9Ideal.τ).loc Cert.Kernel9Ideal.main_v1_1)) (v4 : (c : Dev Cert.Kernel9Ideal.nD) → Buf (Elt Ideal) ((c.tc : Thread Cert.Kernel9Ideal.nD Cert.Kernel9Ideal.τ).loc Cert.Kernel9Ideal.main_v1_2)) (v5 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_2) = v1 c
          ∧ r.2.mem ((c.tc : Thread Cert.Kernel9Ideal.nD Cert.Kernel9Ideal.τ).loc Cert.Kernel9Ideal.main_v1_0) = v2 c
          ∧ r.2.mem ((c.tc : Thread Cert.Kernel9Ideal.nD Cert.Kernel9Ideal.τ).loc Cert.Kernel9Ideal.main_v1_1) = v3 c
          ∧ r.2.mem ((c.tc : Thread Cert.Kernel9Ideal.nD Cert.Kernel9Ideal.τ).loc Cert.Kernel9Ideal.main_v1_2) = v4 c
          ∧ r.2.mem ((c.tc : Thread Cert.Kernel9Ideal.nD Cert.Kernel9Ideal.τ).loc Cert.Kernel9Ideal.main_v1_3) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_v62) = v2 c
          ∧ r.2.mem ((c.tc : Thread Cert.Reference9Ideal.nD Cert.Reference9Ideal.τ).loc Cert.Reference9Ideal.main_v63) = v3 c
          ∧ r.2.mem ((c.tc : Thread Cert.Reference9Ideal.nD Cert.Reference9Ideal.τ).loc Cert.Reference9Ideal.main_v64) = v4 c
          ∧ r.2.mem ((c.tc : Thread Cert.Reference9Ideal.nD Cert.Reference9Ideal.τ).loc Cert.Reference9Ideal.main_v24) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel9 : Cert.Kernel9.Facts) (hKernel9Ideal : Cert.Kernel9Ideal.Facts) (hReference9Ideal : Cert.Reference9Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_logits : Cert.Pre_finite_logits.Facts) (hPre_finite_ffn : Cert.Pre_finite_ffn.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel9 (hKernel9 := hKernel9)
    ∧ quiescent_Kernel9Ideal (hKernel9Ideal := hKernel9Ideal)
    ∧ quiescent_Kernel9Ideal_pre_finite_ffn (hKernel9Ideal := hKernel9Ideal) (hPre_finite_ffn := hPre_finite_ffn)
    ∧ quiescent_Reference9Ideal (hReference9Ideal := hReference9Ideal)
    ∧ quiescent_Reference9Ideal_pre_finite_ffn (hReference9Ideal := hReference9Ideal) (hPre_finite_ffn := hPre_finite_ffn)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel9_Kernel9Ideal
    ∧ algebraic_Kernel9Ideal_Reference9Ideal_pre_finite_ffn (hKernel9Ideal := hKernel9Ideal) (hReference9Ideal := hReference9Ideal) (hPre_finite_ffn := hPre_finite_ffn)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_ffn.lean ====
abbrev S8192x1024 : Shape := ⟨2, ![8192, 1024]⟩
abbrev S8192x5632 : Shape := ⟨2, ![8192, 5632]⟩
abbrev S2816x1024 : Shape := ⟨2, ![2816, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v15 : IVec S_ 1) (main_v16 : FVec F S8192x1024 .f32) (main_cst_4 : FVec F S_ .f32) : IVec S_ 1 :=
  let main_v17 : FVec F S8192x1024 .f32 := broadcastInDim S8192x1024 ![] bcast_S_S8192x1024 main_cst_4
  let main_v18 : IVec S8192x1024 1 := cmpf .olt main_v16 main_v17
  let main_c_5 : IVec S_ 1 := constantI S_ 1 1#1
  let main_v19 : IVec S_ 1 := (fun x v => Host.reduce IntOp.andi x v reducesTo_S8192x1024_S_d0_1 h_S_) main_v18 main_c_5
  let main_v20 : IVec S_ 1 := andi main_v15 main_v19
  main_v20

def fn {F : FTy → Type} [FloatOps F] (main_arg0 : FVec F S8192x1024 .f32) (main_arg1 : FVec F S8192x5632 .bf16) (main_arg2 : FVec F S2816x1024 .bf16) (main_arg3 : FVec F S1x1024 .f32) (main_arg4 : FVec F S1x1024 .f32) (main_arg5 : FVec F S8192x1024 .f32) : IVec S_ 1 :=
  let main_v0 : FVec F S8192x5632 .f32 := (extf .f32 · bitsLt_bf16_f32) main_arg1
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S2816x1024 .f32 := (extf .f32 · bitsLt_bf16_f32) main_arg2
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S8192x1024 .f32 := Host.absf main_arg5
  let main_cst_4 : FVec F S_ .f32 := constant S_ .f32 0x7F800000#32
  fn_part1 (F := F) main_v15 main_v16 main_cst_4
-- ==== Pre_finite_logits.lean ====
abbrev S8192x6912 : Shape := ⟨2, ![8192, 6912]⟩
abbrev S256x1024 : Shape := ⟨2, ![256, 1024]⟩
abbrev S8192x512 : Shape := ⟨2, ![8192, 512]⟩
abbrev S256x512 : Shape := ⟨2, ![256, 512]⟩
abbrev S_ : Shape := ⟨0, ![]⟩

class Facts : Prop where
  slices_S8192x6912_S8192x512_0_4096 : S8192x6912.Slices ![0, 4096] S8192x512
  bitsLt_bf16_f32 : FTy.bits .bf16 < FTy.bits .f32
  slices_S256x1024_S256x512_0_0 : S256x1024.Slices ![0, 0] S256x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x6912 .bf16) (main_arg1 : FVec F S256x1024 .bf16) (main_arg2 : FVec F S8192x512 .bf16) (main_arg3 : FVec F S8192x6912 .bf16) : IVec S_ 1 :=
  let main_v0 : FVec F S8192x512 .bf16 := (extractStridedSlice S8192x512 ![0, 4096] · slices_S8192x6912_S8192x512_0_4096) main_arg0
  let main_v1 : FVec F S8192x512 .f32 := (extf .f32 · bitsLt_bf16_f32) main_v0
  let main_v2 : FVec F S256x512 .bf16 := (extractStridedSlice S256x512 ![0, 0] · slices_S256x1024_S256x512_0_0) main_arg1
  let main_v3 : FVec F S256x512 .f32 := (extf .f32 · bitsLt_bf16_f32) main_v2
  let main_v4 : FVec F S8192x512 .f32 := Host.absf main_v1
  let main_cst : FVec F S_ .f32 := constant S_ .f32 0x7F800000#32
  let main_v5 : FVec F S8192x512 .f32 := broadcastInDim S8192x512 ![] bcast_S_S8192x512 main_cst
  let main_v6 : IVec S8192x512 1 := cmpf .olt main_v4 main_v5
  let main_c : IVec S_ 1 := constantI S_ 1 1#1
  let main_v7 : IVec S_ 1 := (fun x v => Host.reduce IntOp.andi x v reducesTo_S8192x512_S_d0_1 h_S_) main_v6 main_c
  let main_v8 : FVec F S256x512 .f32 := Host.absf main_v3
  let main_cst_0 : FVec F S_ .f32 := constant S_ .f32 0x7F800000#32
  let main_v9 : FVec F S256x512 .f32 := broadcastInDim S256x512 ![] bcast_S_S256x512 main_cst_0
  let main_v10 : IVec S256x512 1 := cmpf .olt main_v8 main_v9
  let main_c_1 : IVec S_ 1 := constantI S_ 1 1#1
  let main_v11 : IVec S_ 1 := (fun x v => Host.reduce IntOp.andi x v reducesTo_S256x512_S_d0_1 h_S_) main_v10 main_c_1
  let main_v12 : IVec S_ 1 := andi main_v7 main_v11
  main_v12
-- ==== Kernel.lean ====
abbrev S8192x6912 : Shape := ⟨2, ![8192, 6912]⟩
abbrev S256x1024 : Shape := ⟨2, ![256, 1024]⟩
abbrev S8192x512 : Shape := ⟨2, ![8192, 512]⟩
abbrev S512x512 : Shape := ⟨2, ![512, 512]⟩
abbrev S256x128 : Shape := ⟨2, ![256, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x6912, .bf16⟩
  | .hbm, ⟨1, _⟩ => ⟨S256x1024, .bf16⟩
  | .hbm, ⟨2, _⟩ => ⟨S8192x512, .bf16⟩
  | .hbm, ⟨3, _⟩ => ⟨S8192x6912, .bf16⟩
  | .hbm, ⟨4, _⟩ => ⟨S8192x6912, .bf16⟩
  | .hbm, ⟨5, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x6912 : Shape := ⟨2, ![8192, 6912]⟩
abbrev S256x1024 : Shape := ⟨2, ![256, 1024]⟩
abbrev S8192x512 : Shape := ⟨2, ![8192, 512]⟩
abbrev S8192x4x128 : Shape := ⟨3, ![8192, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S8192x4096 : Shape := ⟨2, ![8192, 4096]⟩
abbrev S8192x2304 : Shape := ⟨2, ![8192, 2304]⟩

abbrev nBuf : Space → Nat
  | .hbm => 98
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S256x1024, .bf16⟩
  | .hbm, ⟨2, _⟩ => ⟨S8192x512, .bf16⟩
  | .hbm, ⟨3, _⟩ => ⟨S8192x6912, .bf16⟩
  | .hbm, ⟨4, _⟩ => ⟨S8192x512, .bf16⟩
  | .hbm, ⟨5, _⟩ => ⟨S8192x512, .f32⟩
  | .hbm, ⟨6, _⟩ => ⟨S256x1024, .f32⟩
  | .hbm, ⟨7, _⟩ => ⟨S8192x4x128, .f32⟩
  | .hbm, ⟨8, _⟩ => ⟨S256x2x4x128, .f32⟩
  | .hbm, ⟨9, _⟩ => ⟨S256x1x4x128, .f32⟩
  | .hbm, ⟨10, _⟩ => ⟨S256x4x128, .f32⟩
  | .hbm, ⟨11, _⟩ => ⟨S256x1x4x128, .f32⟩
  | .hbm, ⟨12, _⟩ => ⟨S256x4x128, .f32⟩
  | .hbm, ⟨13, _⟩ => ⟨S4x8192x256, .f32⟩
  | .hbm, ⟨14, _⟩ => ⟨S_, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x128x8192, .f32⟩
  | .hbm, ⟨56, _⟩ => ⟨S8192x4x128, .f32⟩
  | .hbm, ⟨57, _⟩ => ⟨S8192x512, .f32⟩
  | .hbm, ⟨58, _⟩ => ⟨S8192x512, .f32⟩
  | .hbm, ⟨59, _⟩ => ⟨S8192x4x128, .f32⟩
  | .hbm, ⟨60, _⟩ => ⟨S4x128x8192, .f32⟩
  | .hbm, ⟨61, _⟩ => ⟨S4x8192x256, .f32⟩
  | .hbm, ⟨62, _⟩ => ⟨S4x128x256, .f32⟩
  | .hbm, ⟨63, _⟩ => ⟨S256x4x128, .f32⟩
  | .hbm, ⟨64, _⟩ => ⟨S4x8192x256, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x1, .f32⟩
  | .hbm, ⟨71, _⟩ => ⟨S4x8192x256, .f32⟩
  | .hbm, ⟨72, _⟩ => ⟨S4x8192x256, .f32⟩
  | .hbm, ⟨73, _⟩ => ⟨S_, .f32⟩
  | .hbm, ⟨74, _⟩ => ⟨S4x8192, .f32⟩
  | .hbm, ⟨75, _⟩ => ⟨S4x8192x256, .f32⟩
  | .hbm, ⟨76, _⟩ => ⟨S4x8192x256, .f32⟩
  | .hbm, ⟨77, _⟩ => ⟨S4x8192x256, .f32⟩
  | .hbm, ⟨78, _⟩ => ⟨S_, .f32⟩
  | .hbm, ⟨79, _⟩ => ⟨S4x8192x256, .f32⟩
  | .hbm, ⟨80, _⟩ => ⟨S4x8192x256, .f32⟩
  | .hbm, ⟨81, _⟩ => ⟨S4x256x128, .f32⟩
  | .hbm, ⟨82, _⟩ => ⟨S256x4x128, .f32⟩
  | .hbm, ⟨83, _⟩ => ⟨S4x8192x128, .f32⟩
  | .hbm, ⟨84, _⟩ => ⟨S8192x4x128, .f32⟩
  | .hbm, ⟨85, _⟩ => ⟨S256x1x4x128, .f32⟩
  | .hbm, ⟨86, _⟩ => ⟨S_, .f32⟩
  | .hbm, ⟨87, _⟩ => ⟨S256x2x4x128, .f32⟩
  | .hbm, ⟨88, _⟩ => ⟨S256x1x4x128, .f32⟩
  | .hbm, ⟨89, _⟩ => ⟨S_, .f32⟩
  | .hbm, ⟨90, _⟩ => ⟨S256x2x4x128, .f32⟩
  | .hbm, ⟨91, _⟩ => ⟨S256x2x4x128, .f32⟩
  | .hbm, ⟨92, _⟩ => ⟨S256x1024, .f32⟩
  | .hbm, ⟨93, _⟩ => ⟨S8192x512, .f32⟩
  | .hbm, ⟨94, _⟩ => ⟨S8192x4096, .bf16⟩
  | .hbm, ⟨95, _⟩ => ⟨S8192x512, .bf16⟩
  | .hbm, ⟨96, _⟩ => ⟨S8192x2304, .bf16⟩
  | .hbm, ⟨97, _⟩ => ⟨S8192x6912, .bf16⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_cst_14 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Kernel10.lean ====
abbrev S8192x512 : Shape := ⟨2, ![8192, 512]⟩
abbrev S8192x256 : Shape := ⟨2, ![8192, 256]⟩
abbrev S8192x6912 : Shape := ⟨2, ![8192, 6912]⟩
abbrev S512x1024 : Shape := ⟨2, ![512, 1024]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S512x512 : Shape := ⟨2, ![512, 512]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 58
  | .vmem => 34
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x512, .bf16⟩
  | .hbm, ⟨3, _⟩ => ⟨S8192x6912, .bf16⟩
  | .hbm, ⟨4, _⟩ => ⟨S512x1024, .bf16⟩
  | .hbm, ⟨5, _⟩ => ⟨S256x1024, .bf16⟩
  | .hbm, ⟨6, _⟩ => ⟨S512x1024, .bf16⟩
  | .hbm, ⟨7, _⟩ => ⟨S1024x1024, .bf16⟩
  | .hbm, ⟨8, _⟩ => ⟨S1x3072, .f32⟩
  | .hbm, ⟨9, _⟩ => ⟨S1x1024, .f32⟩
  | .hbm, ⟨10, _⟩ => ⟨S8192x1024, .f32⟩
  | .hbm, ⟨11, _⟩ => ⟨S8192x3072, .bf16⟩
  | .hbm, ⟨12, _⟩ => ⟨S8192x512, .f32⟩
  | .hbm, ⟨13, _⟩ => ⟨S8192x256, .f32⟩
  | .hbm, ⟨14, _⟩ => ⟨S8192x512, .f32⟩
  | .hbm, ⟨15, _⟩ => ⟨S8192x3072, .f32⟩
  | .hbm, ⟨16, _⟩ => ⟨S512x1024, .f32⟩
  | .hbm, ⟨17, _⟩ => ⟨S256x1024, .f32⟩
  | .hbm, ⟨18, _⟩ => ⟨S512x1024, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S_, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3x1024, .f32⟩
  | .hbm, ⟨30, _⟩ => ⟨S8192x1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .bf16⟩
  | .hbm, ⟨47, _⟩ => ⟨S8192x6912, .bf16⟩
  | .hbm, ⟨48, _⟩ => ⟨S8192x512, .bf16⟩
  | .hbm, ⟨49, _⟩ => ⟨S8192x256, .bf16⟩
  | .hbm, ⟨50, _⟩ => ⟨S8192x512, .bf16⟩
  | .hbm, ⟨51, _⟩ => ⟨S512x1024, .f32⟩
  | .hbm, ⟨52, _⟩ => ⟨S256x1024, .f32⟩
  | .hbm, ⟨53, _⟩ => ⟨S512x1024, .f32⟩
  | .hbm, ⟨54, _⟩ => ⟨S1024x1024, .f32⟩
  | .hbm, ⟨55, _⟩ => ⟨S1x3072, .f32⟩
  | .hbm, ⟨56, _⟩ => ⟨S1x1024, .f32⟩
  | .hbm, ⟨57, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x512, .bf16⟩
  | .local _ .vmem, ⟨11, _⟩ => ⟨S512x512, .bf16⟩
  | .local _ .vmem, ⟨12, _⟩ => ⟨S512x3072, .bf16⟩
  | .local _ .vmem, ⟨13, _⟩ => ⟨S512x3072, .bf16⟩
  | .local _ .vmem, ⟨14, _⟩ => ⟨S512x1024, .bf16⟩
  | .local _ .vmem, ⟨15, _⟩ => ⟨S256x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x3072, .f32⟩
  | .local _ .vmem, ⟨19, _⟩ => ⟨S1x1024, .f32⟩
  | .local _ .vmem, ⟨20, _⟩ => ⟨S512x3072, .bf16⟩
  | .local _ .vmem, ⟨21, _⟩ => ⟨S512x3072, .bf16⟩
  | .local _ .vmem, ⟨22, _⟩ => ⟨S512x512, .bf16⟩
  | .local _ .vmem, ⟨23, _⟩ => ⟨S512x512, .bf16⟩
  | .local _ .vmem, ⟨24, _⟩ => ⟨S512x256, .bf16⟩
  | .local _ .vmem, ⟨25, _⟩ => ⟨S512x256, .bf16⟩
  | .local _ .vmem, ⟨26, _⟩ => ⟨S512x512, .bf16⟩
  | .local _ .vmem, ⟨27, _⟩ => ⟨S512x512, .bf16⟩
  | .local _ .vmem, ⟨28, _⟩ => ⟨S512x1024, .f32⟩
  | .local _ .vmem, ⟨29, _⟩ => ⟨S256x1024, .f32⟩
  | .local _ .vmem, ⟨30, _⟩ => ⟨S512x1024, .f32⟩
  | .local _ .vmem, ⟨31, _⟩ => ⟨S1024x1024, .f32⟩
  | .local _ .vmem, ⟨32, _⟩ => ⟨S1x3072, .f32⟩
  | .local _ .vmem, ⟨33, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34_0 : Ref sig .tc := ⟨.hbm, 47, rfl⟩
abbrev main_v34_1 : Ref sig .tc := ⟨.hbm, 48, rfl⟩
abbrev main_v34_2 : Ref sig .tc := ⟨.hbm, 49, rfl⟩
abbrev main_v34_3 : Ref sig .tc := ⟨.hbm, 50, rfl⟩
abbrev main_v34_4 : Ref sig .tc := ⟨.hbm, 51, rfl⟩
abbrev main_v34_5 : Ref sig .tc := ⟨.hbm, 52, rfl⟩
abbrev main_v34_6 : Ref sig .tc := ⟨.hbm, 53, rfl⟩
abbrev main_v34_7 : Ref sig .tc := ⟨.hbm, 54, rfl⟩
abbrev main_v34_8 : Ref sig .tc := ⟨.hbm, 55, rfl⟩
abbrev main_v34_9 : Ref sig .tc := ⟨.hbm, 56, rfl⟩
abbrev main_v35 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x3072 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference10Ideal.lean ====
abbrev S8192x512 : Shape := ⟨2, ![8192, 512]⟩
abbrev S8192x256 : Shape := ⟨2, ![8192, 256]⟩
abbrev S8192x6912 : Shape := ⟨2, ![8192, 6912]⟩
abbrev S512x1024 : Shape := ⟨2, ![512, 1024]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩
abbrev S1024x256 : Shape := ⟨2, ![1024, 256]⟩
abbrev S3072 : Shape := ⟨1, ![3072]⟩

abbrev nBuf : Space → Nat
  | .hbm => 130
  | .vmem => 0
  | .smem => 0
  | _ => 0

abbrev hbmTy0_0 (i : Nat) : BufTy := match i % 128 with
  | 0 => ⟨S8192x512, .bf16⟩
  | 1 => ⟨S8192x256, .bf16⟩
  | 2 => ⟨S8192x512, .bf16⟩
  | 3 => ⟨S8192x6912, .bf16⟩
  | 4 => ⟨S512x1024, .bf16⟩
  | 5 => ⟨S256x1024, .bf16⟩
  | 6 => ⟨S512x1024, .bf16⟩
  | 7 => ⟨S1024x1024, .bf16⟩
  | 8 => ⟨S1x3072, .f32⟩
  | 9 => ⟨S1x1024, .f32⟩
  | 10 => ⟨S8192x1024, .f32⟩
  | 11 => ⟨S8192x3072, .bf16⟩
  | 12 => ⟨S8192x512, .f32⟩
  | 13 => ⟨S8192x256, .f32⟩
  | 14 => ⟨S8192x512, .f32⟩
  | 15 => ⟨S8192x3072, .f32⟩
  | 16 => ⟨S512x1024, .f32⟩
  | 17 => ⟨S256x1024, .f32⟩
  | 18 => ⟨S512x1024, .f32⟩
  | 19 => ⟨S1024x1024, .f32⟩
  | 20 => ⟨S8192x3072, .f32⟩
  | 21 => ⟨S8192x3072, .f32⟩
  | 22 => ⟨S8192x3072, .f32⟩
  | 23 => ⟨S8192x3072, .f32⟩
  | 24 => ⟨S_, .f32⟩
  | 25 => ⟨S8192x3072, .f32⟩
  | 26 => ⟨S8192x3072, .f32⟩
  | 27 => ⟨S_, .f32⟩
  | 28 => ⟨S8192x3072, .f32⟩
  | 29 => ⟨S8192x3072, .f32⟩
  | 30 => ⟨S_, .f32⟩
  | 31 => ⟨S8192x3072, .f32⟩
  | 32 => ⟨S8192x3072, .f32⟩
  | 33 => ⟨S8192x3072, .f32⟩
  | 34 => ⟨S8192x3x1024, .f32⟩
  | 35 => ⟨S8192x1x1024, .f32⟩
  | 36 => ⟨S8192x1024, .f32⟩
  | 37 => ⟨S8192x1024, .f32⟩
  | 38 => ⟨S8192x1024, .f32⟩
  | 39 => ⟨S8192x1x1024, .f32⟩
  | 40 => ⟨S8192x1024, .f32⟩
  | 41 => ⟨S8192x1024, .f32⟩
  | 42 => ⟨S8192x1024, .f32⟩
  | 43 => ⟨S8192x1024, .f32⟩
  | 44 => ⟨S8192x1x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S1024, .f32⟩
  | 72 => ⟨S1x1024, .f32⟩
  | 73 => ⟨S8192x1024, .f32⟩
  | 74 => ⟨S8192x1024, .f32⟩
  | 75 => ⟨S8192x1024, .f32⟩
  | 76 => ⟨S_, .f32⟩
  | 77 => ⟨S8192, .f32⟩
  | 78 => ⟨S8192x1, .f32⟩
  | 79 => ⟨S8192x1024, .f32⟩
  | 80 => ⟨S8192x1024, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S1024x1024, .f32⟩
  | 93 => ⟨S1024x1024, .f32⟩
  | 94 => ⟨S8192x1024, .f32⟩
  | 95 => ⟨S8192x1024, .f32⟩
  | 96 => ⟨S8192x1024, .f32⟩
  | 97 => ⟨S1024x512, .f32⟩
  | 98 => ⟨S512x1024, .f32⟩
  | 99 => ⟨S8192x512, .f32⟩
  | 100 => ⟨S8192x1x1024, .f32⟩
  | 101 => ⟨S_, .f32⟩
  | 102 => ⟨S8192x3x1024, .f32⟩
  | 103 => ⟨S8192x1024, .f32⟩
  | 104 => ⟨S8192x1024, .f32⟩
  | 105 => ⟨S1024x256, .f32⟩
  | 106 => ⟨S256x1024, .f32⟩
  | 107 => ⟨S8192x256, .f32⟩
  | 108 => ⟨S8192x1x1024, .f32⟩
  | 109 => ⟨S_, .f32⟩
  | 110 => ⟨S8192x3x1024, .f32⟩
  | 111 => ⟨S8192x3x1024, .f32⟩
  | 112 => ⟨S8192x1024, .f32⟩
  | 113 => ⟨S8192x1024, .f32⟩
  | 114 => ⟨S1024x512, .f32⟩
  | 115 => ⟨S512x1024, .f32⟩
  | 116 => ⟨S8192x512, .f32⟩
  | 117 => ⟨S8192x1x1024, .f32⟩
  | 118 => ⟨S_, .f32⟩
  | 119 => ⟨S8192x3x1024, .f32⟩
  | 120 => ⟨S8192x3x1024, .f32⟩
  | 121 => ⟨S8192x3072, .f32⟩
  | 122 => ⟨S8192x3072, .f32⟩
  | 123 => ⟨S_, .f32⟩
  | 124 => ⟨S3072, .f32⟩
  | 125 => ⟨S1x3072, .f32⟩
  | 126 => ⟨S8192x3072, .bf16⟩
  | 127 => ⟨S8192x512, .bf16⟩
  | _ => ⟨S8192x512, .bf16⟩

abbrev hbmTy0_1 (i : Nat) : BufTy := match i % 128 with
  | 0 => ⟨S8192x256, .bf16⟩
  | 1 => ⟨S8192x512, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_10 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_12 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_13 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩

abbrev nD : Nat := 1
abbrev τ : Topo := Topo.v7x

variable {F : FTy → Type} [FloatOps F]
-- ==== Kernel11.lean ====
abbrev S8192x1024 : Shape := ⟨2, ![8192, 1024]⟩
abbrev S8192x512 : Shape := ⟨2, ![8192, 512]⟩
abbrev S8192x256 : Shape := ⟨2, ![8192, 256]⟩
abbrev S8192x6912 : Shape := ⟨2, ![8192, 6912]⟩
abbrev S512x1024 : Shape := ⟨2, ![512, 1024]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩
abbrev S512x512 : Shape := ⟨2, ![512, 512]⟩
abbrev S512x256 : Shape := ⟨2, ![512, 256]⟩
abbrev S512x3072 : Shape := ⟨2, ![512, 3072]⟩
abbrev S512 : Shape := ⟨1, ![512]⟩
abbrev S512x1 : Shape := ⟨2, ![512, 1]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x6912, .bf16⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1024x1024, .bf16⟩
  | .hbm, ⟨9, _⟩ => ⟨S1x3072, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .hbm, ⟨14, _⟩ => ⟨S8192x1024, .f32⟩
  | .hbm, ⟨15, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x3072, .f32⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S8192x1024 : Shape := ⟨2, ![8192, 1024]⟩
abbrev S8192x512 : Shape := ⟨2, ![8192, 512]⟩
abbrev S8192x256 : Shape := ⟨2, ![8192, 256]⟩
abbrev S8192x6912 : Shape := ⟨2, ![8192, 6912]⟩
abbrev S512x1024 : Shape := ⟨2, ![512, 1024]⟩
abbrev S256x1024 : Shape := ⟨2, ![256, 1024]⟩
abbrev S1024x1024 : Shape := ⟨2, ![1024, 1024]⟩
abbrev S1x3072 : Shape := ⟨2, ![1, 3072]⟩
abbrev S1x1024 : Shape := ⟨2, ![1, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .bf16⟩
  | .hbm, ⟨3, _⟩ => ⟨S8192x512, .bf16⟩
  | .hbm, ⟨4, _⟩ => ⟨S8192x6912, .bf16⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1024x1024, .bf16⟩
  | .hbm, ⟨9, _⟩ => ⟨S1x3072, .f32⟩
  | .hbm, ⟨10, _⟩ => ⟨S1x1024, .f32⟩
  | .hbm, ⟨11, _⟩ => ⟨S1x1024, .f32⟩
  | .hbm, ⟨12, _⟩ => ⟨S8192x3072, .bf16⟩
  | .hbm, ⟨13, _⟩ => ⟨S8192x512, .f32⟩
  | .hbm, ⟨14, _⟩ => ⟨S8192x256, .f32⟩
  | .hbm, ⟨15, _⟩ => ⟨S8192x512, .f32⟩
  | .hbm, ⟨16, _⟩ => ⟨S8192x3072, .f32⟩
  | .hbm, ⟨17, _⟩ => ⟨S512x1024, .f32⟩
  | .hbm, ⟨18, _⟩ => ⟨S256x1024, .f32⟩
  | .hbm, ⟨19, _⟩ => ⟨S512x1024, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S8192x3x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_4 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel12.lean ====
abbrev S8192x1024 : Shape := ⟨2, ![8192, 1024]⟩
abbrev S8192x5632 : Shape := ⟨2, ![8192, 5632]⟩
abbrev S2816x1024 : Shape := ⟨2, ![2816, 1024]⟩
abbrev S1x1024 : Shape := ⟨2, ![1, 1024]⟩
abbrev S8x128 : Shape := ⟨2, ![8, 128]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference12Ideal.lean ====
abbrev S8192x1024 : Shape := ⟨2, ![8192, 1024]⟩
abbrev S8192x5632 : Shape := ⟨2, ![8192, 5632]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S1x1024, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_cst_8 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel9.lean ====
abbrev S8192x1024 : Shape := ⟨2, ![8192, 1024]⟩
abbrev S8192x5632 : Shape := ⟨2, ![8192, 5632]⟩
abbrev S2816x1024 : Shape := ⟨2, ![2816, 1024]⟩
abbrev S1x1024 : Shape := ⟨2, ![1, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S8192x2816 : Shape := ⟨2, ![8192, 2816]⟩
abbrev S1024 : Shape := ⟨1, ![1024]⟩

abbrev nBuf : Space → Nat
  | .hbm => 13
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x5632, .bf16⟩
  | .hbm, ⟨10, _⟩ => ⟨S8192x1024, .bf16⟩
  | .hbm, ⟨11, _⟩ => ⟨S8192x2816, .bf16⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x5632, .bf16⟩
  | .local _ .vmem, ⟨18, _⟩ => ⟨S256x5632, .bf16⟩
  | .local _ .vmem, ⟨19, _⟩ => ⟨S2816x1024, .bf16⟩
  | .local _ .vmem, ⟨20, _⟩ => ⟨S1x1024, .f32⟩
  | .local _ .vmem, ⟨21, _⟩ => ⟨S256x5632, .bf16⟩
  | .local _ .vmem, ⟨22, _⟩ => ⟨S256x5632, .bf16⟩
  | .local _ .vmem, ⟨23, _⟩ => ⟨S256x1024, .bf16⟩
  | .local _ .vmem, ⟨24, _⟩ => ⟨S256x1024, .bf16⟩
  | .local _ .vmem, ⟨25, _⟩ => ⟨S256x2816, .bf16⟩
  | .local _ .vmem, ⟨26, _⟩ => ⟨S256x2816, .bf16⟩
  | .local _ .vmem, ⟨27, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2816x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x5632 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2816 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== Reference9Ideal.lean ====
abbrev S8192x1024 : Shape := ⟨2, ![8192, 1024]⟩
abbrev S8192x5632 : Shape := ⟨2, ![8192, 5632]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x5632, .f32⟩
  | .hbm, ⟨7, _⟩ => ⟨S2816x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .bf16⟩
  | .hbm, ⟨84, _⟩ => ⟨S8192x2816, .f32⟩
  | .hbm, ⟨85, _⟩ => ⟨S8192x2816, .f32⟩
  | .hbm, ⟨86, _⟩ => ⟨S8192x2816, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S8192x2816, .f32⟩
  | .hbm, ⟨91, _⟩ => ⟨S_, .f32⟩
  | .hbm, ⟨92, _⟩ => ⟨S8192x5632, .f32⟩
  | .hbm, ⟨93, _⟩ => ⟨S_, .f32⟩
  | .hbm, ⟨94, _⟩ => ⟨S8192x5632, .f32⟩
  | .hbm, ⟨95, _⟩ => ⟨S8192x5632, .f32⟩
  | .hbm, ⟨96, _⟩ => ⟨S8192x5632, .bf16⟩
  | .hbm, ⟨97, _⟩ => ⟨S8192x1024, .bf16⟩
  | .hbm, ⟨98, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v4_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v4_1 : Ref sig .tc := ⟨.hbm, 21, rfl⟩
abbrev main_v4_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_cst_6 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_cst_10 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== Kernel2.lean ====
abbrev S8192x6912 : Shape := ⟨2, ![8192, 6912]⟩
abbrev S1024x6912 : Shape := ⟨2, ![1024, 6912]⟩
abbrev S8192x1024 : Shape := ⟨2, ![8192, 1024]⟩
abbrev S1x1024 : Shape := ⟨2, ![1, 1024]⟩
abbrev S512x6912 : Shape := ⟨2, ![512, 6912]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x6912, .bf16⟩
  | .local _ .vmem, ⟨1, _⟩ => ⟨S512x6912, .bf16⟩
  | .local _ .vmem, ⟨2, _⟩ => ⟨S1024x6912, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6912 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x6912 : Shape := ⟨2, ![8192, 6912]⟩
abbrev S1024x6912 : Shape := ⟨2, ![1024, 6912]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x6912, .f32⟩
  | .hbm, ⟨25, _⟩ => ⟨S8192x6912, .f32⟩
  | .hbm, ⟨26, _⟩ => ⟨S8192x6912, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel3.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8192x5632 : Shape := ⟨2, ![8192, 5632]⟩
abbrev S1024x5632 : Shape := ⟨2, ![1024, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x5632, .f32⟩
  | .hbm, ⟨25, _⟩ => ⟨S8192x5632, .f32⟩
  | .hbm, ⟨26, _⟩ => ⟨S8192x5632, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S8192x1024 : Shape := ⟨2, ![8192, 1024]⟩
abbrev S8192x6912 : Shape := ⟨2, ![8192, 6912]⟩
abbrev S1024x6912 : Shape := ⟨2, ![1024, 6912]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S1024x6912, .f32⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x6912 : Shape := ⟨2, ![8192, 6912]⟩
abbrev S6912x1024 : Shape := ⟨2, ![6912, 1024]⟩
abbrev S1024x6912 : Shape := ⟨2, ![1024, 6912]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S8192x1024, .f32⟩
  | .hbm, ⟨3, _⟩ => ⟨S8192x6912, .f32⟩
  | .hbm, ⟨4, _⟩ => ⟨S6912x1024, .f32⟩
  | .hbm, ⟨5, _⟩ => ⟨S1024x6912, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x512 : Shape := ⟨2, ![1024, 512]⟩
abbrev S2816x512 : Shape := ⟨2, ![2816, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x6912 : Shape := ⟨2, ![1024, 6912]⟩
abbrev S8192x6912 : Shape := ⟨2, ![8192, 6912]⟩
abbrev S512x1024 : Shape := ⟨2, ![512, 1024]⟩
abbrev S512x6912 : Shape := ⟨2, ![512, 6912]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x6912, .bf16⟩
  | .local _ .vmem, ⟨0, _⟩ => ⟨S512x1024, .bf16⟩
  | .local _ .vmem, ⟨1, _⟩ => ⟨S512x1024, .bf16⟩
  | .local _ .vmem, ⟨2, _⟩ => ⟨S1024x6912, .bf16⟩
  | .local _ .vmem, ⟨3, _⟩ => ⟨S512x6912, .bf16⟩
  | .local _ .vmem, ⟨4, _⟩ => ⟨S512x6912, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6912 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x6912 : Shape := ⟨2, ![1024, 6912]⟩
abbrev S8192x6912 : Shape := ⟨2, ![8192, 6912]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x1024, .f32⟩
  | .hbm, ⟨3, _⟩ => ⟨S1024x6912, .f32⟩
  | .hbm, ⟨4, _⟩ => ⟨S8192x6912, .f32⟩
  | .hbm, ⟨5, _⟩ => ⟨S8192x6912, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x1024 : Shape := ⟨2, ![8192, 1024]⟩
abbrev S1024x5632 : Shape := ⟨2, ![1024, 5632]⟩
abbrev S8192x5632 : Shape := ⟨2, ![8192, 5632]⟩
abbrev S512x1024 : Shape := ⟨2, ![512, 1024]⟩
abbrev S512x5632 : Shape := ⟨2, ![512, 5632]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S512x5632, .bf16⟩
  | .local _ .vmem, ⟨4, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Law.lean ====
/- The softmax of a row of real logits over the extended reals, and the two ways of writing its gradient. -/
module
public import Idealize.ShloMosaic.Lib.Pointwise
@[expose] public section
noncomputable section
open Idealize.ShloMosaic

namespace Cert.Law

variable {n : ℕ}

/-- The greatest of the logits, as a maximum that starts at −∞. -/
def top (s : Fin n → EReal) : EReal := Finset.fold max (Ideal.ofBits FTy.f32 0xFF800000#32) s Finset.univ
/-- One exponential of a row, the row's maximum taken off first. -/
def ex (s : Fin n → EReal) (j : Fin n) : EReal := Ideal.exp (s j - top s)
/-- The sum of a row's exponentials. -/
def tot (s : Fin n → EReal) : EReal := ∑ j, ex s j
/-- The softmax of a row. -/
def pr (s : Fin n → EReal) (j : Fin n) : EReal := Ideal.div (ex s j) (tot s)
/-- The gradient of the logits by the identity `p (dp − Σ dp p)`. -/
def ds (s dp : Fin n → EReal) (j : Fin n) : EReal := pr s j * (dp j - ∑ x, dp x * pr s x)
/-- The gradient of the logits carried back through the exponentials and through the division by their sum. -/
def dsBack (s dp : Fin n → EReal) (j : Fin n) : EReal :=
  (Ideal.div (dp j) (tot s) + -∑ x, dp x * Ideal.div 1 (tot s * tot s) * ex s x) * ex s j

/-- The word of −∞ is the least extended real. -/
theorem ofBits_negInf : Ideal.ofBits FTy.f32 0xFF800000#32 = ⊥ := by
  simp [Ideal.ofBits, Ideal.ieee]
/-- The word of +∞ is the greatest extended real. -/
theorem ofBits_posInf : Ideal.ofBits FTy.f32 0x7F800000#32 = ⊤ := by
  simp [Ideal.ofBits, Ideal.ieee]
/-- An extended real whose absolute value is less than infinity is a real. -/
theorem real_of_abs (x : EReal) (h : FloatOps.cmpf (F := Ideal) (φ := .f32) .olt (max x (-x) : EReal) (Ideal.ofBits FTy.f32 0x7F800000#32) = 1#1) :
    ∃ r : ℝ, x = (r : EReal) := by
  rw [ofBits_posInf] at h
  have h : BitVec.ofBool (decide (max x (-x) < (⊤ : EReal))) = 1#1 := h
  have h : max x (-x) < (⊤ : EReal) := by
    by_contra hn
    rw [decide_eq_false hn] at h
    exact absurd h (by decide)
  induction x using EReal.rec with
  | bot => simp at h
  | top => simp at h
  | coe r => exact ⟨r, rfl⟩

/-- The scale of the logits is a nonnegative real. -/
theorem ofBits_scale : ∃ c : ℝ, 0 ≤ c ∧ Ideal.ofBits FTy.f32 0x3DB504F3#32 = (c : EReal) := by
  refine ⟨11863283 * (2 ^ 27 : ℝ)⁻¹, by positivity, ?_⟩
  simp [Ideal.ofBits, Ideal.ieee]

/-- A finite sum of reals, read as an extended real, is the sum of its terms read so. -/
theorem coe_sum {ι : Type} (A : Finset ι) (f : ι → ℝ) :
    ((∑ x ∈ A, f x : ℝ) : EReal) = ∑ x ∈ A, (f x : EReal) := by
  classical
  induction A using Finset.induction_on with
  | empty => simp
  | insert a A ha ih => rw [Finset.sum_insert ha, Finset.sum_insert ha, EReal.coe_add, ih]

/-- The product of two reals is a real. -/
theorem mul_reals {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

/-- The sum of reals is a real. -/
theorem sum_reals {ι : Type} {A : Finset ι} {f : ι → EReal} (h : ∀ x, ∃ a : ℝ, f x = (a : EReal)) : ∃ a : ℝ, ∑ x ∈ A, f x = (a : EReal) := by
  choose φ hφ using h
  exact ⟨∑ x ∈ A, φ x, by rw [coe_sum]; exact Finset.sum_congr rfl fun x _ => hφ x⟩

/-- A nonnegative real factor goes into a sum of two extended reals. -/
theorem mul_add_nonneg {c : ℝ} (hc : 0 ≤ c) (x y : EReal) : (c : EReal) * (x + y) = c * x + c * y :=
  EReal.left_distrib_of_nonneg_of_ne_top (by exact_mod_cast hc) (EReal.coe_ne_top c) x y

/-- A nonnegative real factor goes into a sum of extended reals. -/
theorem mul_sum_nonneg {ι : Type} (A : Finset ι) {c : ℝ} (hc : 0 ≤ c) (f : ι → EReal) :
    (c : EReal) * ∑ x ∈ A, f x = ∑ x ∈ A, (c : EReal) * f x := by
  classical
  induction A using Finset.induction_on with
  | empty => simp
  | insert a A ha ih => rw [Finset.sum_insert ha, Finset.sum_insert ha, mul_add_nonneg hc, ih]

/-- The maximum of a nonempty row of real logits is real. -/
theorem top_real (σ : Fin (n + 1) → ℝ) : ∃ M : ℝ, top (fun j => ((σ j : ℝ) : EReal)) = (M : EReal) := by
  have h : ∀ (A : Finset (Fin (n + 1))), A.Nonempty →
      ∃ M : ℝ, Finset.fold max (⊥ : EReal) (fun j => ((σ j : ℝ) : EReal)) A = (M : EReal) := by
    intro A hA
    induction hA using Finset.Nonempty.cons_induction with
    | singleton a => exact ⟨σ a, by simp⟩
    | cons a A ha _ ih =>
      obtain ⟨M, hM⟩ := ih
      refine ⟨max (σ a) M, ?_⟩
      rw [Finset.fold_cons, hM]
      exact (EReal.coe_strictMono.monotone.map_max).symm
  unfold top
  rw [ofBits_negInf]
  exact h _ Finset.univ_nonempty

/-- Real logits have positive real exponentials and a positive real sum of them. -/
theorem ex_real (σ : Fin (n + 1) → ℝ) : ∃ e : Fin (n + 1) → ℝ, (∀ j, 0 < e j) ∧
    (∀ j, ex (fun j => ((σ j : ℝ) : EReal)) j = (e j : EReal)) ∧
    tot (fun j => ((σ j : ℝ) : EReal)) = ((∑ j, e j : ℝ) : EReal) := by
  obtain ⟨M, hM⟩ := top_real σ
  have h : ∀ j, ex (fun j => ((σ j : ℝ) : EReal)) j = ((Real.exp (σ j - M) : ℝ) : EReal) := by
    intro j
    unfold ex
    rw [hM, ← EReal.coe_sub]
    rfl
  refine ⟨fun j => Real.exp (σ j - M), fun j => Real.exp_pos _, h, ?_⟩
  unfold tot
  rw [coe_sum]
  exact Finset.sum_congr rfl fun j _ => h j

/-- Division by a real that is not zero is multiplication by its inverse. -/
theorem div_real (a : EReal) {t : ℝ} (ht : t ≠ 0) : Ideal.div a (t : EReal) = a * ((t⁻¹ : ℝ) : EReal) := by
  unfold Ideal.div
  rw [if_neg (by exact_mod_cast ht), EReal.coe_inv]

/-- For real logits the two gradients agree, whatever the gradient of the probabilities. -/
theorem dsBack_eq (s dp : Fin (n + 1) → EReal) (hs : ∀ j, ∃ r : ℝ, s j = (r : EReal)) (j : Fin (n + 1)) :
    dsBack s dp j = ds s dp j := by
  choose σ hσ using hs
  obtain rfl : s = fun j => ((σ j : ℝ) : EReal) := funext hσ
  obtain ⟨e, he, hex, htot⟩ := ex_real σ
  have hT : 0 < ∑ j, e j := Finset.sum_pos (fun j _ => he j) Finset.univ_nonempty
  set T : ℝ := ∑ j, e j
  have ht : 0 ≤ T⁻¹ := (inv_pos.mpr hT).le
  unfold dsBack ds pr
  simp only [htot, hex, div_real _ hT.ne']
  rw [← EReal.coe_mul, div_real _ (mul_pos hT hT).ne', one_mul, mul_inv, EReal.coe_mul]
  have hsum : ∑ x, dp x * (((T⁻¹ : ℝ) : EReal) * ((T⁻¹ : ℝ) : EReal)) * (e x : EReal)
      = ((T⁻¹ : ℝ) : EReal) * ∑ x, dp x * ((e x : EReal) * ((T⁻¹ : ℝ) : EReal)) := by
    rw [mul_sum_nonneg _ ht]
    exact Finset.sum_congr rfl fun x _ => by ac_rfl
  rw [hsum, ← mul_neg, mul_comm (dp j), ← mul_add_nonneg ht, ← sub_eq_add_neg]
  ac_rfl

end Cert.Law
end
-- ==== Proof.Norm.lean ====
/- The gradient of the root-mean-square norm of a row, in the two ways of writing it. -/
module
public import proofs.«01_k».proof.Proof.Law
@[expose] public section
set_option maxRecDepth 16384
noncomputable section
open Idealize.ShloMosaic

namespace Cert.Norm

/-- The length of a row, as a word. -/
abbrev len : EReal := Ideal.ofBits FTy.f32 1149239296#32
/-- The mean of a row's squares and the small number added to it. -/
def ms (x : Fin 1024 → EReal) : EReal := Ideal.div (∑ i, x i * x i) len + Ideal.ofBits FTy.f32 897988541#32
/-- One over the root of that. -/
def rs (x : Fin 1024 → EReal) : EReal := Ideal.rsqrt (ms x)
/-- The gradient of the row from `d`, the gradient of its normed elements: `r (d − x r mean(d x r))`. -/
def back (x d : Fin 1024 → EReal) (j : Fin 1024) : EReal :=
  rs x * (d j - x j * rs x * Ideal.div (∑ i, d i * (x i * rs x)) len)
/-- What the mean of the squares passes back to each factor of a square. -/
def pull (x d : Fin 1024 → EReal) : EReal :=
  Ideal.div ((∑ i, x i * d i) * (Ideal.ofBits FTy.f32 3204448256#32 * Ideal.div (rs x) (ms x))) len

/-- The word of the length is the real 1024. -/
theorem ofBits_len : len = ((1024 : ℝ) : EReal) := by
  unfold len
  simp [Ideal.ofBits, Ideal.ieee]
  rw [← EReal.coe_mul]
  norm_num
/-- The word of minus one half. -/
theorem ofBits_half : Ideal.ofBits FTy.f32 3204448256#32 = ((-(1 / 2) : ℝ) : EReal) := by
  simp [Ideal.ofBits, Ideal.ieee]
  rw [← EReal.coe_mul]
  norm_num
/-- The small number is a positive real. -/
theorem ofBits_eps : ∃ e : ℝ, 0 < e ∧ Ideal.ofBits FTy.f32 897988541#32 = (e : EReal) := by
  refine ⟨8796093 * (2 ^ 43 : ℝ)⁻¹, by positivity, ?_⟩
  simp [Ideal.ofBits, Ideal.ieee]

/-- For a real row the mean of the squares is a positive real and one over its root is a real whose square is its inverse. -/
theorem rs_real (x : Fin 1024 → ℝ) : ∃ v r : ℝ, 0 < v ∧ 0 ≤ r ∧ r * r = v⁻¹ ∧
    ms (fun i => (x i : EReal)) = (v : EReal) ∧ rs (fun i => (x i : EReal)) = (r : EReal) := by
  obtain ⟨e, he, hw⟩ := ofBits_eps
  have hv : 0 < (∑ i, x i * x i) * (1024 : ℝ)⁻¹ + e :=
    add_pos_of_nonneg_of_pos (mul_nonneg (Finset.sum_nonneg fun i _ => mul_self_nonneg _) (by norm_num)) he
  have hm : ms (fun i => (x i : EReal)) = (((∑ i, x i * x i) * (1024 : ℝ)⁻¹ + e : ℝ) : EReal) := by
    unfold ms
    rw [hw, ofBits_len, Law.div_real _ (by norm_num), EReal.coe_add, EReal.coe_mul, Law.coe_sum]
    refine congrArg (· * _ + _) (Finset.sum_congr rfl fun i _ => ?_)
    rw [EReal.coe_mul]
  refine ⟨_, (Real.sqrt ((∑ i, x i * x i) * (1024 : ℝ)⁻¹ + e))⁻¹, hv, inv_nonneg.mpr (Real.sqrt_nonneg _), ?_, hm, ?_⟩
  · rw [← mul_inv, Real.mul_self_sqrt hv.le]
  · unfold rs
    rw [hm]
    show (if _ then _ else _) = _
    rw [if_neg (not_lt.mpr hv.le), if_neg hv.ne']

/-- A square is not negative. -/
theorem square_nonneg (x : EReal) : 0 ≤ x * x := by
  induction x with
  | bot => simp
  | top => simp
  | coe a => rw [← EReal.coe_mul]; exact EReal.coe_nonneg.mpr (mul_self_nonneg a)

/-- A row with an infinite element has an infinite mean of squares, and one over its root is zero. -/
theorem rs_infinite (x : Fin 1024 → EReal) (i : Fin 1024) (hi : x i = ⊥ ∨ x i = ⊤) : ms x = ⊤ ∧ rs x = 0 := by
  obtain ⟨e, -, he⟩ := ofBits_eps
  have h1 : ∑ i, x i * x i = ⊤ := top_le_iff.mp (le_trans (le_of_eq (by rcases hi with h | h <;> rw [h] <;> rfl))
    (Finset.single_le_sum (f := fun i => x i * x i) (fun i _ => square_nonneg _) (Finset.mem_univ i)))
  have h2 : ms x = ⊤ := by
    unfold ms
    rw [h1, he, ofBits_len, Law.div_real _ (by norm_num), EReal.top_mul_coe_of_pos (by norm_num)]
    rfl
  refine ⟨h2, ?_⟩
  unfold rs
  rw [h2]
  rfl

/-- Twice a product. -/
theorem twice (s : EReal) (t : ℝ) : s * (t : EReal) + s * (t : EReal) = s * ((2 * t : ℝ) : EReal) := by
  have h := EReal.right_distrib_of_nonneg (a := 1) (b := 1) (c := s * (t : EReal)) zero_le_one zero_le_one
  rw [one_mul] at h
  rw [← h, show (1 + 1 : EReal) = ((2 : ℝ) : EReal) by rw [← one_add_one_eq_two, EReal.coe_add]; rfl, mul_left_comm, ← EReal.coe_mul]

/-- The gradient taken back through every operation is the short one. -/
theorem back_eq (x d : Fin 1024 → EReal) (j : Fin 1024) : d j * rs x + (x j * pull x d + pull x d * x j) = back x d j := by
  by_cases h : ∃ i, x i = ⊥ ∨ x i = ⊤
  · obtain ⟨i, hi⟩ := h
    obtain ⟨h1, h2⟩ := rs_infinite x i hi
    have hp : pull x d = 0 := by
      unfold pull
      rw [h1, h2, show Ideal.div 0 ⊤ = 0 by simp [Ideal.div], mul_zero, mul_zero, ofBits_len, Law.div_real _ (by norm_num), zero_mul]
    unfold back
    rw [hp, h2]
    simp
  · simp only [not_exists, not_or] at h
    have hx : ∀ i, ∃ a : ℝ, x i = (a : EReal) := fun i => ⟨(x i).toReal, (EReal.coe_toReal (h i).2 (h i).1).symm⟩
    choose ξ hξ using hx
    obtain rfl : x = fun i => (ξ i : EReal) := funext hξ
    obtain ⟨v, r, hv, h0, hr, hm, hrs⟩ := rs_real ξ
    have h2 : ∑ i, d i * ((ξ i : EReal) * (r : EReal)) = (∑ i, (ξ i : EReal) * d i) * (r : EReal) := by
      rw [mul_comm _ (r : EReal), Law.mul_sum_nonneg _ h0]
      exact Finset.sum_congr rfl fun i _ => by rw [mul_comm (d i), mul_comm (ξ i : EReal) (r : EReal), mul_assoc]
    generalize hs : ∑ i, (ξ i : EReal) * d i = s at h2
    unfold back pull
    simp only [hrs, h2, hm, hs]
    rw [ofBits_half, ofBits_len, Law.div_real _ hv.ne', Law.div_real _ (by norm_num), Law.div_real _ (by norm_num), sub_eq_add_neg,
      Law.mul_add_nonneg h0, mul_comm (d j)]
    refine congrArg ((r : EReal) * d j + ·) ?_
    have e1 : (ξ j : EReal) * (s * (((-(1 / 2) : ℝ) : EReal) * ((r : EReal) * ((v⁻¹ : ℝ) : EReal))) * (((1024 : ℝ)⁻¹ : ℝ) : EReal))
        = s * ((ξ j * (-(1 / 2) * (r * v⁻¹)) * (1024 : ℝ)⁻¹ : ℝ) : EReal) := by
      simp only [EReal.coe_mul]; ac_rfl
    have e2 : (r : EReal) * -((ξ j : EReal) * (r : EReal) * (s * (r : EReal) * (((1024 : ℝ)⁻¹ : ℝ) : EReal)))
        = s * ((-(r * ξ j * r * r * (1024 : ℝ)⁻¹) : ℝ) : EReal) := by
      rw [EReal.coe_neg, mul_neg, mul_neg]
      simp only [EReal.coe_mul]
      exact congrArg (- ·) (by ac_rfl)
    rw [mul_comm _ (ξ j : EReal), e1, e2, twice, ← hr]
    exact congrArg (fun t : ℝ => s * (t : EReal)) (by ring)

/-- For real rows the gradient is real. -/
theorem back_real (x d : Fin 1024 → EReal) (hx : ∀ i, ∃ a : ℝ, x i = (a : EReal)) (hd : ∀ i, ∃ a : ℝ, d i = (a : EReal)) (j : Fin 1024) :
    ∃ a : ℝ, back x d j = (a : EReal) := by
  choose ξ hξ using hx
  obtain rfl : x = fun i => (ξ i : EReal) := funext hξ
  obtain ⟨v, r, hv, h0, hr, hm, hrs⟩ := rs_real ξ
  obtain ⟨s, hs⟩ : ∃ a : ℝ, ∑ i, d i * ((ξ i : EReal) * (r : EReal)) = (a : EReal) :=
    Law.sum_reals fun i => Law.mul_reals (hd i) ⟨_, (EReal.coe_mul _ _).symm⟩
  obtain ⟨δ, hδ⟩ := hd j
  refine ⟨r * (δ - ξ j * r * (s * (1024 : ℝ)⁻¹)), ?_⟩
  unfold back
  simp only [hrs, hs, hδ]
  rw [ofBits_len, Law.div_real _ (by norm_num)]
  simp only [EReal.coe_mul, EReal.coe_sub]

/-- The gradient taken back through every operation is the short one, whatever is added to it. -/
theorem add_back (a : EReal) (x d : Fin 1024 → EReal) (j : Fin 1024) :
    a + d j * rs x + x j * pull x d + pull x d * x j = a + back x d j := by
  rw [← back_eq x d j]
  simp only [add_assoc]

end Cert.Norm
end
-- ==== Proof.NormIn.lean ====
/- The gradient of the block's input: the gradient through the input projection and the norm before it, added to the
   residual's, and the gradient of the norm's scale. -/
module
public import proofs.«01_k».proof.Proof.Norm
public import proofs.«01_k».proof.Proof.Gen.Kernel2Ideal.Value
public import proofs.«01_k».proof.Proof.Gen.Reference2Ideal.Read
public import Idealize.ShloMosaic.Lib.Pipeline.ValueKit
@[expose] public section
set_option maxRecDepth 16384
noncomputable section
open Idealize.ShloMosaic Idealize.ShloMosaic.TcCoe Idealize.SL.Sem

namespace Cert.Kernel2Ideal.Final
open Cert.Kernel2Ideal Cert.Kernel2Ideal.Gen
open Cert.Reference2Ideal.Read

/-- An element of the gradient of the normed row, from a row of the gradient and the weights. -/
abbrev dh (dz : Fin 6912 → EReal) (w : FVec Ideal S1024x6912 .bf16) (j : Fin 1024) : EReal := ∑ k, dz k * w (ix2 j k)

/-- What a point writes of the gradient of the input. -/
theorem dx_apply (x : FVec Ideal S512x1024 .f32) (g : FVec Ideal S1x1024 .f32) (dz : FVec Ideal S512x6912 .bf16) (w : FVec Ideal S1024x6912 .bf16)
    (dres : FVec Ideal S512x1024 .f32) (r : Fin 512) (l : Fin 1024) : k0_pay7 (F := Ideal) x g dz w dres (ix2 r l)
      = dres (ix2 r l) + Norm.back (fun j => x (ix2 r j)) (fun j => dh (fun k => dz (ix2 r k)) w j * g (ix2 0 j)) l := by
  pointwise [k0_pay7, k0_pay5, k0_pay4, k0_pay3]
  rfl

/-- The gradient of the scale starts from zero. -/
theorem zero_apply (j) : k0_pay2 (F := Ideal) j = 0 := by pointwise [k0_pay2]

/-- A row's part of the gradient of the scale. -/
abbrev dg (x : Fin 1024 → EReal) (dz : Fin 6912 → EReal) (w : FVec Ideal S1024x6912 .bf16) (l : Fin 1024) : EReal :=
  dh dz w l * (x l * Norm.rs x)

/-- A point adds the parts of its rows. -/
theorem add_apply (acc : FVec Ideal S1x1024 .f32) (x : FVec Ideal S512x1024 .f32) (dz : FVec Ideal S512x6912 .bf16) (w : FVec Ideal S1024x6912 .bf16)
    (j : S1x1024.Idx) : k0_pay1 (F := Ideal) (k0_pay6 x dz w) acc j
      = acc j + ∑ r : Fin 512, dg (fun i => x (ix2 r i)) (fun k => dz (ix2 r k)) w (j 1) := by
  pointwise [k0_pay1, k0_pay6, k0_pay5, k0_pay4, k0_pay3]
  rfl

variable (dz : FVec Ideal S8192x6912 .bf16) (w : FVec Ideal S1024x6912 .bf16) (x : FVec Ideal S8192x1024 .f32) (g : FVec Ideal S1x1024 .f32)
  (dres : FVec Ideal S8192x1024 .f32)

/-- The reference's gradient of the scale sums over all rows. -/
theorem reference_dg (j : S1x1024.Idx) : val_main_v21 (F := Ideal) dz w x j
    = ∑ r : Fin 8192, dg (fun i => x (ix2 r i)) (fun k => dz (ix2 r k)) w (j 1) := by
  pointwise [val_main_v21, val_main_v20, val_main_v19, val_main_v18, val_main_v17, val_main_v15, val_main_v12, val_main_v11, val_main_v7, val_main_v6,
    val_main_v5, val_main_v4, val_main_v3, val_main_v2, val_main_v1, val_main_v0, val_main_cst, val_main_cst_1, val_main_cst_3]
  exact Finset.sum_congr rfl fun r _ => mul_comm _ _

/-- The reference's gradient of the input. -/
theorem reference_dx (r : Fin 8192) (l : Fin 1024) : val_main_v38 (F := Ideal) dz w x g dres (ix2 r l)
    = dres (ix2 r l) + dh (fun k => dz (ix2 r k)) w l * g (ix2 0 l) * Norm.rs (fun j => x (ix2 r j))
      + x (ix2 r l) * Norm.pull (fun j => x (ix2 r j)) (fun j => dh (fun k => dz (ix2 r k)) w j * g (ix2 0 j))
      + Norm.pull (fun j => x (ix2 r j)) (fun j => dh (fun k => dz (ix2 r k)) w j * g (ix2 0 j)) * x (ix2 r l) := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v18, val_main_v17, val_main_v15,
    val_main_v10, val_main_v9, val_main_v8, val_main_v7, val_main_v6, val_main_v5, val_main_v4, val_main_v3, val_main_v2, val_main_v1, val_main_v0,
    val_main_cst, val_main_cst_1, val_main_cst_2, val_main_cst_3, val_main_cst_4, val_main_cst_5, val_main_cst_6]
  simp only [Finset.univ_unique, Finset.sum_singleton]
  rfl

/-- The reference's gradient of the input is the short one. -/
theorem reference_back (i : S8192x1024.Idx) :
    val_main_v38 (F := Ideal) dz w x g dres i
      = dres i + Norm.back (fun j => x (ix2 (i 0) j)) (fun j => dh (fun k => dz (ix2 (i 0) k)) w j * g (ix2 0 j)) (i 1) := by
  idx_vars i
  rw [reference_dx]
  exact Norm.add_back _ (fun j => x (ix2 i0 j)) (fun j => dh (fun k => dz (ix2 i0 k)) w j * g (ix2 0 j)) i1

variable (m : (ℓ : Loc nD τ sig) → Buf (Elt Ideal) ℓ) (c : Dev nD)

/-- The block each window takes at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The argument arrays. -/
abbrev a0 : FVec Ideal S8192x6912 .bf16 := m ((c : Thread nD τ).loc main_arg0)
abbrev a1 : FVec Ideal S1024x6912 .bf16 := m ((c : Thread nD τ).loc main_arg1)
abbrev a2 : FVec Ideal S8192x1024 .f32 := m ((c : Thread nD τ).loc main_arg2)
abbrev a3 : FVec Ideal S1x1024 .f32 := m ((c : Thread nD τ).loc main_arg3)
abbrev a4 : FVec Ideal S8192x1024 .f32 := m ((c : Thread nD τ).loc main_arg4)

/-- Every point takes all the weights. -/
theorem weights (t : Fin cfg0.N) : iblk m c 1 t = a1 m c := by
  funext j
  blk_ext [iblk, V, idx t]

/-- Where an element of a point's block lies in the array. -/
theorem place (t : Fin cfg0.N) (r : Fin 512) (l : Fin 1024) : (win0_5.blk t).view.emb (ix2 r l)
    = ix2 (⟨t.val * 512 + r.val, by have := t.isLt; have : cfg0.N = 16 := N_0; omega⟩ : Fin 8192) l := by
  blk_ext [idx t]

/-- What a point leaves in its block of the gradient of the input. -/
theorem step5 (t : Fin cfg0.N) (j : S512x1024.Idx) : (outsAt0 m c t.val t.isLt).1 j
    = k0_pay7 (F := Ideal) (iblk m c 2 t) (iblk m c 3 t) (iblk m c 0 t) (iblk m c 1 t) (iblk m c 4 t) j := by
  by_cases h : t.val % 16 = 0
  · rw [outsAt0_A m c t h]; frame_out
  · rw [outsAt0_B m c t h]; frame_out

/-- The gradient of the input. -/
theorem final5 :
    (dats m 0 c).arrAt 5 cfg0.N = val_main_v38 (F := Ideal) (a0 m c) (a1 m c) (a2 m c) (a3 m c) (a4 m c) := by
  refine (dats m 0 c).arrAt_eq_of_covers 5 _ (by decide +kernel) fun t hf y => ?_
  blk_simp
  rw [after0_5, step5]
  idx_vars y
  rw [place, reference_back, dx_apply, weights]
  blk_point [iblk, V, idx t]

/-- The gradient of the scale. -/
theorem final6 : (dats m 0 c).arrAt 6 cfg0.N = val_main_v21 (F := Ideal) (a0 m c) (a1 m c) (a2 m c) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => (0 : EReal)) _
    (fun t h j => by rw [outsAt0_A m c t h]; frame_out; rw [add_apply, zero_apply]) (fun t h j => by rw [outsAt0_B m c t h]; frame_out; rw [add_apply])
    (le_of_eq N_0) t0_15 rfl j, zero_add]
  refine Eq.trans ?_ (reference_dg _ _ _ _).symm
  refine Fin.sum_mul_add_congr (n := 512) fun s k hl => ?_
  rw [weights]
  blk_point [iblk, V, idx s]

end Cert.Kernel2Ideal.Final
end
-- ==== Proof.NormFfn.lean ====
/- The gradient of the feed-forward part's input: the gradient through its first product and the norm before it, added to the
   residual's, and the gradient of the norm's scale. -/
module
public import proofs.«01_k».proof.Proof.Norm
public import proofs.«01_k».proof.Proof.Gen.Kernel3Ideal.Value
public import proofs.«01_k».proof.Proof.Gen.Reference3Ideal.Read
public import Idealize.ShloMosaic.Lib.Pipeline.ValueKit
@[expose] public section
set_option maxRecDepth 16384
noncomputable section
open Idealize.ShloMosaic Idealize.ShloMosaic.TcCoe Idealize.SL.Sem

namespace Cert.Kernel3Ideal.Final
open Cert.Kernel3Ideal Cert.Kernel3Ideal.Gen
open Cert.Reference3Ideal.Read

/-- An element of the gradient of the normed row, from a row of the gradient and the weights. -/
abbrev dh (dz : Fin 5632 → EReal) (w : FVec Ideal S1024x5632 .bf16) (j : Fin 1024) : EReal := ∑ k, dz k * w (ix2 j k)

/-- What a point writes of the gradient of the input. -/
theorem dx_apply (x : FVec Ideal S512x1024 .f32) (g : FVec Ideal S1x1024 .f32) (dz : FVec Ideal S512x5632 .bf16) (w : FVec Ideal S1024x5632 .bf16)
    (dres : FVec Ideal S512x1024 .f32) (r : Fin 512) (l : Fin 1024) : k0_pay7 (F := Ideal) x g dz w dres (ix2 r l)
      = dres (ix2 r l) + Norm.back (fun j => x (ix2 r j)) (fun j => dh (fun k => dz (ix2 r k)) w j * g (ix2 0 j)) l := by
  pointwise [k0_pay7, k0_pay5, k0_pay4, k0_pay3]
  rfl

/-- The gradient of the scale starts from zero. -/
theorem zero_apply (j) : k0_pay2 (F := Ideal) j = 0 := by pointwise [k0_pay2]

/-- A row's part of the gradient of the scale. -/
abbrev dg (x : Fin 1024 → EReal) (dz : Fin 5632 → EReal) (w : FVec Ideal S1024x5632 .bf16) (l : Fin 1024) : EReal :=
  dh dz w l * (x l * Norm.rs x)

/-- A point adds the parts of its rows. -/
theorem add_apply (acc : FVec Ideal S1x1024 .f32) (x : FVec Ideal S512x1024 .f32) (dz : FVec Ideal S512x5632 .bf16) (w : FVec Ideal S1024x5632 .bf16)
    (j : S1x1024.Idx) : k0_pay1 (F := Ideal) (k0_pay6 x dz w) acc j
      = acc j + ∑ r : Fin 512, dg (fun i => x (ix2 r i)) (fun k => dz (ix2 r k)) w (j 1) := by
  pointwise [k0_pay1, k0_pay6, k0_pay5, k0_pay4, k0_pay3]
  rfl

variable (dz : FVec Ideal S8192x5632 .bf16) (w : FVec Ideal S1024x5632 .bf16) (x : FVec Ideal S8192x1024 .f32) (g : FVec Ideal S1x1024 .f32)
  (dres : FVec Ideal S8192x1024 .f32)

/-- The reference's gradient of the scale sums over all rows. -/
theorem reference_dg (j : S1x1024.Idx) : val_main_v21 (F := Ideal) dz w x j
    = ∑ r : Fin 8192, dg (fun i => x (ix2 r i)) (fun k => dz (ix2 r k)) w (j 1) := by
  pointwise [val_main_v21, val_main_v20, val_main_v19, val_main_v18, val_main_v17, val_main_v15, val_main_v12, val_main_v11, val_main_v7, val_main_v6,
    val_main_v5, val_main_v4, val_main_v3, val_main_v2, val_main_v1, val_main_v0, val_main_cst, val_main_cst_1, val_main_cst_3]
  exact Finset.sum_congr rfl fun r _ => mul_comm _ _

/-- The reference's gradient of the input. -/
theorem reference_dx (r : Fin 8192) (l : Fin 1024) : val_main_v38 (F := Ideal) dz w x g dres (ix2 r l)
    = dres (ix2 r l) + dh (fun k => dz (ix2 r k)) w l * g (ix2 0 l) * Norm.rs (fun j => x (ix2 r j))
      + x (ix2 r l) * Norm.pull (fun j => x (ix2 r j)) (fun j => dh (fun k => dz (ix2 r k)) w j * g (ix2 0 j))
      + Norm.pull (fun j => x (ix2 r j)) (fun j => dh (fun k => dz (ix2 r k)) w j * g (ix2 0 j)) * x (ix2 r l) := by
  pointwise [val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_v18, val_main_v17, val_main_v15,
    val_main_v10, val_main_v9, val_main_v8, val_main_v7, val_main_v6, val_main_v5, val_main_v4, val_main_v3, val_main_v2, val_main_v1, val_main_v0,
    val_main_cst, val_main_cst_1, val_main_cst_2, val_main_cst_3, val_main_cst_4, val_main_cst_5, val_main_cst_6]
  simp only [Finset.univ_unique, Finset.sum_singleton]
  rfl

/-- The reference's gradient of the input is the short one. -/
theorem reference_back (i : S8192x1024.Idx) :
    val_main_v38 (F := Ideal) dz w x g dres i
      = dres i + Norm.back (fun j => x (ix2 (i 0) j)) (fun j => dh (fun k => dz (ix2 (i 0) k)) w j * g (ix2 0 j)) (i 1) := by
  idx_vars i
  rw [reference_dx]
  exact Norm.add_back _ (fun j => x (ix2 i0 j)) (fun j => dh (fun k => dz (ix2 i0 k)) w j * g (ix2 0 j)) i1

variable (m : (ℓ : Loc nD τ sig) → Buf (Elt Ideal) ℓ) (c : Dev nD)

/-- The block each window takes at a point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The argument arrays. -/
abbrev a0 : FVec Ideal S8192x5632 .bf16 := m ((c : Thread nD τ).loc main_arg0)
abbrev a1 : FVec Ideal S1024x5632 .bf16 := m ((c : Thread nD τ).loc main_arg1)
abbrev a2 : FVec Ideal S8192x1024 .f32 := m ((c : Thread nD τ).loc main_arg2)
abbrev a3 : FVec Ideal S1x1024 .f32 := m ((c : Thread nD τ).loc main_arg3)
abbrev a4 : FVec Ideal S8192x1024 .f32 := m ((c : Thread nD τ).loc main_arg4)

/-- Every point takes all the weights. -/
theorem weights (t : Fin cfg0.N) : iblk m c 1 t = a1 m c := by
  funext j
  blk_ext [iblk, V, idx t]

/-- Where an element of a point's block lies in the array. -/
theorem place (t : Fin cfg0.N) (r : Fin 512) (l : Fin 1024) : (win0_5.blk t).view.emb (ix2 r l)
    = ix2 (⟨t.val * 512 + r.val, by have := t.isLt; have : cfg0.N = 16 := N_0; omega⟩ : Fin 8192) l := by
  blk_ext [idx t]

/-- What a point leaves in its block of the gradient of the input. -/
theorem step5 (t : Fin cfg0.N) (j : S512x1024.Idx) : (outsAt0 m c t.val t.isLt).1 j
    = k0_pay7 (F := Ideal) (iblk m c 2 t) (iblk m c 3 t) (iblk m c 0 t) (iblk m c 1 t) (iblk m c 4 t) j := by
  by_cases h : t.val % 16 = 0
  · rw [outsAt0_A m c t h]; frame_out
  · rw [outsAt0_B m c t h]; frame_out

/-- The gradient of the input. -/
theorem final5 :
    (dats m 0 c).arrAt 5 cfg0.N = val_main_v38 (F := Ideal) (a0 m c) (a1 m c) (a2 m c) (a3 m c) (a4 m c) := by
  refine (dats m 0 c).arrAt_eq_of_covers 5 _ (by decide +kernel) fun t hf y => ?_
  blk_simp
  rw [after0_5, step5]
  idx_vars y
  rw [place, reference_back, dx_apply, weights]
  blk_point [iblk, V, idx t]

/-- The gradient of the scale. -/
theorem final6 : (dats m 0 c).arrAt 6 cfg0.N = val_main_v21 (F := Ideal) (a0 m c) (a1 m c) (a2 m c) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => (0 : EReal)) _
    (fun t h j => by rw [outsAt0_A m c t h]; frame_out; rw [add_apply, zero_apply]) (fun t h j => by rw [outsAt0_B m c t h]; frame_out; rw [add_apply])
    (le_of_eq N_0) t0_15 rfl j, zero_add]
  refine Eq.trans ?_ (reference_dg _ _ _ _).symm
  refine Fin.sum_mul_add_congr (n := 512) fun s k hl => ?_
  rw [weights]
  blk_point [iblk, V, idx s]

end Cert.Kernel3Ideal.Final
end
-- ==== Proof.WeightIn.lean ====
/- The gradient of the input projection: the products of the blocks of rows, added up one after the other. -/
module
public import proofs.«01_k».proof.Proof.Gen.Kernel4Ideal.Value
public import proofs.«01_k».proof.Proof.Gen.Reference4Ideal.Read
public import Idealize.ShloMosaic.Lib.Pipeline.ValueKit
@[expose] public section
set_option maxRecDepth 16384
noncomputable section
open Idealize.ShloMosaic Idealize.ShloMosaic.TcCoe Idealize.SL.Sem

namespace Cert.Kernel4Ideal.Final
open Cert.Kernel4Ideal Cert.Kernel4Ideal.Gen
open Cert.Reference4Ideal.Read

/-- The first point of a run starts from zero. -/
theorem zero_apply (j) : k0_pay1 (F := Ideal) j = 0 := by pointwise [k0_pay1]

/-- A point adds the product of its block of rows. -/
theorem add_apply (acc : FVec Ideal S1024x1152 .f32) (x : FVec Ideal S2048x1024 .bf16) (y : FVec Ideal S2048x1152 .bf16) (j : S1024x1152.Idx) :
    k0_pay2 (F := Ideal) acc x y j = acc j + ∑ r : Fin 2048, x (ix2 r (j 0)) * y (ix2 r (j 1)) := by
  pointwise [k0_pay2]

/-- The reference sums over all rows. -/
theorem reference_apply (x : FVec Ideal S8192x1024 .bf16) (y : FVec Ideal S8192x6912 .bf16) (j : S1024x6912.Idx) :
    val_main_v3 (F := Ideal) x y j = ∑ r : Fin 8192, x (ix2 r (j 0)) * y (ix2 r (j 1)) := by
  pointwise [val_main_v3, val_main_v2, val_main_v1, val_main_v0]
  exact Finset.sum_congr rfl fun r _ => mul_comm _ _

variable (m : (ℓ : Loc nD τ sig) → Buf (Elt Ideal) ℓ)

/-- The block each window takes at a point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The array after the run is the reference's gradient. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_apply, zero_apply]) (fun t h j => by rw [outsAt0_B m c t h]; frame_out; rw [add_apply])
    t ((flush0_2 t).mp hf) _, zero_add]
  refine Eq.trans ?_ (reference_apply _ _ _).symm
  refine Fin.sum_mul_add_congr fun s k hl => ?_
  blk_point [iblk, V, idx t, idx ⟨_, Pipeline.run_point_lt_of_flush t ((flush0_2 t).mp hf) s⟩]

end Cert.Kernel4Ideal.Final
end
-- ==== Proof.WeightFfnIn.lean ====
/- The gradient of the feed-forward input weights: the products of the blocks of rows, added up one after the other. -/
module
public import proofs.«01_k».proof.Proof.Gen.Kernel5Ideal.Value
public import proofs.«01_k».proof.Proof.Gen.Reference5Ideal.Read
public import Idealize.ShloMosaic.Lib.Pipeline.ValueKit
@[expose] public section
set_option maxRecDepth 16384
noncomputable section
open Idealize.ShloMosaic Idealize.ShloMosaic.TcCoe Idealize.SL.Sem

namespace Cert.Kernel5Ideal.Final
open Cert.Kernel5Ideal Cert.Kernel5Ideal.Gen
open Cert.Reference5Ideal.Read

/-- The first point of a run starts from zero. -/
theorem zero_apply (j) : k0_pay1 (F := Ideal) j = 0 := by pointwise [k0_pay1]

/-- A point adds the product of its block of rows. -/
theorem add_apply (acc : FVec Ideal S1024x1408 .f32) (x : FVec Ideal S2048x1024 .bf16) (y : FVec Ideal S2048x1408 .bf16) (j : S1024x1408.Idx) :
    k0_pay2 (F := Ideal) acc x y j = acc j + ∑ r : Fin 2048, x (ix2 r (j 0)) * y (ix2 r (j 1)) := by
  pointwise [k0_pay2]

/-- The reference sums over all rows. -/
theorem reference_apply (x : FVec Ideal S8192x1024 .bf16) (y : FVec Ideal S8192x5632 .bf16) (j : S1024x5632.Idx) :
    val_main_v3 (F := Ideal) x y j = ∑ r : Fin 8192, x (ix2 r (j 0)) * y (ix2 r (j 1)) := by
  pointwise [val_main_v3, val_main_v2, val_main_v1, val_main_v0]
  exact Finset.sum_congr rfl fun r _ => mul_comm _ _

variable (m : (ℓ : Loc nD τ sig) → Buf (Elt Ideal) ℓ)

/-- The block each window takes at a point. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The array after the run is the reference's gradient. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [add_apply, zero_apply]) (fun t h j => by rw [outsAt0_B m c t h]; frame_out; rw [add_apply])
    t ((flush0_2 t).mp hf) _, zero_add]
  refine Eq.trans ?_ (reference_apply _ _ _).symm
  refine Fin.sum_mul_add_congr fun s k hl => ?_
  blk_point [iblk, V, idx t, idx ⟨_, Pipeline.run_point_lt_of_flush t ((flush0_2 t).mp hf) s⟩]

end Cert.Kernel5Ideal.Final
end
-- ==== Proof.WeightFfnOut.lean ====
/- The gradient of the feed-forward output weights: the products of the blocks of rows, added up one after the other. -/
module
public import proofs.«01_k».proof.Proof.Gen.Kernel6Ideal.Value
public import proofs.«01_k».proof.Proof.Gen.Reference6Ideal.Read
public import Idealize.ShloMosaic.Lib.Pipeline.ValueKit
@[expose] public section
set_option maxRecDepth 16384
noncomputable section
open Idealize.ShloMosaic Idealize.ShloMosaic.TcCoe Idealize.SL.Sem

namespace Cert.Kernel6Ideal.Final
open Cert.Kernel6Ideal Cert.Kernel6Ideal.Gen
open Cert.Reference6Ideal.Read

/-- The first point of a run starts from zero. -/
theorem zero_apply (j) : k0_pay1 (F := Ideal) j = 0 := by pointwise [k0_pay1]

/-- A point adds the product of its block of rows. -/
theorem add_apply (acc : FVec Ideal S2816x512 .f32) (x : FVec Ideal S1024x2816 .bf16) (y : FVec Ideal S1024x512 .bf16) (j : S2816x512.Idx) :
    k0_pay2 (F := Ideal) acc x y j = acc j + ∑ r : Fin 1024, x (ix2 r (j 0)) * y (ix2 r (j 1)) := by
  pointwise [k0_pay2]

/-- The reference sums over all rows. -/
theorem reference_apply (x : FVec Ideal S8192x2816 .bf16) (y : FVec Ideal S8192x1024 .bf16) (j : S2816x1024.Idx) :
    val_main_v3 (F := Ideal) x y j = ∑ r : Fin 8192, x (ix2 r (j 0)) * y (ix2 r (j 1)) := by
  pointwise [val_main_v3, val_main_v2, val_main_v1, val_main_v0]
  exact Finset.sum_congr rfl fun r _ => mul_comm _ _

variable (m : (ℓ : Loc nD τ sig) → Buf (Elt Ideal) ℓ)

/-- The block each window takes at a point. -/
theorem idx : ∀ t : Fin cfg0.N, win0_0.index t = ![t.val % 8, 0] ∧ win0_1.index t = ![t.val % 8, t.val / 8] ∧ win0_2.index t = ![0, t.val / 8] :=
  (by decide +kernel : ∀ t : Fin grid0.N, _)

/-- The array after the run is the reference's gradient. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [outsAt0_A m c t h]; frame_out; rw [add_apply, zero_apply]) (fun t h j => by rw [outsAt0_B m c t h]; frame_out; rw [add_apply])
    t ((flush0_2 t).mp hf) _, zero_add]
  refine Eq.trans ?_ (reference_apply _ _ _).symm
  refine Fin.sum_mul_add_congr fun s k hl => ?_
  blk_point [iblk, V, idx t, idx ⟨_, Pipeline.run_point_lt_of_flush t ((flush0_2 t).mp hf) s⟩]

end Cert.Kernel6Ideal.Final
end
-- ==== Proof.ForwardIn.lean ====
/- The product of the normalised activations with the input projection, block of rows by block of rows. -/
module
public import proofs.«01_k».proof.Proof.Gen.Kernel7Ideal.Value
public import proofs.«01_k».proof.Proof.Gen.Reference7Ideal.Read
public import Idealize.ShloMosaic.Lib.Pipeline.ValueKit
@[expose] public section
set_option maxRecDepth 16384
noncomputable section
open Idealize.ShloMosaic Idealize.ShloMosaic.TcCoe Idealize.SL.Sem

namespace Cert.Kernel7Ideal.Final
open Cert.Kernel7Ideal Cert.Kernel7Ideal.Gen
open Cert.Reference7Ideal.Read

variable (m : (ℓ : Loc nD τ sig) → Buf (Elt Ideal) ℓ) (c : Dev nD)

/-- The block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- What a point stores is the reference's product at the rows of its block. -/
theorem point (t : Fin cfg0.N) (y) : k0_pay1 (iblk m c 0 t) (iblk m c 1 t) y
    = val_main_v3 (F := Ideal) (m ((c : Thread nD τ).loc main_arg0)) (m ((c : Thread nD τ).loc main_arg1)) (((cfg0.win 2).blk t).view.emb y) := by
  pointwise [k0_pay1, val_main_v3, val_main_v2, val_main_v1, val_main_v0]
  blk_point [iblk, V, idx t]

/-- The array after the run is the reference's product. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel7Ideal.Final
end
-- ==== Proof.ForwardFfn.lean ====
/- The product of the normalised activations with the feed-forward input weights, block of rows by block of rows. -/
module
public import proofs.«01_k».proof.Proof.Gen.Kernel8Ideal.Value
public import proofs.«01_k».proof.Proof.Gen.Reference8Ideal.Read
public import Idealize.ShloMosaic.Lib.Pipeline.ValueKit
@[expose] public section
set_option maxRecDepth 16384
noncomputable section
open Idealize.ShloMosaic Idealize.ShloMosaic.TcCoe Idealize.SL.Sem

namespace Cert.Kernel8Ideal.Final
open Cert.Kernel8Ideal Cert.Kernel8Ideal.Gen
open Cert.Reference8Ideal.Read

variable (m : (ℓ : Loc nD τ sig) → Buf (Elt Ideal) ℓ) (c : Dev nD)

/-- The block each window takes at a point. -/
theorem idx : ∀ t : Fin cfg0.N, win0_0.index t = ![t.val, 0] ∧ win0_1.index t = ![0, 0] ∧ win0_2.index t = ![t.val, 0] :=
  (by decide +kernel : ∀ t : Fin grid0.N, _)

/-- What a point stores is the reference's product at the rows of its block. -/
theorem point (t : Fin cfg0.N) (y) : k0_pay1 (iblk m c 0 t) (iblk m c 1 t) y
    = val_main_v3 (F := Ideal) (m ((c : Thread nD τ).loc main_arg0)) (m ((c : Thread nD τ).loc main_arg1)) (((cfg0.win 2).blk t).view.emb y) := by
  pointwise [k0_pay1, val_main_v3, val_main_v2, val_main_v1, val_main_v0]
  blk_point [iblk, V, idx t]

/-- The array after the run is the reference's product. -/
theorem final (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Kernel8Ideal.Final
end
-- ==== Proof.Ffn.lean ====
/- The gated block and its gradient, element by element, in the kernels' payloads and in the reference. -/
module
public import proofs.«01_k».proof.Pre_finite_ffn
public import proofs.«01_k».proof.Proof.Norm
public import proofs.«01_k».proof.Proof.Gen.Kernel9Ideal.Frame
public import proofs.«01_k».proof.Proof.Gen.Reference9Ideal.Read
public import Idealize.ShloMosaic.Lib.Pipeline.ValueKit
public import Idealize.ShloMosaic.Lib.ReduceAll
@[expose] public section
set_option maxRecDepth 16384
noncomputable section
open Idealize.ShloMosaic Idealize.ShloMosaic.TcCoe Idealize.SL.Sem

namespace Cert.Ffn
open Cert.Kernel9Ideal Cert.Kernel9Ideal.Gen
open Cert.Reference9Ideal.Read

/-- The sigmoid. -/
def sg (a : EReal) : EReal := Ideal.div 1 (1 + Ideal.exp (-a))
/-- The derivative of `a` times its sigmoid. -/
def dsilu (a : EReal) : EReal := sg a * (1 + a * (1 - sg a))

theorem sub_zero_left (a : EReal) : 0 - a = -a := by rw [sub_eq_add_neg, zero_add]

/-- The sigmoid of a real is a real. -/
theorem sg_real (a : ℝ) : ∃ s : ℝ, sg (a : EReal) = (s : EReal) := by
  have h : 1 + Ideal.exp (-(a : EReal)) = ((1 + Real.exp (-a) : ℝ) : EReal) := by
    rw [EReal.coe_add]
    rfl
  refine ⟨(1 + Real.exp (-a))⁻¹, ?_⟩
  unfold sg
  rw [h, Law.div_real _ (by positivity), one_mul]

/-- The derivative taken through the product, for reals. -/
theorem dsilu_eq {d u a : EReal} (hd : ∃ r : ℝ, d = (r : EReal)) (hu : ∃ r : ℝ, u = (r : EReal)) (ha : ∃ r : ℝ, a = (r : EReal)) :
    d * u * sg a + a * (d * u) * (sg a * (1 - sg a)) = d * u * dsilu a := by
  obtain ⟨d, rfl⟩ := hd
  obtain ⟨u, rfl⟩ := hu
  obtain ⟨a, rfl⟩ := ha
  obtain ⟨s, hs⟩ := sg_real a
  unfold dsilu
  rw [hs, ← EReal.coe_one]
  simp only [← EReal.coe_mul, ← EReal.coe_add, ← EReal.coe_sub]
  exact congrArg _ (by ring)

/-- The gate's half and the other half of a row of pre-activations. -/
abbrev gate (x : Fin 5632 → EReal) (k : Fin 2816) : EReal := x ⟨k.val, by omega⟩
abbrev up (x : Fin 5632 → EReal) (k : Fin 2816) : EReal := x ⟨2816 + k.val, by omega⟩
/-- A row's activations. -/
abbrev act (x : Fin 5632 → EReal) (k : Fin 2816) : EReal := gate x k * sg (gate x k) * up x k
/-- A row of the output projection. -/
abbrev out (x : Fin 5632 → EReal) (w : FVec Ideal S2816x1024 .bf16) (j : Fin 1024) : EReal := ∑ k, act x k * w (ix2 k j)
/-- A row times one over its root mean square and a scale. -/
abbrev norm (f : Fin 1024 → EReal) (g : FVec Ideal S1x1024 .f32) (j : Fin 1024) : EReal := f j * Norm.rs f * g (ix2 0 j)
/-- The gradient of the projection's row from the gradient of the block's output. -/
abbrev df (f d : Fin 1024 → EReal) (g : FVec Ideal S1x1024 .f32) (j : Fin 1024) : EReal := Norm.back f (fun i => d i * g (ix2 0 i)) j
/-- The gradient of a row's activations. -/
abbrev dact (f d : Fin 1024 → EReal) (g : FVec Ideal S1x1024 .f32) (w : FVec Ideal S2816x1024 .bf16) (k : Fin 2816) : EReal :=
  ∑ j, df f d g j * w (ix2 k j)

/-! The forward kernel's payloads. -/

section Forward
variable (v0 v2 : FVec Ideal S256x2816 .bf16) (w : FVec Ideal S2816x1024 .bf16) (x : FVec Ideal S256x1024 .f32) (g h : FVec Ideal S1x1024 .f32)
  (r : Fin 256) (l : Fin 1024)

/-- The projection of a row of the block, from the two halves of its pre-activations. -/
abbrev proj (j : Fin 1024) : EReal := ∑ k, v0 (ix2 r k) * sg (v0 (ix2 r k)) * v2 (ix2 r k) * w (ix2 k j)

/-- It is a row of the projection when the halves are those of a row of pre-activations. -/
theorem proj_eq (u : Fin 5632 → EReal) (h0 : ∀ k, v0 (ix2 r k) = gate u k) (h2 : ∀ k, v2 (ix2 r k) = up u k) : proj v0 v2 w r = out u w := by
  funext j
  simp only [proj, h0, h2]

theorem proj_apply : k0_pay2 (F := Ideal) v0 v2 w (ix2 r l) = proj v0 v2 w r l := by
  pointwise [k0_pay2]
  simp only [sub_zero_left]
  rfl

theorem sum_apply : k0_pay3 (F := Ideal) v0 v2 w x g (ix2 r l) = x (ix2 r l) + norm (proj v0 v2 w r) g l := by
  pointwise [k0_pay3, proj_apply]
  rfl

theorem next_apply (y : FVec Ideal S256x1024 .f32) : k0_pay1 (F := Ideal) y h (ix2 r l) = norm (fun j => y (ix2 r j)) h l := by
  pointwise [k0_pay1]
  rfl
end Forward

/-! The backward kernel's payloads. -/

section Backward
variable (f d : FVec Ideal S256x1024 .f32) (g : FVec Ideal S1x1024 .f32) (r : Fin 256)

theorem df_apply (l : Fin 1024) : k1_pay14 (F := Ideal) f g d (ix2 r l) = df (fun j => f (ix2 r j)) (fun j => d (ix2 r j)) g l := by
  pointwise [k1_pay14, k1_pay12, k1_pay11, k1_pay10]
  rfl

variable (e : FVec Ideal S256x1024 .bf16) (v0 v2 : FVec Ideal S256x2816 .bf16) (w : FVec Ideal S2816x1024 .bf16) (k : Fin 2816)

theorem act_apply : k1_pay6 (F := Ideal) v0 v2 (ix2 r k) = v0 (ix2 r k) * sg (v0 (ix2 r k)) * v2 (ix2 r k) := by
  pointwise [k1_pay6, k1_pay5, k1_pay4, k1_pay3, k1_pay2]
  simp only [sub_zero_left]
  rfl

theorem dgate_apply : k1_pay7 (F := Ideal) e w v0 v2 (ix2 r k) = (∑ j, e (ix2 r j) * w (ix2 k j)) * v2 (ix2 r k) * dsilu (v0 (ix2 r k)) := by
  pointwise [k1_pay7, k1_pay1, k1_pay3, k1_pay4, k1_pay2]
  simp only [sub_zero_left]
  rfl

theorem dup_apply : k1_pay8 (F := Ideal) e w v0 (ix2 r k) = (∑ j, e (ix2 r j) * w (ix2 k j)) * (v0 (ix2 r k) * sg (v0 (ix2 r k))) := by
  pointwise [k1_pay8, k1_pay5, k1_pay1, k1_pay3, k1_pay4, k1_pay2]
  simp only [sub_zero_left]
  rfl

/-- The gradient of the scale starts from zero. -/
theorem zero_apply (j) : k1_pay9 (F := Ideal) j = 0 := by pointwise [k1_pay9]

/-- A point adds the parts of its rows. -/
theorem add_apply (acc : FVec Ideal S1x1024 .f32) (j : S1x1024.Idx) : k1_pay13 (F := Ideal) f d acc j
    = acc j + ∑ r : Fin 256, d (ix2 r (j 1)) * (f (ix2 r (j 1)) * Norm.rs fun i => f (ix2 r i)) := by
  pointwise [k1_pay13, k1_pay12, k1_pay11, k1_pay10]
  rfl
end Backward

/-! The reference. -/

section Reference
variable (x : FVec Ideal S8192x1024 .f32) (gu : FVec Ideal S8192x5632 .bf16) (w : FVec Ideal S2816x1024 .bf16) (g h : FVec Ideal S1x1024 .f32)
  (d : FVec Ideal S8192x1024 .f32) (r : Fin 8192)

/-- A row of the pre-activations and of the gradient of the output. -/
abbrev gur (k : Fin 5632) : EReal := gu (ix2 r k)
abbrev dr (j : Fin 1024) : EReal := d (ix2 r j)

theorem reference_act (k : Fin 2816) : val_main_v64 (F := Ideal) gu (ix2 r k) = act (gur gu r) k := by
  pointwise [val_main_v64, val_main_v5, val_main_v4_0, val_main_v4_2, val_main_call0_v4, val_main_call0_cst_0, val_main_call0_v3, val_main_call0_v2,
    val_main_call0_cst, val_main_call0_v1, val_main_call0_v0, val_main_v3, val_main_v2, val_main_v0]
  rfl

theorem reference_out (l : Fin 1024) : val_main_v6 (F := Ideal) gu w (ix2 r l) = out (gur gu r) w l := by
  pointwise [val_main_v6, val_main_v5, val_main_v4_0, val_main_v4_2, val_main_call0_v4, val_main_call0_cst_0, val_main_call0_v3, val_main_call0_v2,
    val_main_call0_cst, val_main_call0_v1, val_main_call0_v0, val_main_v3, val_main_v2, val_main_v1, val_main_v0]
  rfl

theorem reference_sum (l : Fin 1024) : val_main_v41 (F := Ideal) x gu w g (ix2 r l) = x (ix2 r l) + norm (out (gur gu r) w) g l := by
  pointwise [val_main_v41, val_main_v21, val_main_v20, val_main_v19, val_main_v18, val_main_v14, val_main_v13, val_main_v12, val_main_v11, val_main_v10,
    val_main_v9, val_main_v8, val_main_v7, val_main_cst, val_main_cst_0, val_main_cst_1, reference_out]
  rfl

theorem reference_next (l : Fin 1024) : val_main_v54 (F := Ideal) x gu w g h (ix2 r l)
    = norm (fun j => val_main_v41 (F := Ideal) x gu w g (ix2 r j)) h l := by
  pointwise [val_main_v54, val_main_v53, val_main_v52, val_main_v51, val_main_v50, val_main_v49, val_main_v48, val_main_v47, val_main_v46, val_main_v45,
    val_main_v44, val_main_v43, val_main_v42, val_main_cst_7, val_main_cst_8, val_main_cst_9]
  rfl

/-- The gradient of the scale sums over all rows. -/
theorem reference_dg (j : S1x1024.Idx) : val_main_v24 (F := Ideal) gu w d j
    = ∑ r : Fin 8192, d (ix2 r (j 1)) * (out (gur gu r) w (j 1) * Norm.rs (out (gur gu r) w)) := by
  pointwise [val_main_v24, val_main_v23, val_main_v22, val_main_v19, val_main_v18, val_main_v14, val_main_v13, val_main_v12, val_main_v11, val_main_v10,
    val_main_v9, val_main_v8, val_main_v7, val_main_cst, val_main_cst_0, val_main_cst_1, val_main_cst_3, reference_out]
  exact Finset.sum_congr rfl fun r _ => mul_comm _ _

/-- The gradient of the projection's row, taken back through every operation. -/
theorem reference_back (l : Fin 1024) : val_main_v40 (F := Ideal) gu w g d (ix2 r l)
    = d (ix2 r l) * g (ix2 0 l) * Norm.rs (out (gur gu r) w) + out (gur gu r) w l * Norm.pull (out (gur gu r) w) (fun j => d (ix2 r j) * g (ix2 0 j))
      + Norm.pull (out (gur gu r) w) (fun j => d (ix2 r j) * g (ix2 0 j)) * out (gur gu r) w l := by
  pointwise [val_main_v40, val_main_v39, val_main_v38, val_main_v37, val_main_v36, val_main_v35, val_main_v34, val_main_v33, val_main_v32, val_main_v31,
    val_main_v30, val_main_v29, val_main_v28, val_main_v27, val_main_v26, val_main_v25, val_main_v17, val_main_v16, val_main_v15, val_main_v14, val_main_v13,
    val_main_v12, val_main_v11, val_main_v10, val_main_v9, val_main_v8, val_main_v7, val_main_cst, val_main_cst_0, val_main_cst_1, val_main_cst_2,
    val_main_cst_4, val_main_cst_5, val_main_cst_6, reference_out]
  simp only [Finset.univ_unique, Finset.sum_singleton]
  rfl

/-- The two halves of the gradient of the pre-activations, from the gradient of the projection's row. -/
theorem reference_halves (k : Fin 2816) :
    val_main_v62 (F := Ideal) gu w g d (ix2 r ⟨k.val, by omega⟩)
      = (∑ j, val_main_v40 (F := Ideal) gu w g d (ix2 r j) * w (ix2 k j)) * up (gur gu r) k * sg (gate (gur gu r) k)
        + gate (gur gu r) k * ((∑ j, val_main_v40 (F := Ideal) gu w g d (ix2 r j) * w (ix2 k j)) * up (gur gu r) k)
          * (sg (gate (gur gu r) k) * (1 - sg (gate (gur gu r) k))) ∧
    val_main_v62 (F := Ideal) gu w g d (ix2 r ⟨2816 + k.val, by omega⟩)
      = gate (gur gu r) k * sg (gate (gur gu r) k) * ∑ j, val_main_v40 (F := Ideal) gu w g d (ix2 r j) * w (ix2 k j) := by
  constructor
  · pointwise [val_main_v62, val_main_v61, val_main_v60, val_main_v59, val_main_cst_10, val_main_cst_11, val_main_v58, val_main_call1_v2, val_main_call1_v1,
      val_main_call1_v0, val_main_v57, val_main_v56, val_main_v55, val_main_v4_1, val_main_call0_v7, val_main_call0_v6, val_main_call0_cst_1, val_main_v4_0,
      val_main_v4_2, val_main_call0_v4, val_main_call0_cst_0, val_main_call0_v3, val_main_call0_v2, val_main_call0_cst, val_main_call0_v1,
      val_main_call0_v0, val_main_v3, val_main_v2, val_main_v1, val_main_v0]
    rw [dif_neg (fun h => h.1), zero_add]
    rfl
  · pointwise [val_main_v62, val_main_v61, val_main_v60, val_main_v59, val_main_cst_10, val_main_cst_11, val_main_v58, val_main_call1_v2, val_main_call1_v1,
      val_main_call1_v0, val_main_v57, val_main_v56, val_main_v55, val_main_v4_1, val_main_call0_v7, val_main_call0_v6, val_main_call0_cst_1, val_main_v4_0,
      val_main_v4_2, val_main_call0_v4, val_main_call0_cst_0, val_main_call0_v3, val_main_call0_v2, val_main_call0_cst, val_main_call0_v1,
      val_main_call0_v0, val_main_v3, val_main_v2, val_main_v1, val_main_v0]
    rfl

variable [Cert.Pre_finite_ffn.Facts]

/-- The precondition read: the four arrays hold real numbers. -/
theorem reals (hp : Cert.Pre_finite_ffn.fn (F := Ideal) x gu w g h d = fun _ => 1#1) :
    (∀ r k, ∃ a : ℝ, gu (ix2 r k) = (a : EReal)) ∧ (∀ k j, ∃ a : ℝ, w (ix2 k j) = (a : EReal)) ∧
    (∀ j, ∃ a : ℝ, g (ix2 0 j) = (a : EReal)) ∧ ∀ r j, ∃ a : ℝ, d (ix2 r j) = (a : EReal) := by
  have h3 := IntOp.andi_eq_one.1 (congrFun hp ix0)
  have h2 := IntOp.andi_eq_one.1 h3.1
  have h1 := IntOp.andi_eq_one.1 h2.1
  refine ⟨fun r k => Law.real_of_abs _ (Eq.trans ?_ (Host.reduce_andi_all _ _ _ _ _ h1.1 (ix2 r k))),
    fun r k => Law.real_of_abs _ (Eq.trans ?_ (Host.reduce_andi_all _ _ _ _ _ h1.2 (ix2 r k))),
    fun k => Law.real_of_abs _ (Eq.trans ?_ (Host.reduce_andi_all _ _ _ _ _ h2.2 (ix2 0 k))),
    fun r k => Law.real_of_abs _ (Eq.trans ?_ (Host.reduce_andi_all _ _ _ _ _ h3.2 (ix2 r k)))⟩ <;>
  · pointwise
    rfl

/-- Under the precondition a row of the projection is real. -/
theorem out_real (hp : Cert.Pre_finite_ffn.fn (F := Ideal) x gu w g h d = fun _ => 1#1) (j : Fin 1024) : ∃ a : ℝ, out (gur gu r) w j = (a : EReal) := by
  obtain ⟨hu, hw, -, -⟩ := reals x gu w g h d hp
  refine Law.sum_reals fun k => Law.mul_reals (Law.mul_reals (Law.mul_reals (hu r _) ?_) (hu r _)) (hw k j)
  obtain ⟨a, ha⟩ := hu r ⟨k.val, by omega⟩
  obtain ⟨s, hs⟩ := sg_real a
  exact ⟨s, by rw [← hs, ← ha]⟩

/-- Under the precondition the gradient of the projection is the short one, and real. -/
theorem reference_df (hp : Cert.Pre_finite_ffn.fn (F := Ideal) x gu w g h d = fun _ => 1#1) (l : Fin 1024) :
    val_main_v40 (F := Ideal) gu w g d (ix2 r l) = df (out (gur gu r) w) (dr d r) g l ∧ ∃ a : ℝ, df (out (gur gu r) w) (dr d r) g l = (a : EReal) := by
  obtain ⟨-, -, hg, hd⟩ := reals x gu w g h d hp
  rw [reference_back]
  exact ⟨Eq.trans (add_assoc _ _ _) (Norm.back_eq (out (gur gu r) w) (fun j => d (ix2 r j) * g (ix2 0 j)) l), Norm.back_real (out (gur gu r) w) (fun j => d (ix2 r j) * g (ix2 0 j)) (out_real x gu w g h d r hp)
    (fun j => Law.mul_reals (hd r j) (hg j)) l⟩

/-- Under the precondition the gate's half of the gradient of the pre-activations. -/
theorem reference_gate (hp : Cert.Pre_finite_ffn.fn (F := Ideal) x gu w g h d = fun _ => 1#1) (k : Fin 2816) :
    val_main_v62 (F := Ideal) gu w g d (ix2 r ⟨k.val, by omega⟩)
      = dact (out (gur gu r) w) (dr d r) g w k * up (gur gu r) k * dsilu (gate (gur gu r) k) := by
  obtain ⟨hu, hw, -, -⟩ := reals x gu w g h d hp
  rw [(reference_halves gu w g d r k).1]
  simp only [fun l => (reference_df x gu w g h d r hp l).1]
  exact dsilu_eq (Law.sum_reals fun j => Law.mul_reals (reference_df x gu w g h d r hp j).2 (hw k j)) (hu r _) (hu r _)

/-- Under the precondition the other half of it. -/
theorem reference_up (hp : Cert.Pre_finite_ffn.fn (F := Ideal) x gu w g h d = fun _ => 1#1) (k : Fin 2816) :
    val_main_v62 (F := Ideal) gu w g d (ix2 r ⟨2816 + k.val, by omega⟩)
      = dact (out (gur gu r) w) (dr d r) g w k * (gate (gur gu r) k * sg (gate (gur gu r) k)) := by
  rw [(reference_halves gu w g d r k).2, mul_comm]
  simp only [fun l => (reference_df x gu w g h d r hp l).1]

end Reference
end Cert.Ffn
end
-- ==== Proof.FfnRun.lean ====
/- What the forward and backward passes of the gated block leave in every array, as the two regions' contents. -/
module
public import proofs.«01_k».proof.Proof.Gen.Kernel9Ideal.Frame
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

namespace Cert.Kernel9Ideal.Final
open Cert.Kernel9Ideal Cert.Kernel9Ideal.Gen

variable {F : FTy → Type} [FloatOps F] (m : (ℓ : Loc nD τ sig) → Buf (Elt F) ℓ) (ρ : Dev nD → PrngReg)

set_option backward.isDefEq.respectTransparency.types false in
/-- Every run ends with each array at the contents after the second region. -/
theorem contents : θ_run defs (onTc (τ := τ) (main (F := F))) ⟨m, fun _ => 0, ρ⟩ (fun r =>
    ∀ (c : Dev nD), ∀ b ∈ Pipeline.ucRefs τ sig, r.2.mem (((c : Thread nD τ)).1, b) = W2 m ρ c b) := by
  refine Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := initOf (Pipeline.cells cfgs cellOf_inj) (Pipeline.launchToks cfgs cellOf_inj))
    (hu₀ := ?_) (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩) (hinit := Pipeline.initEach L lv fun c => ?_)
    (QY := fun c s => ∀ b ∈ Pipeline.ucRefs τ sig, s.mem (((c : Thread nD τ)).1, b) = W2 m ρ c b) (hfin := fun c s' => ?_)
    (hQ := fun s h _ => h)
  · iintro Hu
    imodintro
    isplitl [Hu]
    · iapply (show (ownU (initOf (Pipeline.cells cfgs cellOf_inj) (Pipeline.launchToks cfgs cellOf_inj)) : sProp (MT nD τ sig Unit (Elt F) ℕ (UR sig nD τ) ℕ))
        ⊢ BI.own (emb₁ (initOf (Pipeline.cells cfgs cellOf_inj) (Pipeline.launchToks cfgs cellOf_inj))) from .rfl)
      iexact Hu
    · iapply (show (BI.emp : sProp (MT nD τ sig Unit (Elt F) ℕ (UR sig nD τ) ℕ)) ⊢ bigSep Finset.univ (fun _ : Dev nD => BI.emp) from by
        rw [BI.bigSep_emp_const])
      iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]
    · iexact Hh
    isplitl [Hp]
    · iexists _
      iexact Hp
    iexists ∅
    iexact HO
  · iintro ⟨⟨Hh, -⟩, HSI⟩
    unfold StableHlo.held
    imodintro
    iapply (pointsTo_read_all (Pipeline.ucRefs τ sig) (fun b => (((c : Thread nD τ)).1, b)) (W2 m ρ c) s')
    isplitl [Hh] <;> iassumption

end Cert.Kernel9Ideal.Final
end
-- ==== Proof.FfnOut.lean ====
/- The second half of the feed-forward part and its gradient: the two kernels leave what the reference computes. -/
module
public import proofs.«01_k».proof.Defs
public import proofs.«01_k».proof.Proof.Ffn
public import proofs.«01_k».proof.Proof.FfnRun
@[expose] public section
set_option maxRecDepth 16384
noncomputable section
open Idealize.ShloMosaic Idealize.ShloMosaic.TcCoe Idealize.SL.Sem

namespace Cert.Kernel9Ideal.Final
open Cert.Kernel9Ideal Cert.Kernel9Ideal.Gen
open Cert.Reference9Ideal.Read

/-- The block each window of the forward kernel takes at a point. -/
theorem idx0 : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- The block each window of the backward kernel takes at a point. -/
theorem idx1 : ∀ t : Fin cfg1.N, win1_0.index t = ![t.val, 0] ∧ win1_1.index t = ![t.val, 0] ∧ win1_2.index t = ![t.val, 0] ∧ win1_3.index t = ![0, 0]
    ∧ win1_4.index t = ![0, 0] ∧ win1_5.index t = ![t.val, 0] ∧ win1_6.index t = ![t.val, 0] ∧ win1_7.index t = ![t.val, 0] ∧ win1_8.index t = ![0, 0] :=
  (by decide +kernel : ∀ t : Fin grid1.N, _)

variable (V : (c : Dev nD) → (b : Ref sig .tc) → Buf (Elt Ideal) ((c : Thread nD τ).loc b)) (c : Dev nD)

/-- The argument arrays and the projection as a region finds them. -/
abbrev a0 : FVec Ideal S8192x1024 .f32 := V c main_arg0
abbrev a1 : FVec Ideal S8192x5632 .bf16 := V c main_arg1
abbrev a2 : FVec Ideal S2816x1024 .bf16 := V c main_arg2
abbrev a3 : FVec Ideal S1x1024 .f32 := V c main_arg3
abbrev a4 : FVec Ideal S1x1024 .f32 := V c main_arg4
abbrev a5 : FVec Ideal S8192x1024 .f32 := V c main_arg5
abbrev fa : FVec Ideal S8192x1024 .f32 := V c main_v0_1

/-- A row of a point's block among all rows. -/
abbrev row (t : Fin 32) (r : Fin 256) : Fin 8192 := ⟨t.val * 256 + r.val, by omega⟩

theorem weights0 (t : Fin cfg0.N) : iblk0 V c 2 t = a2 V c := by
  funext j
  blk_ext [iblk0, idx0 t]
theorem scale0 (t : Fin cfg0.N) : iblk0 V c 3 t = a3 V c := by
  funext j
  blk_ext [iblk0, idx0 t]
theorem next0 (t : Fin cfg0.N) : iblk0 V c 4 t = a4 V c := by
  funext j
  blk_ext [iblk0, idx0 t]
theorem pre0 (t : Fin 32) (r : Fin 256) (k : Fin 5632) : iblk0 V c 1 t (ix2 r k) = a1 V c (ix2 (row t r) k) := by
  blk_point [iblk0, idx0 t]
theorem place0 (t : Fin 32) (r : Fin 256) (l : Fin 1024) : (win0_5.blk t).view.emb (ix2 r l) = ix2 (row t r) l
    ∧ (win0_6.blk t).view.emb (ix2 r l) = ix2 (row t r) l ∧ (win0_7.blk t).view.emb (ix2 r l) = ix2 (row t r) l := by
  refine ⟨?_, ?_, ?_⟩ <;> blk_ext [idx0 t]

theorem rows0 (t : Fin 32) (r : Fin 256) (j : Fin 1024) : iblk0 V c 0 t (ix2 r j) = a0 V c (ix2 (row t r) j) := by
  blk_point [iblk0, idx0 t]

/-- The projection. -/
theorem final6 : (dat0 V c).arrAt 6 cfg0.N = val_main_v6 (F := Ideal) (a1 V c) (a2 V c) := by
  refine (dat0 V c).arrAt_eq_of_covers 6 _ (by decide +kernel) fun t hf y => ?_
  blk_simp
  rw [after0_6]
  frame_out
  idx_vars y
  rw [(place0 t _ _).2.1, Ffn.reference_out, Ffn.proj_apply, weights0,
    Ffn.proj_eq _ _ _ _ (Ffn.gur (a1 V c) (row t y0)) (fun k => by pointwise [pre0 V c t]) (fun k => by pointwise [pre0 V c t])]

/-- The block's output added to its input. -/
theorem final5 : (dat0 V c).arrAt 5 cfg0.N = val_main_v41 (F := Ideal) (a0 V c) (a1 V c) (a2 V c) (a3 V c) := by
  refine (dat0 V c).arrAt_eq_of_covers 5 _ (by decide +kernel) fun t hf y => ?_
  blk_simp
  rw [after0_5]
  frame_out
  idx_vars y
  rw [(place0 t _ _).1, Ffn.reference_sum, Ffn.sum_apply, weights0, scale0, rows0 V c t,
    Ffn.proj_eq _ _ _ _ (Ffn.gur (a1 V c) (row t y0)) (fun k => by pointwise [pre0 V c t]) (fun k => by pointwise [pre0 V c t])]

/-- The next block's input. -/
theorem final7 : (dat0 V c).arrAt 7 cfg0.N = val_main_v54 (F := Ideal) (a0 V c) (a1 V c) (a2 V c) (a3 V c) (a4 V c) := by
  refine (dat0 V c).arrAt_eq_of_covers 7 _ (by decide +kernel) fun t hf y => ?_
  blk_simp
  rw [after0_7]
  frame_out
  idx_vars y
  rw [(place0 t _ _).2.2, Ffn.reference_next, Ffn.next_apply, next0]
  simp only [Ffn.reference_sum, Ffn.sum_apply, weights0, scale0, rows0 V c t]
  rw [Ffn.proj_eq _ _ _ _ (Ffn.gur (a1 V c) (row t y0)) (fun k => by pointwise [pre0 V c t]) (fun k => by pointwise [pre0 V c t])]

/-! The backward kernel, where it finds the projection. -/

theorem weights1 (t : Fin cfg1.N) : iblk1 V c 3 t = a2 V c := by
  funext j
  blk_ext [iblk1, idx1 t]
theorem scale1 (t : Fin cfg1.N) : iblk1 V c 4 t = a3 V c := by
  funext j
  blk_ext [iblk1, idx1 t]
theorem pre1 (t : Fin 32) (r : Fin 256) (k : Fin 5632) : iblk1 V c 2 t (ix2 r k) = a1 V c (ix2 (row t r) k) := by
  blk_point [iblk1, idx1 t]
theorem ct1 (t : Fin 32) (r : Fin 256) (j : Fin 1024) : iblk1 V c 0 t (ix2 r j) = a5 V c (ix2 (row t r) j) := by
  blk_point [iblk1, idx1 t]
theorem proj1 (h : fa V c = val_main_v6 (F := Ideal) (a1 V c) (a2 V c)) (t : Fin 32) (r : Fin 256) (j : Fin 1024) :
    iblk1 V c 1 t (ix2 r j) = Ffn.out (Ffn.gur (a1 V c) (row t r)) (a2 V c) j := by
  rw [← Ffn.reference_out, ← h]
  blk_point [iblk1, idx1 t]
theorem place1 (t : Fin 32) (r : Fin 256) (l : Fin 1024) (k : Fin 2816) (q : Fin 5632) : (win1_5.blk t).view.emb (ix2 r q) = ix2 (row t r) q
    ∧ (win1_6.blk t).view.emb (ix2 r l) = ix2 (row t r) l ∧ (win1_7.blk t).view.emb (ix2 r k) = ix2 (row t r) k := by
  refine ⟨?_, ?_, ?_⟩ <;> blk_ext [idx1 t]

variable [Cert.Pre_finite_ffn.Facts]
variable (hp : Cert.Pre_finite_ffn.fn (F := Ideal) (a0 V c) (a1 V c) (a2 V c) (a3 V c) (a4 V c) (a5 V c) = fun _ => 1#1)
  (h : fa V c = val_main_v6 (F := Ideal) (a1 V c) (a2 V c))

/-- The activations. -/
theorem final17 : (dat1 V c).arrAt 7 cfg1.N = val_main_v64 (F := Ideal) (a1 V c) := by
  refine (dat1 V c).arrAt_eq_of_covers 7 _ (by decide +kernel) fun t hf y => ?_
  blk_simp
  rw [after1_7]
  idx_vars y
  rw [(place1 t y0 0 y1 0).2.2, Ffn.reference_act]
  by_cases hc : t.val % 32 = 0
  · rw [outsAt1_A V c t hc]
    frame_out
    rw [Ffn.act_apply]
    pointwise [pre1 V c t]
  · rw [outsAt1_B V c t hc]
    frame_out
    rw [Ffn.act_apply]
    pointwise [pre1 V c t]

include hp h in
/-- The gradient of the projection. -/
theorem final16 : (dat1 V c).arrAt 6 cfg1.N = val_main_v63 (F := Ideal) (a1 V c) (a2 V c) (a3 V c) (a5 V c) := by
  refine (dat1 V c).arrAt_eq_of_covers 6 _ (by decide +kernel) fun t hf y => ?_
  blk_simp
  rw [after1_6]
  idx_vars y
  rw [(place1 t y0 y1 0 0).2.1, show val_main_v63 (F := Ideal) (a1 V c) (a2 V c) (a3 V c) (a5 V c) = val_main_v40 (F := Ideal) (a1 V c) (a2 V c) (a3 V c) (a5 V c)
    from rfl, (Ffn.reference_df _ _ _ _ _ _ _ hp _).1]
  by_cases hc : t.val % 32 = 0
  · rw [outsAt1_A V c t hc]
    frame_out
    rw [Ffn.df_apply]
    simp only [proj1 V c h t, ct1 V c t, scale1]
  · rw [outsAt1_B V c t hc]
    frame_out
    rw [Ffn.df_apply]
    simp only [proj1 V c h t, ct1 V c t, scale1]

include hp h in
/-- What a point stores in the second half of the gradient of the pre-activations, from the gate's half of its rows. -/
theorem up_point (t : Fin 32) (v0 : FVec Ideal S256x2816 .bf16) (h0 : ∀ r k, v0 (ix2 r k) = a1 V c (ix2 (row t r) ⟨k.val, by omega⟩)) (r : Fin 256)
    (k : Fin 2816) : k1_pay8 (F := Ideal) (k1_pay14 (iblk1 V c 1 t) (iblk1 V c 4 t) (iblk1 V c 0 t)) (iblk1 V c 3 t) v0 (ix2 r k)
      = val_main_v62 (F := Ideal) (a1 V c) (a2 V c) (a3 V c) (a5 V c) (ix2 (row t r) ⟨2816 + k.val, by omega⟩) := by
  rw [Ffn.reference_up _ _ _ _ _ _ _ hp, Ffn.dup_apply]
  simp only [Ffn.df_apply, proj1 V c h t, ct1 V c t, h0]
  rw [scale1 V c t, weights1 V c t]

include hp h in
/-- What a point stores in the gate's half, from both halves of its rows. -/
theorem gate_point (t : Fin 32) (v0 v2 : FVec Ideal S256x2816 .bf16) (h0 : ∀ r k, v0 (ix2 r k) = a1 V c (ix2 (row t r) ⟨k.val, by omega⟩))
    (h2 : ∀ r k, v2 (ix2 r k) = a1 V c (ix2 (row t r) ⟨2816 + k.val, by omega⟩)) (r : Fin 256)
    (k : Fin 2816) : k1_pay7 (F := Ideal) (k1_pay14 (iblk1 V c 1 t) (iblk1 V c 4 t) (iblk1 V c 0 t)) (iblk1 V c 3 t) v0 v2 (ix2 r k)
      = val_main_v62 (F := Ideal) (a1 V c) (a2 V c) (a3 V c) (a5 V c) (ix2 (row t r) ⟨k.val, by omega⟩) := by
  rw [Ffn.reference_gate _ _ _ _ _ _ _ hp, Ffn.dgate_apply]
  simp only [Ffn.df_apply, proj1 V c h t, ct1 V c t, h0, h2]
  rw [scale1 V c t, weights1 V c t]

include hp h in
/-- The gradient of the pre-activations. -/
theorem final15 : (dat1 V c).arrAt 5 cfg1.N = val_main_v62 (F := Ideal) (a1 V c) (a2 V c) (a3 V c) (a5 V c) := by
  refine (dat1 V c).arrAt_eq_of_covers 5 _ (by decide +kernel) fun t hf y => ?_
  blk_simp
  rw [after1_5]
  idx_vars y
  rw [(place1 t y0 0 0 y1).1]
  by_cases hc : t.val % 32 = 0
  on_goal 1 => rw [outsAt1_A V c t hc]
  on_goal 2 => rw [outsAt1_B V c t hc]
  all_goals
    frame_out
    canon_tiles x e
    · idx_vars x
      obtain rfl : y0 = x0 := Fin.ext e0
      rw [show y1 = ⟨2816 + x1.val, by omega⟩ from Fin.ext e1]
      exact up_point V c hp h t _ (fun r k => by pointwise [pre1 V c t]) y0 x1
    · idx_vars x
      obtain rfl : y0 = x0 := Fin.ext e0
      rw [show y1 = ⟨x1.val, by omega⟩ from Fin.ext e1]
      exact gate_point V c hp h t _ _ (fun r k => by pointwise [pre1 V c t]) (fun r k => by pointwise [pre1 V c t]) y0 x1

/-- The last point. -/
abbrev last1 : Fin cfg1.N := ⟨31, by rw [show cfg1.N = 32 from N_1]; decide⟩

include h in
/-- The gradient of the scale. -/
theorem final18 : (dat1 V c).arrAt 8 cfg1.N = val_main_v24 (F := Ideal) (a1 V c) (a2 V c) (a5 V c) := by
  refine (dat1 V c).arrAt_eq_of_after_last 8 last1 (by decide +kernel) _ fun j => ?_
  blk_simp
  rw [after1_8, Pipeline.eq_sum_fin_of_reset_step_apply_last (fun n h => (outsAt1 V c n h).2.2.2) 32 (fun _ => (0 : EReal)) _
    (fun t h j => by rw [outsAt1_A V c t h]; frame_out; rw [Ffn.add_apply, Ffn.zero_apply])
    (fun t h j => by rw [outsAt1_B V c t h]; frame_out; rw [Ffn.add_apply]) (le_of_eq N_1) last1 rfl j, zero_add]
  refine Eq.trans ?_ (Ffn.reference_dg _ _ _ _).symm
  refine Fin.sum_mul_add_congr (n := 256) fun s k hl => ?_
  simp only [proj1 V c h s]
  exact congrArg₂ (· * ·) (ct1 V c s k (j 1)) (congrArg (· * _) (proj1 V c h s k (j 1)))

section Run
variable (m : (ℓ : Loc nD τ sig) → Buf (Elt Ideal) ℓ) (ρ : Dev nD → PrngReg)

/-- The second region finds the arguments as they were given. -/
theorem args1 (c : Dev nD) : a0 (V1 m ρ) c = a0 (V0 m ρ) c ∧ a1 (V1 m ρ) c = a1 (V0 m ρ) c ∧ a2 (V1 m ρ) c = a2 (V0 m ρ) c ∧ a3 (V1 m ρ) c = a3 (V0 m ρ) c
    ∧ a4 (V1 m ρ) c = a4 (V0 m ρ) c ∧ a5 (V1 m ρ) c = a5 (V0 m ρ) c :=
  ⟨W1_args m ρ c main_arg0 (by decide), W1_args m ρ c main_arg1 (by decide), W1_args m ρ c main_arg2 (by decide), W1_args m ρ c main_arg3 (by decide),
    W1_args m ρ c main_arg4 (by decide), W1_args m ρ c main_arg5 (by decide)⟩

/-- It finds the projection that the first region left. -/
theorem fa1 (c : Dev nD) : fa (V1 m ρ) c = val_main_v6 (F := Ideal) (a1 (V1 m ρ) c) (a2 (V1 m ρ) c) := by
  rw [(args1 m ρ c).2.1, (args1 m ρ c).2.2.1]
  exact (W1_arr m ρ c 6).trans (final6 (V0 m ρ) c)

/-- Every run of the two kernels ends with the reference's values in their results and with the arguments as given. -/
theorem run [hPre_finite_ffn : Cert.Pre_finite_ffn.Facts] (hpre : Cert.Pre_Kernel9Ideal_finite_ffn m) : θ_run defs (onTc (τ := τ) (main (F := Ideal))) ⟨m, fun _ => 0, ρ⟩ (fun r => ∀ c : Dev nD,
        r.2.mem ((c : Thread nD τ).loc main_v0_0) = val_main_v41 (F := Ideal) (m ((c : Thread nD τ).loc main_arg0)) (m ((c : Thread nD τ).loc main_arg1)) (m ((c : Thread nD τ).loc main_arg2)) (m ((c : Thread nD τ).loc main_arg3))
        ∧ r.2.mem ((c : Thread nD τ).loc main_v0_2) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        ∧ r.2.mem ((c : Thread nD τ).loc main_v1_0) = val_main_v62 (F := Ideal) (m ((c : Thread nD τ).loc main_arg1)) (m ((c : Thread nD τ).loc main_arg2)) (m ((c : Thread nD τ).loc main_arg3)) (m ((c : Thread nD τ).loc main_arg5))
        ∧ r.2.mem ((c : Thread nD τ).loc main_v1_1) = val_main_v63 (F := Ideal) (m ((c : Thread nD τ).loc main_arg1)) (m ((c : Thread nD τ).loc main_arg2)) (m ((c : Thread nD τ).loc main_arg3)) (m ((c : Thread nD τ).loc main_arg5))
        ∧ r.2.mem ((c : Thread nD τ).loc main_v1_2) = val_main_v64 (F := Ideal) (m ((c : Thread nD τ).loc main_arg1))
        ∧ r.2.mem ((c : Thread nD τ).loc main_v1_3) = val_main_v24 (F := Ideal) (m ((c : Thread nD τ).loc main_arg1)) (m ((c : Thread nD τ).loc main_arg2)) (m ((c : Thread nD τ).loc main_arg5))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)) := by
  refine (θ_run defs _ _).mono (fun r hr c => ?_) (contents m ρ)
  obtain ⟨e0, e1, e2, e3, e4, e5⟩ := args1 m ρ c
  have hf := fa1 m ρ c
  have hp : Pre_finite_ffn.fn (F := Ideal) (a0 (V1 m ρ) c) (a1 (V1 m ρ) c) (a2 (V1 m ρ) c) (a3 (V1 m ρ) c) (a4 (V1 m ρ) c) (a5 (V1 m ρ) c) = fun _ => 1#1 := by
    rw [e0, e1, e2, e3, e4, e5]; exact hpre c
  have h15 := final15 (V1 m ρ) c hp hf
  have h16 := final16 (V1 m ρ) c hp hf
  have h17 := final17 (V1 m ρ) c
  have h18 := final18 (V1 m ρ) c hf
  rw [e1, e2, e3, e5] at h15 h16
  rw [e1] at h17
  rw [e1, e2, e5] at h18
  refine ⟨?_, ?_, ?_, ?_, ?_, ?_, (hr c _ (mem_uc main_arg0 (by decide))).trans (W2_main_arg0 m ρ c), (hr c _ (mem_uc main_arg1 (by decide))).trans (W2_main_arg1 m ρ c),
    (hr c _ (mem_uc main_arg2 (by decide))).trans (W2_main_arg2 m ρ c), (hr c _ (mem_uc main_arg3 (by decide))).trans (W2_main_arg3 m ρ c),
    (hr c _ (mem_uc main_arg4 (by decide))).trans (W2_main_arg4 m ρ c), (hr c _ (mem_uc main_arg5 (by decide))).trans (W2_main_arg5 m ρ c)⟩
  · exact (hr c _ (mem_uc main_v0_0 (by decide))).trans ((W2_of m ρ c main_v0_0 (by decide)).trans ((W1_arr m ρ c 5).trans (final5 (V0 m ρ) c)))
  · exact (hr c _ (mem_uc main_v0_2 (by decide))).trans ((W2_of m ρ c main_v0_2 (by decide)).trans ((W1_arr m ρ c 7).trans (final7 (V0 m ρ) c)))
  · exact (hr c _ (mem_uc main_v1_0 (by decide))).trans ((W2_arr m ρ c 5).trans h15)
  · exact (hr c _ (mem_uc main_v1_1 (by decide))).trans ((W2_arr m ρ c 6).trans h16)
  · exact (hr c _ (mem_uc main_v1_2 (by decide))).trans ((W2_arr m ρ c 7).trans h17)
  · exact (hr c _ (mem_uc main_v1_3 (by decide))).trans ((W2_arr m ρ c 8).trans h18)
end Run

end Cert.Kernel9Ideal.Final
end
-- ==== Proof.Merge.lean ====
/- The merge of three branches by their gates, row by row. -/
module
public import proofs.«01_k».proof.Proof.Norm
public import proofs.«01_k».proof.Proof.Ffn
@[expose] public section
set_option maxRecDepth 16384
noncomputable section
open Idealize.ShloMosaic

namespace Cert.Merge

/-- A row times a weight matrix. -/
abbrev prod {n p : ℕ} (x : Fin n → EReal) (w : FVec Ideal ⟨2, ![n, p]⟩ .bf16) (j : Fin p) : EReal := ∑ k, x k * w (ix2 k j)
/-- A row times the transpose of a weight matrix. -/
abbrev prodT {n p : ℕ} (x : Fin p → EReal) (w : FVec Ideal ⟨2, ![n, p]⟩ .bf16) (k : Fin n) : EReal := ∑ j, x j * w (ix2 k j)
/-- A column of the gates, one for each branch. -/
abbrev col (q : Fin 3) (j : Fin 1024) : Fin 3072 := ⟨q.val * 1024 + j.val, by omega⟩
/-- A row's gate of a branch. -/
abbrev gate (z b : Fin 3072 → EReal) (q : Fin 3) (j : Fin 1024) : EReal := Ffn.sg (z (col q j) + b (col q j))

/-- A row of each branch's output, and of the gates before their sigmoid. -/
structure Row where
  ca : Fin 512 → EReal
  oa : Fin 256 → EReal
  om : Fin 512 → EReal
  z : Fin 3072 → EReal

/-- The weights: each branch's output projection, the projection of the merged row, the bias of the gates. -/
structure Weights where
  ca : FVec Ideal ⟨2, ![512, 1024]⟩ .bf16
  oa : FVec Ideal ⟨2, ![256, 1024]⟩ .bf16
  om : FVec Ideal ⟨2, ![512, 1024]⟩ .bf16
  out : FVec Ideal ⟨2, ![1024, 1024]⟩ .bf16
  b : FVec Ideal ⟨2, ![1, 3072]⟩ .f32

/-- A row's gate with the weights' bias. -/
abbrev Row.gate (R : Row) (W : Weights) (q : Fin 3) (j : Fin 1024) : EReal := Merge.gate R.z (fun k => W.b (ix2 0 k)) q j
/-- The merged row. -/
def Row.mix (R : Row) (W : Weights) (j : Fin 1024) : EReal :=
  R.gate W 0 j * prod R.ca W.ca j + R.gate W 1 j * prod R.oa W.oa j + R.gate W 2 j * prod R.om W.om j
/-- Its projection. -/
def Row.out (R : Row) (W : Weights) (j : Fin 1024) : EReal := prod (R.mix W) W.out j

/-- A branch's product with its weights. -/
def Row.y (R : Row) (W : Weights) : Fin 3 → Fin 1024 → EReal
  | 0 => prod R.ca W.ca
  | 1 => prod R.oa W.oa
  | 2 => prod R.om W.om

/-- What the gradient takes of a row besides: its projection and its merged row as saved, and the gradient of the normed projection. -/
structure Grad extends Row where
  t : Fin 1024 → EReal
  mg : Fin 1024 → EReal
  dx : Fin 1024 → EReal

/-- The gradient of the projection, through the norm with scale `g`. -/
def Grad.dt (G : Grad) (g : FVec Ideal ⟨2, ![1, 1024]⟩ .f32) (j : Fin 1024) : EReal := Norm.back G.t (fun k => G.dx k * g (ix2 0 k)) j
/-- The gradient of the merged row. -/
def Grad.dm (G : Grad) (W : Weights) (g : FVec Ideal ⟨2, ![1, 1024]⟩ .f32) : Fin 1024 → EReal := prodT (G.dt g) W.out
/-- The gradient of a branch's product. -/
def Grad.dy (G : Grad) (W : Weights) (g : FVec Ideal ⟨2, ![1, 1024]⟩ .f32) (q : Fin 3) (j : Fin 1024) : EReal := G.dm W g j * G.toRow.gate W q j
/-- The gradient of a branch's gate before its sigmoid. -/
def Grad.dz (G : Grad) (W : Weights) (g : FVec Ideal ⟨2, ![1, 1024]⟩ .f32) (q : Fin 3) (j : Fin 1024) : EReal :=
  G.dm W g j * G.toRow.y W q j * (G.toRow.gate W q j * (1 - G.toRow.gate W q j))

end Cert.Merge
end
-- ==== Proof.MergeFwd.lean ====
/- The merge of the three branches, its projection, norm and residual sum: the kernel leaves what the reference computes. -/
module
public import proofs.«01_k».proof.Proof.Merge
public import proofs.«01_k».proof.Proof.Gen.Kernel11Ideal.Value
public import proofs.«01_k».proof.Proof.Gen.Reference11Ideal.Read
public import Idealize.ShloMosaic.Lib.Pipeline.ValueKit
@[expose] public section
set_option maxRecDepth 16384
noncomputable section
open Idealize.ShloMosaic Idealize.ShloMosaic.TcCoe Idealize.SL.Sem

namespace Cert.Kernel11Ideal.Final
open Cert.Kernel11Ideal Cert.Kernel11Ideal.Gen
open Cert.Reference11Ideal.Read
open Cert.Merge (Row Weights)

section Block
variable (ca : FVec Ideal S512x512 .bf16) (oa : FVec Ideal S512x256 .bf16) (om : FVec Ideal S512x512 .bf16) (z0 z1 z2 : FVec Ideal S512x1024 .bf16)
  (b0 b1 b2 : FVec Ideal S1x1024 .f32) (W : Weights) (x : FVec Ideal S512x1024 .f32) (g h : FVec Ideal S1x1024 .f32) (r : Fin 512)

/-- A block's merged rows, from its three column blocks of the gates and of their bias. -/
abbrev mixed : FVec Ideal S512x1024 .bf16 :=
  k0_pay8 (k0_pay3 ca W.ca) (k0_pay4 oa W.oa) (k0_pay5 om W.om) (k0_pay6 z0 b0) (k0_pay7 z1 b1) z2 b2
/-- Their projection. -/
abbrev proj : FVec Ideal S512x1024 .f32 :=
  k0_pay9 (k0_pay3 ca W.ca) (k0_pay4 oa W.oa) (k0_pay5 om W.om) (k0_pay6 z0 b0) (k0_pay7 z1 b1) z2 b2 W.out
/-- The sum of the input and of the normed projection. -/
abbrev sum : FVec Ideal S512x1024 .f32 :=
  k0_pay1 x g (k0_pay10 (k0_pay3 ca W.ca) (k0_pay4 oa W.oa) (k0_pay5 om W.om) (k0_pay6 z0 b0) (k0_pay7 z1 b1) z2 b2 W.out)
/-- Its norm. -/
abbrev next : FVec Ideal S512x1024 .bf16 :=
  k0_pay2 x g (k0_pay10 (k0_pay3 ca W.ca) (k0_pay4 oa W.oa) (k0_pay5 om W.om) (k0_pay6 z0 b0) (k0_pay7 z1 b1) z2 b2 W.out) h

variable (R : Row) (hca : ∀ k, ca (ix2 r k) = R.ca k) (hoa : ∀ k, oa (ix2 r k) = R.oa k) (hom : ∀ k, om (ix2 r k) = R.om k)
  (hz0 : ∀ k, z0 (ix2 r k) = R.z (Merge.col 0 k)) (hz1 : ∀ k, z1 (ix2 r k) = R.z (Merge.col 1 k)) (hz2 : ∀ k, z2 (ix2 r k) = R.z (Merge.col 2 k))
  (hb0 : ∀ k, b0 (ix2 0 k) = W.b (ix2 0 (Merge.col 0 k))) (hb1 : ∀ k, b1 (ix2 0 k) = W.b (ix2 0 (Merge.col 1 k)))
  (hb2 : ∀ k, b2 (ix2 0 k) = W.b (ix2 0 (Merge.col 2 k)))

include hca hoa hom hz0 hz1 hz2 hb0 hb1 hb2

theorem mixed_apply (l : Fin 1024) : mixed ca oa om z0 z1 z2 b0 b1 b2 W (ix2 r l) = R.mix W l := by
  pointwise [mixed, k0_pay8, k0_pay7, k0_pay6, k0_pay5, k0_pay4, k0_pay3]
  simp only [hca, hoa, hom, hz0, hz1, hz2, hb0, hb1, hb2, Ffn.sub_zero_left]
  rfl

theorem proj_apply (l : Fin 1024) : proj ca oa om z0 z1 z2 b0 b1 b2 W (ix2 r l) = R.out W l := by
  pointwise [proj, k0_pay9, mixed_apply ca oa om z0 z1 z2 b0 b1 b2 W r R hca hoa hom hz0 hz1 hz2 hb0 hb1 hb2]
  rfl

theorem sum_apply (l : Fin 1024) : sum ca oa om z0 z1 z2 b0 b1 b2 W x g (ix2 r l) = x (ix2 r l) + Ffn.norm (R.out W) g l := by
  pointwise [sum, k0_pay1, k0_pay10, proj_apply ca oa om z0 z1 z2 b0 b1 b2 W r R hca hoa hom hz0 hz1 hz2 hb0 hb1 hb2]
  rfl

theorem next_apply (l : Fin 1024) : next ca oa om z0 z1 z2 b0 b1 b2 W x g h (ix2 r l)
    = Ffn.norm (fun j => x (ix2 r j) + Ffn.norm (R.out W) g j) h l := by
  pointwise [next, k0_pay2, sum_apply ca oa om z0 z1 z2 b0 b1 b2 W x g r R hca hoa hom hz0 hz1 hz2 hb0 hb1 hb2]
  rfl
end Block

/-! The reference. -/

section Reference
variable (x : FVec Ideal S8192x1024 .f32) (ca : FVec Ideal S8192x512 .bf16) (oa : FVec Ideal S8192x256 .bf16) (om : FVec Ideal S8192x512 .bf16)
  (z : FVec Ideal S8192x6912 .bf16) (W : Weights) (g h : FVec Ideal S1x1024 .f32) (r : Fin 8192)

/-- A row of the branches' outputs and of the gates' columns. -/
abbrev rowOf : Row := ⟨fun k => ca (ix2 r k), fun k => oa (ix2 r k), fun k => om (ix2 r k), fun k => z (ix2 r ⟨k.val, by omega⟩)⟩

theorem reference_gates (k : Fin 3072) : val_main_v15 (F := Ideal) z W.b (ix2 r k) = Ffn.sg (z (ix2 r ⟨k.val, by omega⟩) + W.b (ix2 0 k)) := by
  pointwise [val_main_v15, val_main_v14, val_main_v13, val_main_v12, val_main_v11, val_main_v10, val_main_v9, val_main_v8, val_main_v4, val_main_v0,
    val_main_cst, val_main_cst_0]
  rfl

theorem reference_gate (l : Fin 1024) : val_main_v18 (F := Ideal) z W.b (ix2 r l) = (rowOf ca oa om z r).gate W 0 l
    ∧ val_main_v22 (F := Ideal) z W.b (ix2 r l) = (rowOf ca oa om z r).gate W 1 l
    ∧ val_main_v27 (F := Ideal) z W.b (ix2 r l) = (rowOf ca oa om z r).gate W 2 l := by
  refine ⟨?_, ?_, ?_⟩
  · rw [val_main_v18_apply, val_main_v17_apply, val_main_v16_apply]
    exact (congrArg _ (by blk_ext)).trans (reference_gates z W r (Merge.col 0 l))
  · rw [val_main_v22_apply, val_main_v21_apply, val_main_v16_apply]
    exact (congrArg _ (by blk_ext)).trans (reference_gates z W r (Merge.col 1 l))
  · rw [val_main_v27_apply, val_main_v26_apply, val_main_v16_apply]
    exact (congrArg _ (by blk_ext)).trans (reference_gates z W r (Merge.col 2 l))

theorem reference_mix (l : Fin 1024) : val_main_v30 (F := Ideal) ca oa om z W.ca W.oa W.om W.b (ix2 r l) = (rowOf ca oa om z r).mix W l := by
  pointwise [val_main_v30, val_main_v29, val_main_v28, val_main_v25, val_main_v24, val_main_v23, val_main_v20, val_main_v19,
    val_main_v7, val_main_v6, val_main_v5, val_main_v3, val_main_v2, val_main_v1, (reference_gate ca oa om z W r l).1, (reference_gate ca oa om z W r l).2.1,
    (reference_gate ca oa om z W r l).2.2]
  rfl

theorem reference_out (l : Fin 1024) : val_main_v32 (F := Ideal) ca oa om z W.ca W.oa W.om W.out W.b (ix2 r l) = (rowOf ca oa om z r).out W l := by
  pointwise [val_main_v32, val_main_v31, reference_mix]
  rfl

theorem reference_sum (l : Fin 1024) : val_main_v45 (F := Ideal) x ca oa om z W.ca W.oa W.om W.out W.b g (ix2 r l)
    = x (ix2 r l) + Ffn.norm ((rowOf ca oa om z r).out W) g l := by
  pointwise [val_main_v45, val_main_v44, val_main_v43, val_main_v42, val_main_v41, val_main_v40, val_main_v39, val_main_v38, val_main_v37, val_main_v36,
    val_main_v35, val_main_v34, val_main_v33, val_main_cst_1, val_main_cst_2, val_main_cst_3, reference_out]
  rfl

theorem reference_next (l : Fin 1024) : val_main_v59 (F := Ideal) x ca oa om z W.ca W.oa W.om W.out W.b g h (ix2 r l)
    = Ffn.norm (fun j => x (ix2 r j) + Ffn.norm ((rowOf ca oa om z r).out W) g j) h l := by
  pointwise [val_main_v59, val_main_v58, val_main_v57, val_main_v56, val_main_v55, val_main_v54, val_main_v53, val_main_v52, val_main_v51, val_main_v50,
    val_main_v49, val_main_v48, val_main_v47, val_main_cst_4, val_main_cst_5, val_main_cst_6, reference_sum]
  rfl
end Reference

/-! The blocks. -/

theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] :=
  (by decide +kernel : ∀ t : Fin grid0.N, _)

section Run
variable (m : (ℓ : Loc nD τ sig) → Buf (Elt Ideal) ℓ) (ρ : Dev nD → PrngReg) (c : Dev nD)

abbrev a0 : FVec Ideal S8192x1024 .f32 := m ((c : Thread nD τ).loc main_arg0)
abbrev a1 : FVec Ideal S8192x512 .bf16 := m ((c : Thread nD τ).loc main_arg1)
abbrev a2 : FVec Ideal S8192x256 .bf16 := m ((c : Thread nD τ).loc main_arg2)
abbrev a3 : FVec Ideal S8192x512 .bf16 := m ((c : Thread nD τ).loc main_arg3)
abbrev a4 : FVec Ideal S8192x6912 .bf16 := m ((c : Thread nD τ).loc main_arg4)
abbrev a10 : FVec Ideal S1x1024 .f32 := m ((c : Thread nD τ).loc main_arg10)
abbrev a11 : FVec Ideal S1x1024 .f32 := m ((c : Thread nD τ).loc main_arg11)
/-- The weights as given. -/
abbrev ws : Weights := ⟨m ((c : Thread nD τ).loc main_arg5), m ((c : Thread nD τ).loc main_arg6), m ((c : Thread nD τ).loc main_arg7),
  m ((c : Thread nD τ).loc main_arg8), m ((c : Thread nD τ).loc main_arg9)⟩

/-- A row of a point's block among all rows. -/
abbrev row (t : Fin 16) (r : Fin 512) : Fin 8192 := ⟨t.val * 512 + r.val, by omega⟩
/-- What the row is made of. -/
abbrev rowAt (t : Fin 16) (r : Fin 512) : Row := rowOf (a1 m c) (a2 m c) (a3 m c) (a4 m c) (row t r)

theorem weights0 (t : Fin cfg0.N) : iblk m c 5 t = (ws m c).ca ∧ iblk m c 6 t = (ws m c).oa ∧ iblk m c 7 t = (ws m c).om
    ∧ iblk m c 8 t = (ws m c).out ∧ iblk m c 9 t = (ws m c).b ∧ iblk m c 10 t = a10 m c ∧ iblk m c 11 t = a11 m c := by
  refine ⟨?_, ?_, ?_, ?_, ?_, ?_, ?_⟩ <;> funext j <;> blk_ext [iblk, idx0 t]
theorem x0 (t : Fin 16) (r : Fin 512) (k : Fin 1024) : iblk m c 0 t (ix2 r k) = a0 m c (ix2 (row t r) k) := by
  blk_point [iblk, idx0 t]
theorem ca0 (t : Fin 16) (r : Fin 512) (k : Fin 512) : iblk m c 1 t (ix2 r k) = (rowAt m c t r).ca k := by
  blk_point [iblk, idx0 t]
theorem oa0 (t : Fin 16) (r : Fin 512) (k : Fin 256) : iblk m c 2 t (ix2 r k) = (rowAt m c t r).oa k := by
  blk_point [iblk, idx0 t]
theorem om0 (t : Fin 16) (r : Fin 512) (k : Fin 512) : iblk m c 3 t (ix2 r k) = (rowAt m c t r).om k := by
  blk_point [iblk, idx0 t]
theorem z0 (t : Fin 16) (r : Fin 512) (k : Fin 3072) : X0_4 m c t (ix2 r k) = (rowAt m c t r).z k := by
  unfold X0_4 Pipeline.Window.fill
  rw [dif_pos (moved0_4 t _)]
  blk_point [iblk, idx0 t]
theorem place0 (t : Fin 16) (r : Fin 512) (l : Fin 1024) : (win0_12.blk t).view.emb (ix2 r l) = ix2 (row t r) l
    ∧ (win0_13.blk t).view.emb (ix2 r l) = ix2 (row t r) l ∧ (win0_14.blk t).view.emb (ix2 r l) = ix2 (row t r) l
    ∧ (win0_15.blk t).view.emb (ix2 r l) = ix2 (row t r) l := by
  refine ⟨?_, ?_, ?_, ?_⟩ <;> blk_ext [idx0 t]

/-- The merged rows. -/
theorem final13 : (dats m 0 c).arrAt 13 cfg0.N = val_main_v46 (F := Ideal) (a1 m c) (a2 m c) (a3 m c) (a4 m c) (ws m c).ca (ws m c).oa (ws m c).om (ws m c).b := by
  refine (dats m 0 c).arrAt_eq_of_covers 13 _ (by decide +kernel) fun t hf y => ?_
  blk_simp
  rw [after0_13, outsAt0]
  frame_out
  idx_vars y
  obtain ⟨h5, h6, h7, h8, h9, h10, h11⟩ := weights0 m c t
  rw [(place0 t y0 y1).2.1, h5, h6, h7]
  refine (mixed_apply _ _ _ _ _ _ _ _ _ (ws m c) y0 (rowAt m c t y0) (ca0 m c t y0) (oa0 m c t y0) (om0 m c t y0) ?_ ?_ ?_ ?_ ?_ ?_ y1).trans
    (reference_mix (a1 m c) (a2 m c) (a3 m c) (a4 m c) (ws m c) (row t y0) y1).symm
  all_goals
    intro k
    pointwise [z0 m c t, h9]
  all_goals exact congrArg _ (by blk_ext)

/-- Their projection. -/
theorem final14 : (dats m 0 c).arrAt 14 cfg0.N = val_main_v32 (F := Ideal) (a1 m c) (a2 m c) (a3 m c) (a4 m c) (ws m c).ca (ws m c).oa (ws m c).om (ws m c).out (ws m c).b := by
  refine (dats m 0 c).arrAt_eq_of_covers 14 _ (by decide +kernel) fun t hf y => ?_
  blk_simp
  rw [after0_14, outsAt0]
  frame_out
  idx_vars y
  obtain ⟨h5, h6, h7, h8, h9, h10, h11⟩ := weights0 m c t
  rw [(place0 t y0 y1).2.2.1, h5, h6, h7, h8]
  refine (proj_apply _ _ _ _ _ _ _ _ _ (ws m c) y0 (rowAt m c t y0) (ca0 m c t y0) (oa0 m c t y0) (om0 m c t y0) ?_ ?_ ?_ ?_ ?_ ?_ y1).trans
    (reference_out (a1 m c) (a2 m c) (a3 m c) (a4 m c) (ws m c) (row t y0) y1).symm
  all_goals
    intro k
    pointwise [z0 m c t, h9]
  all_goals exact congrArg _ (by blk_ext)

/-- The sum of the input and of the normed projection. -/
theorem final12 : (dats m 0 c).arrAt 12 cfg0.N = val_main_v45 (F := Ideal) (a0 m c) (a1 m c) (a2 m c) (a3 m c) (a4 m c) (ws m c).ca (ws m c).oa (ws m c).om (ws m c).out (ws m c).b (a10 m c) := by
  refine (dats m 0 c).arrAt_eq_of_covers 12 _ (by decide +kernel) fun t hf y => ?_
  blk_simp
  rw [after0_12, outsAt0]
  frame_out
  idx_vars y
  obtain ⟨h5, h6, h7, h8, h9, h10, h11⟩ := weights0 m c t
  rw [(place0 t y0 y1).1, h5, h6, h7, h8, h10]
  refine ((sum_apply _ _ _ _ _ _ _ _ _ (ws m c) _ _ y0 (rowAt m c t y0) (ca0 m c t y0) (oa0 m c t y0) (om0 m c t y0) ?_ ?_ ?_ ?_ ?_ ?_ y1).trans (congrArg (· + _) (x0 m c t y0 y1))).trans
    (reference_sum (a0 m c) (a1 m c) (a2 m c) (a3 m c) (a4 m c) (ws m c) (a10 m c) (row t y0) y1).symm
  all_goals
    intro k
    pointwise [z0 m c t, h9]
  all_goals exact congrArg _ (by blk_ext)

/-- The next block's input. -/
theorem final15 : (dats m 0 c).arrAt 15 cfg0.N = val_main_v59 (F := Ideal) (a0 m c) (a1 m c) (a2 m c) (a3 m c) (a4 m c) (ws m c).ca (ws m c).oa (ws m c).om (ws m c).out (ws m c).b (a10 m c) (a11 m c) := by
  refine (dats m 0 c).arrAt_eq_of_covers 15 _ (by decide +kernel) fun t hf y => ?_
  blk_simp
  rw [after0_15, outsAt0]
  frame_out
  idx_vars y
  obtain ⟨h5, h6, h7, h8, h9, h10, h11⟩ := weights0 m c t
  rw [(place0 t y0 y1).2.2.2, h5, h6, h7, h8, h10, h11]
  refine ((next_apply _ _ _ _ _ _ _ _ _ (ws m c) _ _ _ y0 (rowAt m c t y0) (ca0 m c t y0) (oa0 m c t y0) (om0 m c t y0) ?_ ?_ ?_ ?_ ?_ ?_ y1).trans
    (congrArg (Ffn.norm · _ _) (funext fun j => congrArg (· + _) (x0 m c t y0 j)))).trans
    (reference_next (a0 m c) (a1 m c) (a2 m c) (a3 m c) (a4 m c) (ws m c) (a10 m c) (a11 m c) (row t y0) y1).symm
  all_goals
    intro k
    pointwise [z0 m c t, h9]
  all_goals exact congrArg _ (by blk_ext)
end Run
end Cert.Kernel11Ideal.Final
end
-- ==== Proof.Loss.lean ====
/- The last layer's second half of the feed-forward part with the loss: the kernel leaves the projection, the gradient of the
   loss and the loss that the reference computes. -/
module
public import proofs.«01_k».proof.Proof.Ffn
public import proofs.«01_k».proof.Proof.Gen.Kernel12Ideal.Value
public import proofs.«01_k».proof.Proof.Gen.Reference12Ideal.Read
public import Idealize.ShloMosaic.Lib.Pipeline.ValueKit
@[expose] public section
set_option maxRecDepth 16384
noncomputable section
open Idealize.ShloMosaic Idealize.ShloMosaic.TcCoe Idealize.SL.Sem

namespace Cert.Kernel12Ideal.Final
open Cert.Kernel12Ideal Cert.Kernel12Ideal.Gen
open Cert.Reference12Ideal.Read

/-- The words of one over the length, of half of it, of one half, of one and of two. -/
abbrev perLen : EReal := Ideal.ofBits FTy.f32 0x3A800000#32
abbrev halfPerLen : EReal := Ideal.ofBits FTy.f32 0x3A000000#32
abbrev half : EReal := Ideal.ofBits FTy.f32 0x3F000000#32
abbrev one : EReal := Ideal.ofBits FTy.f32 0x3F800000#32
abbrev two : EReal := Ideal.ofBits FTy.f32 0x40000000#32

theorem perLen_eq : perLen = ((1 / 1024 : ℝ) : EReal) := by
  unfold perLen
  simp [Ideal.ofBits, Ideal.ieee]
  rw [← EReal.coe_mul]
  norm_num
theorem halfPerLen_eq : halfPerLen = ((1 / 2048 : ℝ) : EReal) := by
  unfold halfPerLen
  simp [Ideal.ofBits, Ideal.ieee]
  rw [← EReal.coe_mul]
  norm_num
theorem half_eq : half = ((1 / 2 : ℝ) : EReal) := by
  unfold half
  simp [Ideal.ofBits, Ideal.ieee]
  rw [← EReal.coe_mul]
  norm_num
theorem one_eq : one = ((1 : ℝ) : EReal) := by
  unfold one
  simp [Ideal.ofBits, Ideal.ieee]
  rw [← EReal.coe_mul]
  norm_num
theorem two_eq : two = ((2 : ℝ) : EReal) := by
  unfold two
  simp [Ideal.ofBits, Ideal.ieee]
  rw [← EReal.coe_mul]
  norm_num

/-- The derivative of the halved mean of squares is the difference over the length. -/
theorem grad_eq (e : EReal) : Ideal.div (half * one) Norm.len * (two * e) = e * perLen := by
  rw [half_eq, one_eq, two_eq, perLen_eq, Norm.ofBits_len, Law.div_real _ (by norm_num), ← mul_assoc, ← EReal.coe_mul, ← EReal.coe_mul,
    ← EReal.coe_mul, mul_comm]
  norm_num

/-- Half the sum of the rows' means is the sum of the rows' shares. -/
theorem half_mean {n : ℕ} (s : Fin n → EReal) : half * ∑ r, Ideal.div (s r) Norm.len = ∑ r, halfPerLen * s r := by
  rw [half_eq, halfPerLen_eq, Norm.ofBits_len, Law.mul_sum_nonneg _ (by norm_num)]
  refine Finset.sum_congr rfl fun r _ => ?_
  rw [Law.div_real _ (by norm_num), mul_comm (s r), ← mul_assoc, ← EReal.coe_mul]
  norm_num

/-- A block's share of the loss is the sum of its rows' shares. -/
theorem block_share {n : ℕ} (s : Fin n → EReal) : halfPerLen * ∑ r, s r = ∑ r, halfPerLen * s r := by
  rw [halfPerLen_eq]
  exact Law.mul_sum_nonneg _ (by norm_num) _

/-! The kernel's payloads. -/

section Block
variable (v0 v2 : FVec Ideal S256x2816 .bf16) (w : FVec Ideal S2816x1024 .bf16) (x t : FVec Ideal S256x1024 .f32) (g : FVec Ideal S1x1024 .f32)
  (r : Fin 256) (l : Fin 1024)

theorem proj_apply : k0_pay5 (F := Ideal) v0 v2 w (ix2 r l) = Ffn.proj v0 v2 w r l := by
  pointwise [k0_pay5]
  simp only [Ffn.sub_zero_left]
  rfl

theorem sum_apply : k0_pay6 (F := Ideal) v0 v2 w x g (ix2 r l) = x (ix2 r l) + Ffn.norm (Ffn.proj v0 v2 w r) g l := by
  pointwise [k0_pay6, proj_apply]
  rfl

theorem grad_apply (y : FVec Ideal S256x1024 .f32) : k0_pay2 (F := Ideal) y t (ix2 r l) = (y (ix2 r l) - t (ix2 r l)) * perLen := by
  pointwise [k0_pay2, k0_pay1]

/-- The loss starts from zero. -/
theorem zero_apply (j) : k0_pay4 (F := Ideal) j = 0 := by pointwise [k0_pay4]

/-- A point adds the shares of its rows, in every place of the small array. -/
theorem add_apply (y : FVec Ideal S256x1024 .f32) (acc : FVec Ideal S8x128 .f32) (j : S8x128.Idx) : k0_pay3 (F := Ideal) y t acc j
    = acc j + ∑ r : Fin 256, halfPerLen * ∑ l : Fin 1024, (y (ix2 r l) - t (ix2 r l)) * (y (ix2 r l) - t (ix2 r l)) := by
  rw [← block_share]
  pointwise [k0_pay3, k0_pay1]
end Block

/-! The reference. -/

section Reference
variable (x : FVec Ideal S8192x1024 .f32) (gu : FVec Ideal S8192x5632 .bf16) (w : FVec Ideal S2816x1024 .bf16) (g : FVec Ideal S1x1024 .f32)
  (t : FVec Ideal S8192x1024 .f32) (r : Fin 8192) (l : Fin 1024)

theorem reference_out : val_main_v6 (F := Ideal) gu w (ix2 r l) = Ffn.out (Ffn.gur gu r) w l := by
  pointwise [val_main_v6, val_main_v5, val_main_v4, val_main_call0_v5, val_main_call0_v4, val_main_call0_cst_0, val_main_call0_v3, val_main_call0_v2,
    val_main_call0_cst, val_main_call0_v1, val_main_call0_v0, val_main_v3, val_main_v2, val_main_v1, val_main_v0]
  rfl

/-- The difference of the output and the target. -/
abbrev diff : EReal := x (ix2 r l) + Ffn.norm (Ffn.out (Ffn.gur gu r) w) g l - t (ix2 r l)

theorem reference_diff : val_main_v20 (F := Ideal) x gu w g t (ix2 r l) = diff x gu w g t r l := by
  pointwise [val_main_v20, val_main_v19, val_main_v18, val_main_v17, val_main_v16, val_main_v15, val_main_v14, val_main_v13, val_main_v12, val_main_v11,
    val_main_v10, val_main_v9, val_main_v8, val_main_v7, val_main_cst, val_main_cst_0, val_main_cst_1, reference_out]
  rfl

/-- The gradient of the loss. -/
theorem reference_grad : val_main_v34 (F := Ideal) x gu w g t (ix2 r l) = diff x gu w g t r l * perLen := by
  rw [← grad_eq]
  pointwise [val_main_v34, val_main_v33, val_main_v32, val_main_v31, val_main_v30, val_main_v29, val_main_v23, val_main_v22, val_main_cst_2,
    val_main_cst_7, val_main_cst_8, val_main_cst_9, reference_diff]

/-- A row's mean of the squared differences. -/
theorem reference_mean : val_main_v26 (F := Ideal) x gu w g t (ix1 r) = Ideal.div (∑ l, diff x gu w g t r l * diff x gu w g t r l) Norm.len := by
  pointwise [val_main_v26, val_main_v25, val_main_v24, val_main_v21, val_main_cst_3, val_main_cst_4, reference_diff]

/-- The loss, in every place of the small array. -/
theorem reference_loss (j : S8x128.Idx) : val_main_v35 (F := Ideal) x gu w g t j
    = ∑ r : Fin 8192, halfPerLen * ∑ l, diff x gu w g t r l * diff x gu w g t r l := by
  rw [← half_mean]
  pointwise [val_main_v35, val_main_v28, val_main_v27, val_main_cst_5, val_main_cst_6]
  refine congrArg (half * ·) ?_
  exact Finset.sum_congr rfl fun r _ => reference_mean x gu w g t r
end Reference

/-! The blocks. -/

theorem idx0 : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

section Run
variable (m : (ℓ : Loc nD τ sig) → Buf (Elt Ideal) ℓ) (c : Dev nD)

/-- The argument arrays. -/
abbrev a0 : FVec Ideal S8192x1024 .f32 := m ((c : Thread nD τ).loc main_arg0)
abbrev a1 : FVec Ideal S8192x5632 .bf16 := m ((c : Thread nD τ).loc main_arg1)
abbrev a2 : FVec Ideal S2816x1024 .bf16 := m ((c : Thread nD τ).loc main_arg2)
abbrev a3 : FVec Ideal S1x1024 .f32 := m ((c : Thread nD τ).loc main_arg3)
abbrev a4 : FVec Ideal S8192x1024 .f32 := m ((c : Thread nD τ).loc main_arg4)

/-- A row of a point's block among all rows. -/
abbrev row (t : Fin 32) (r : Fin 256) : Fin 8192 := ⟨t.val * 256 + r.val, by omega⟩

theorem whole0 (t : Fin cfg0.N) : iblk m c 2 t = a2 m c ∧ iblk m c 3 t = a3 m c := by
  refine ⟨?_, ?_⟩ <;> funext j <;> blk_ext [iblk, V, idx0 t]
theorem x0 (t : Fin 32) (r : Fin 256) (k : Fin 1024) : iblk m c 0 t (ix2 r k) = a0 m c (ix2 (row t r) k) := by
  blk_point [iblk, V, idx0 t]
theorem pre0 (t : Fin 32) (r : Fin 256) (k : Fin 5632) : iblk m c 1 t (ix2 r k) = a1 m c (ix2 (row t r) k) := by
  blk_point [iblk, V, idx0 t]
theorem target0 (t : Fin 32) (r : Fin 256) (k : Fin 1024) : iblk m c 4 t (ix2 r k) = a4 m c (ix2 (row t r) k) := by
  blk_point [iblk, V, idx0 t]
theorem place0 (t : Fin 32) (r : Fin 256) (l : Fin 1024) : (win0_5.blk t).view.emb (ix2 r l) = ix2 (row t r) l
    ∧ (win0_6.blk t).view.emb (ix2 r l) = ix2 (row t r) l := by
  refine ⟨?_, ?_⟩ <;> blk_ext [idx0 t]

/-- The difference that a point's block holds in a row, from the halves of its pre-activations. -/
theorem diff_point (t : Fin 32) (v0 v2 : FVec Ideal S256x2816 .bf16) (r : Fin 256) (l : Fin 1024)
    (h0 : ∀ k, v0 (ix2 r k) = Ffn.gate (Ffn.gur (a1 m c) (row t r)) k) (h2 : ∀ k, v2 (ix2 r k) = Ffn.up (Ffn.gur (a1 m c) (row t r)) k) :
    k0_pay6 (F := Ideal) v0 v2 (iblk m c 2 t) (iblk m c 0 t) (iblk m c 3 t) (ix2 r l) - iblk m c 4 t (ix2 r l)
      = diff (a0 m c) (a1 m c) (a2 m c) (a3 m c) (a4 m c) (row t r) l := by
  rw [sum_apply, Ffn.proj_eq _ _ _ _ _ h0 h2, (whole0 m c t).1, (whole0 m c t).2]
  exact congrArg₂ (· + _ - ·) (x0 m c t r l) (target0 m c t r l)

/-- The projection. -/
theorem final6 : (dats m 0 c).arrAt 6 cfg0.N = val_main_v6 (F := Ideal) (a1 m c) (a2 m c) := by
  refine (dats m 0 c).arrAt_eq_of_covers 6 _ (by decide +kernel) fun t hf y => ?_
  blk_simp
  rw [after0_6]
  idx_vars y
  rw [(place0 t y0 y1).2, reference_out]
  by_cases h : t.val % 32 = 0
  on_goal 1 => rw [outsAt0_A m c t h]
  on_goal 2 => rw [outsAt0_B m c t h]
  all_goals
    frame_out
    rw [proj_apply, (whole0 m c t).1,
      Ffn.proj_eq _ _ _ _ (Ffn.gur (a1 m c) (row t y0)) (fun k => by pointwise [pre0 m c t]) (fun k => by pointwise [pre0 m c t])]

/-- The gradient of the loss. -/
theorem final5 : (dats m 0 c).arrAt 5 cfg0.N = val_main_v34 (F := Ideal) (a0 m c) (a1 m c) (a2 m c) (a3 m c) (a4 m c) := by
  refine (dats m 0 c).arrAt_eq_of_covers 5 _ (by decide +kernel) fun t hf y => ?_
  blk_simp
  rw [after0_5]
  idx_vars y
  rw [(place0 t y0 y1).1, reference_grad]
  by_cases h : t.val % 32 = 0
  on_goal 1 => rw [outsAt0_A m c t h]
  on_goal 2 => rw [outsAt0_B m c t h]
  all_goals
    frame_out
    rw [grad_apply]
    exact congrArg (· * _) (diff_point m c t _ _ y0 y1 (fun k => by pointwise [pre0 m c t]) (fun k => by pointwise [pre0 m c t]))

/-- The last point. -/
abbrev last0 : Fin cfg0.N := ⟨31, by rw [show cfg0.N = 32 from N_0]; decide⟩

/-- The loss. -/
theorem final7 : (dats m 0 c).arrAt 7 cfg0.N = val_main_v35 (F := Ideal) (a0 m c) (a1 m c) (a2 m c) (a3 m c) (a4 m c) := by
  refine (dats m 0 c).arrAt_eq_of_after_last 7 last0 (by decide +kernel) _ fun j => ?_
  blk_simp
  rw [after0_7, Pipeline.eq_sum_fin_of_reset_step_apply_last (fun n h => (outsAt0 m c n h).2.2) 32 (fun _ => (0 : EReal)) _
    (fun t h j => by rw [outsAt0_A m c t h]; frame_out; rw [add_apply, zero_apply])
    (fun t h j => by rw [outsAt0_B m c t h]; frame_out; rw [add_apply]) (le_of_eq N_0) last0 rfl j, zero_add]
  refine Eq.trans ?_ (reference_loss _ _ _ _ _ _).symm
  refine Fin.sum_mul_add_congr (n := 256) fun s k hl => ?_
  refine congrArg (halfPerLen * ·) (Finset.sum_congr rfl fun l _ => ?_)
  refine congrArg₂ (· * ·) ?_ ?_ <;>
  exact diff_point m c s _ _ k l (fun q => by pointwise [pre0 m c s]) (fun q => by pointwise [pre0 m c s])
end Run
end Cert.Kernel12Ideal.Final
end
-- ==== Proof.MergeRun.lean ====
/- The run of the gate merge's gradient at a point after the first, where the accumulated outputs hold what the point before left. -/
module

public import proofs.«01_k».proof.Proof.Gen.Kernel10Ideal.Frame.RunA

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- A point after the first (case B): from the inputs' blocks and from what the accumulated outputs (17 to 22) hold, the body
    runs to its end, keeps the inputs and leaves in each output's buffer the pieces that its stores write, the last one first. -/
noncomputable def kernelRun0_B (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S512x256 .bf16) (harg5 : arg5.IsWhole) (arg6 : Memref sig .tc .vmem S512x512 .bf16) (harg6 : arg6.IsWhole) (arg7 : Memref sig .tc .vmem S512x3072 .bf16) (harg7 : arg7.IsWhole) (arg8 : Memref sig .tc .vmem S512x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x3072 .f32) (harg12 : arg12.IsWhole) (arg13 : Memref sig .tc .vmem S1x1024 .f32) (harg13 : arg13.IsWhole) (arg14 : Memref sig .tc .vmem S512x3072 .bf16) (harg14 : arg14.IsWhole) (arg15 : Memref sig .tc .vmem S512x512 .bf16) (harg15 : arg15.IsWhole) (arg16 : Memref sig .tc .vmem S512x256 .bf16) (harg16 : arg16.IsWhole) (arg17 : Memref sig .tc .vmem S512x512 .bf16) (harg17 : arg17.IsWhole) (arg18 : Memref sig .tc .vmem S512x1024 .f32) (harg18 : arg18.IsWhole) (arg19 : Memref sig .tc .vmem S256x1024 .f32) (harg19 : arg19.IsWhole) (arg20 : Memref sig .tc .vmem S512x1024 .f32) (harg20 : arg20.IsWhole) (arg21 : Memref sig .tc .vmem S1024x1024 .f32) (harg21 : arg21.IsWhole) (arg22 : Memref sig .tc .vmem S1x3072 .f32) (harg22 : arg22.IsWhole) (arg23 : Memref sig .tc .vmem S1x1024 .f32) (harg23 : arg23.IsWhole) (hc0 : ¬cond0_0 i)
    (x0 : Vec F S512x1024 .f32) (x1 : Vec F S512x1024 .f32) (x2 : Vec F S512x1024 .bf16) (x3 : Vec F S512x512 .bf16) (x4 : Vec F S512x256 .bf16) (x5 : Vec F S512x512 .bf16) (x6 : Vec F S512x3072 .bf16) (x7 : Vec F S512x1024 .bf16) (x8 : Vec F S256x1024 .bf16) (x9 : Vec F S512x1024 .bf16) (x10 : Vec F S1024x1024 .bf16) (x11 : Vec F S1x3072 .f32) (x12 : Vec F S1x1024 .f32) (xo17 : Vec F S512x1024 .f32) (xo18 : Vec F S256x1024 .f32) (xo19 : Vec F S512x1024 .f32) (xo20 : Vec F S1024x1024 .f32) (xo21 : Vec F S1x3072 .f32) (xo22 : Vec F S1x1024 .f32) :
    Σ' (L13 : List (View.Piece (Elt F) S512x3072 .bf16)), Σ' (L14 : List (View.Piece (Elt F) S512x512 .bf16)), Σ' (L15 : List (View.Piece (Elt F) S512x256 .bf16)), Σ' (L16 : List (View.Piece (Elt F) S512x512 .bf16)), Σ' (L17 : List (View.Piece (Elt F) S512x1024 .f32)), Σ' (L18 : List (View.Piece (Elt F) S256x1024 .f32)), Σ' (L19 : List (View.Piece (Elt F) S512x1024 .f32)), Σ' (L20 : List (View.Piece (Elt F) S1024x1024 .f32)), Σ' (L21 : List (View.Piece (Elt F) S1x3072 .f32)), { L22 : List (View.Piece (Elt F) S1x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xo17 ∗ owns (c : Thread nD τ) arg19 fullShare xo18 ∗ owns (c : Thread nD τ) arg20 fullShare xo19 ∗ owns (c : Thread nD τ) arg21 fullShare xo20 ∗ owns (c : Thread nD τ) arg22 fullShare xo21 ∗ owns (c : Thread nD τ) arg23 fullShare xo22
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_merge_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, fun E K => ?run⟩
  case run =>
    simp only [cc0_merge_bwd_eq_skeleton]; unfold cc0_merge_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.Kernel10Ideal.Gen

end
-- ==== Proof.MergeOuts.lean ====
/- What the two cases of the gate merge's gradient leave in each output's buffer: at the first point and at the ones after it. -/
module
public import proofs.«01_k».proof.Proof.MergeRun
@[expose] public section
set_option maxRecDepth 16384
noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

section CaseA
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole)
  (arg4 : Memref sig .tc .vmem S512x512 .bf16) (harg4 : arg4.IsWhole) (arg5 : Memref sig .tc .vmem S512x256 .bf16) (harg5 : arg5.IsWhole) (arg6 : Memref sig .tc .vmem S512x512 .bf16) (harg6 : arg6.IsWhole)
  (arg7 : Memref sig .tc .vmem S512x3072 .bf16) (harg7 : arg7.IsWhole) (arg8 : Memref sig .tc .vmem S512x1024 .bf16) (harg8 : arg8.IsWhole) (arg9 : Memref sig .tc .vmem S256x1024 .bf16) (harg9 : arg9.IsWhole)
  (arg10 : Memref sig .tc .vmem S512x1024 .bf16) (harg10 : arg10.IsWhole) (arg11 : Memref sig .tc .vmem S1024x1024 .bf16) (harg11 : arg11.IsWhole) (arg12 : Memref sig .tc .vmem S1x3072 .f32) (harg12 : arg12.IsWhole)
  (arg13 : Memref sig .tc .vmem S1x1024 .f32) (harg13 : arg13.IsWhole) (arg14 : Memref sig .tc .vmem S512x3072 .bf16) (harg14 : arg14.IsWhole) (arg15 : Memref sig .tc .vmem S512x512 .bf16) (harg15 : arg15.IsWhole)
  (arg16 : Memref sig .tc .vmem S512x256 .bf16) (harg16 : arg16.IsWhole) (arg17 : Memref sig .tc .vmem S512x512 .bf16) (harg17 : arg17.IsWhole) (arg18 : Memref sig .tc .vmem S512x1024 .f32) (harg18 : arg18.IsWhole)
  (arg19 : Memref sig .tc .vmem S256x1024 .f32) (harg19 : arg19.IsWhole) (arg20 : Memref sig .tc .vmem S512x1024 .f32) (harg20 : arg20.IsWhole) (arg21 : Memref sig .tc .vmem S1024x1024 .f32) (harg21 : arg21.IsWhole)
  (arg22 : Memref sig .tc .vmem S1x3072 .f32) (harg22 : arg22.IsWhole) (arg23 : Memref sig .tc .vmem S1x1024 .f32) (harg23 : arg23.IsWhole) (hc0 : cond0_0 i)
  (x0 : Vec F S512x1024 .f32) (x1 : Vec F S512x1024 .f32) (x2 : Vec F S512x1024 .bf16) (x3 : Vec F S512x512 .bf16) (x4 : Vec F S512x256 .bf16) (x5 : Vec F S512x512 .bf16) (x6 : Vec F S512x3072 .bf16)
  (x7 : Vec F S512x1024 .bf16) (x8 : Vec F S256x1024 .bf16) (x9 : Vec F S512x1024 .bf16) (x10 : Vec F S1024x1024 .bf16) (x11 : Vec F S1x3072 .f32) (x12 : Vec F S1x1024 .f32)

/-- Case A's pieces of output 13 cover its block. -/
theorem cover0_A_13 (y : S512x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).1 S512x1024.size (by sl_kernel_rfl) y

/-- What case A leaves in output 13's buffer. -/
def out0_A_13 : Vec F S512x3072 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).1)

/-- Case A's pieces of output 14 cover its block. -/
theorem cover0_A_14 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.1 S512x512.size (by sl_kernel_rfl) y

/-- What case A leaves in output 14's buffer. -/
def out0_A_14 : Vec F S512x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.1)

/-- Case A's pieces of output 15 cover its block. -/
theorem cover0_A_15 (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.1 S512x256.size (by sl_kernel_rfl) y

/-- What case A leaves in output 15's buffer. -/
def out0_A_15 : Vec F S512x256 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.1)

/-- Case A's pieces of output 16 cover its block. -/
theorem cover0_A_16 (y : S512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.1 S512x512.size (by sl_kernel_rfl) y

/-- What case A leaves in output 16's buffer. -/
def out0_A_16 : Vec F S512x512 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.1)

/-- Case A's pieces of output 17 cover its block. -/
theorem cover0_A_17 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.1 S512x1024.size (by sl_kernel_rfl) y

/-- What case A leaves in output 17's buffer. -/
def out0_A_17 : Vec F S512x1024 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.1)

/-- Case A's pieces of output 18 cover its block. -/
theorem cover0_A_18 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.1 S256x1024.size (by sl_kernel_rfl) y

/-- What case A leaves in output 18's buffer. -/
def out0_A_18 : Vec F S256x1024 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.1)

/-- Case A's pieces of output 19 cover its block. -/
theorem cover0_A_19 (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.1 S512x1024.size (by sl_kernel_rfl) y

/-- What case A leaves in output 19's buffer. -/
def out0_A_19 : Vec F S512x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.1)

/-- Case A's pieces of output 20 cover its block. -/
theorem cover0_A_20 (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.1 S1024x1024.size (by sl_kernel_rfl) y

/-- What case A leaves in output 20's buffer. -/
def out0_A_20 : Vec F S1024x1024 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.1)

/-- Case A's pieces of output 21 cover its block. -/
theorem cover0_A_21 (y : S1x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.1 ![1, 1024] (by sl_kernel_rfl) y

/-- What case A leaves in output 21's buffer. -/
def out0_A_21 : Vec F S1x3072 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.1)

/-- Case A's pieces of output 22 cover its block. -/
theorem cover0_A_22 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.2.1 S1x1024.size (by sl_kernel_rfl) y

/-- What case A leaves in output 22's buffer. -/
def out0_A_22 : Vec F S1x1024 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12).2.2.2.2.2.2.2.2.2.1)
end CaseA

section CaseB
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole)
  (arg4 : Memref sig .tc .vmem S512x512 .bf16) (harg4 : arg4.IsWhole) (arg5 : Memref sig .tc .vmem S512x256 .bf16) (harg5 : arg5.IsWhole) (arg6 : Memref sig .tc .vmem S512x512 .bf16) (harg6 : arg6.IsWhole)
  (arg7 : Memref sig .tc .vmem S512x3072 .bf16) (harg7 : arg7.IsWhole) (arg8 : Memref sig .tc .vmem S512x1024 .bf16) (harg8 : arg8.IsWhole) (arg9 : Memref sig .tc .vmem S256x1024 .bf16) (harg9 : arg9.IsWhole)
  (arg10 : Memref sig .tc .vmem S512x1024 .bf16) (harg10 : arg10.IsWhole) (arg11 : Memref sig .tc .vmem S1024x1024 .bf16) (harg11 : arg11.IsWhole) (arg12 : Memref sig .tc .vmem S1x3072 .f32) (harg12 : arg12.IsWhole)
  (arg13 : Memref sig .tc .vmem S1x1024 .f32) (harg13 : arg13.IsWhole) (arg14 : Memref sig .tc .vmem S512x3072 .bf16) (harg14 : arg14.IsWhole) (arg15 : Memref sig .tc .vmem S512x512 .bf16) (harg15 : arg15.IsWhole)
  (arg16 : Memref sig .tc .vmem S512x256 .bf16) (harg16 : arg16.IsWhole) (arg17 : Memref sig .tc .vmem S512x512 .bf16) (harg17 : arg17.IsWhole) (arg18 : Memref sig .tc .vmem S512x1024 .f32) (harg18 : arg18.IsWhole)
  (arg19 : Memref sig .tc .vmem S256x1024 .f32) (harg19 : arg19.IsWhole) (arg20 : Memref sig .tc .vmem S512x1024 .f32) (harg20 : arg20.IsWhole) (arg21 : Memref sig .tc .vmem S1024x1024 .f32) (harg21 : arg21.IsWhole)
  (arg22 : Memref sig .tc .vmem S1x3072 .f32) (harg22 : arg22.IsWhole) (arg23 : Memref sig .tc .vmem S1x1024 .f32) (harg23 : arg23.IsWhole) (hc0 : ¬cond0_0 i)
  (x0 : Vec F S512x1024 .f32) (x1 : Vec F S512x1024 .f32) (x2 : Vec F S512x1024 .bf16) (x3 : Vec F S512x512 .bf16) (x4 : Vec F S512x256 .bf16) (x5 : Vec F S512x512 .bf16) (x6 : Vec F S512x3072 .bf16)
  (x7 : Vec F S512x1024 .bf16) (x8 : Vec F S256x1024 .bf16) (x9 : Vec F S512x1024 .bf16) (x10 : Vec F S1024x1024 .bf16) (x11 : Vec F S1x3072 .f32) (x12 : Vec F S1x1024 .f32)
  (xo17 : Vec F S512x1024 .f32) (xo18 : Vec F S256x1024 .f32) (xo19 : Vec F S512x1024 .f32) (xo20 : Vec F S1024x1024 .f32) (xo21 : Vec F S1x3072 .f32) (xo22 : Vec F S1x1024 .f32)

/-- Case B's pieces of output 13 cover its block. -/
theorem cover0_B_13 (y : S512x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).1 S512x1024.size (by sl_kernel_rfl) y

/-- What case B leaves in output 13's buffer. -/
def out0_B_13 : Vec F S512x3072 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).1)

/-- Case B's pieces of output 14 cover its block. -/
theorem cover0_B_14 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.1 S512x512.size (by sl_kernel_rfl) y

/-- What case B leaves in output 14's buffer. -/
def out0_B_14 : Vec F S512x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.1)

/-- Case B's pieces of output 15 cover its block. -/
theorem cover0_B_15 (y : S512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.1 S512x256.size (by sl_kernel_rfl) y

/-- What case B leaves in output 15's buffer. -/
def out0_B_15 : Vec F S512x256 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.1)

/-- Case B's pieces of output 16 cover its block. -/
theorem cover0_B_16 (y : S512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.1 S512x512.size (by sl_kernel_rfl) y

/-- What case B leaves in output 16's buffer. -/
def out0_B_16 : Vec F S512x512 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.1)

/-- Case B's pieces of output 17 cover its block. -/
theorem cover0_B_17 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.1 S512x1024.size (by sl_kernel_rfl) y

/-- What case B leaves in output 17's buffer. -/
def out0_B_17 : Vec F S512x1024 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.1)

/-- Case B's pieces of output 18 cover its block. -/
theorem cover0_B_18 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.1 S256x1024.size (by sl_kernel_rfl) y

/-- What case B leaves in output 18's buffer. -/
def out0_B_18 : Vec F S256x1024 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.1)

/-- Case B's pieces of output 19 cover its block. -/
theorem cover0_B_19 (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.1 S512x1024.size (by sl_kernel_rfl) y

/-- What case B leaves in output 19's buffer. -/
def out0_B_19 : Vec F S512x1024 .f32 :=
  VO0_19.read (Elt F) (VO0_19.writes (Elt F) VO0_19.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.1)

/-- Case B's pieces of output 20 cover its block. -/
theorem cover0_B_20 (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.1 S1024x1024.size (by sl_kernel_rfl) y

/-- What case B leaves in output 20's buffer. -/
def out0_B_20 : Vec F S1024x1024 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.1)

/-- Case B's pieces of output 21 cover its block. -/
theorem cover0_B_21 (y : S1x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.1 S1x1024.size (by sl_kernel_rfl) y

/-- What case B leaves in output 21's buffer. -/
def out0_B_21 : Vec F S1x3072 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.1)

/-- Case B's pieces of output 22 cover its block. -/
theorem cover0_B_22 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.2.1 S1x1024.size (by sl_kernel_rfl) y

/-- What case B leaves in output 22's buffer. -/
def out0_B_22 : Vec F S1x1024 .f32 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 xo17 xo18 xo19 xo20 xo21 xo22).2.2.2.2.2.2.2.2.2.1)
end CaseB

end Cert.Kernel10Ideal.Gen
end
-- ==== Proof.MergeFrame.lean ====
/- The run of the gate merge's gradient: what each point leaves, the proof of the body at a point, the arrays after the run. -/
module
public import proofs.«01_k».proof.Proof.MergeOuts
public import Idealize.ShloMosaic.Lib.Claim
@[expose] public section
set_option maxRecDepth 16384
noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-! ## What the outputs hold after each point -/

/-- What the outputs' buffers hold after the point `n`, in the order of the windows: the first point starts the accumulated outputs,
    every later one goes on from what the point before left. -/
def outsAt0 (c : Dev nD) : (n : ℕ) → n < cfg0.N → Vec F S512x3072 .bf16 × Vec F S512x512 .bf16 × Vec F S512x256 .bf16 × Vec F S512x512 .bf16 × Vec F S512x1024 .f32 × Vec F S256x1024 .f32 × Vec F S512x1024 .f32 × Vec F S1024x1024 .f32 × Vec F S1x3072 .f32 × Vec F S1x1024 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_21 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_22 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (X0_6 m c ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_21 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2, out0_B_22 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (X0_6 m c ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2)

/-- `outsAt0` at a point of case A: that case's contents. -/
theorem outsAt0_A (c : Dev nD) (t : Fin cfg0.N) (h0 : t.val % 16 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The data of the pipeline on core `c`: the arrays as the grid finds them, and after each point the inputs' blocks
    and the outputs' contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2.1
    | ⟨22, _⟩ => (outsAt0 m c t.val t.isLt).2.2.2.2.2.2.2.2.2
    | ⟨_ + 23, h⟩ => absurd h (Nat.not_lt.2 (Nat.le_add_left _ _))
  Φ _ := Pipeline.ΦA spec0 c
  q _ := fullShare
  owed _ := 0

/-- The arrays start with what the grid finds in them. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2.1 := by dsimp only [dats]
theorem after0_22 (c : Dev nD) (t : Fin cfg0.N) : (dats m 0 c).after 22 t = (outsAt0 m c t.val t.isLt).2.2.2.2.2.2.2.2.2 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- After the first point, output 17's buffer holds what the point before left. -/
theorem before0_17_B (c : Dev nD) (t : Fin cfg0.N) (h0 : ¬t.val % 16 = 0) (d) :
    (dats m 0 c).before 17 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 17 rfl t (by omega) (Bool.eq_false_iff.mpr fun h => by have := (flush0_17 _).mp h; dsimp only at this; omega)
    (fun _ => rfl) (fun _ _ => rfl)]
  dsimp only [dats]
/-- After the first point, output 18's buffer holds what the point before left. -/
theorem before0_18_B (c : Dev nD) (t : Fin cfg0.N) (h0 : ¬t.val % 16 = 0) (d) :
    (dats m 0 c).before 18 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 18 rfl t (by omega) (Bool.eq_false_iff.mpr fun h => by have := (flush0_18 _).mp h; dsimp only at this; omega)
    (fun _ => rfl) (fun _ _ => rfl)]
  dsimp only [dats]
/-- After the first point, output 19's buffer holds what the point before left. -/
theorem before0_19_B (c : Dev nD) (t : Fin cfg0.N) (h0 : ¬t.val % 16 = 0) (d) :
    (dats m 0 c).before 19 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 19 rfl t (by omega) (Bool.eq_false_iff.mpr fun h => by have := (flush0_19 _).mp h; dsimp only at this; omega)
    (fun _ => rfl) (fun _ _ => rfl)]
  dsimp only [dats]
/-- After the first point, output 20's buffer holds what the point before left. -/
theorem before0_20_B (c : Dev nD) (t : Fin cfg0.N) (h0 : ¬t.val % 16 = 0) (d) :
    (dats m 0 c).before 20 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 20 rfl t (by omega) (Bool.eq_false_iff.mpr fun h => by have := (flush0_20 _).mp h; dsimp only at this; omega)
    (fun _ => rfl) (fun _ _ => rfl)]
  dsimp only [dats]
/-- After the first point, output 21's buffer holds what the point before left. -/
theorem before0_21_B (c : Dev nD) (t : Fin cfg0.N) (h0 : ¬t.val % 16 = 0) (d) :
    (dats m 0 c).before 21 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 21 rfl t (by omega) (Bool.eq_false_iff.mpr fun h => by have := (flush0_21 _).mp h; dsimp only at this; omega)
    (fun _ => rfl) (fun _ _ => rfl)]
  dsimp only [dats]
/-- After the first point, output 22's buffer holds what the point before left. -/
theorem before0_22_B (c : Dev nD) (t : Fin cfg0.N) (h0 : ¬t.val % 16 = 0) (d) :
    (dats m 0 c).before 22 t d = (outsAt0 m c (t.val - 1) (Nat.lt_of_le_of_lt (Nat.sub_le _ _) t.isLt)).2.2.2.2.2.2.2.2.2 := by
  have hN : t.val < 16 := lt_of_lt_of_eq t.isLt (show cfg0.N = 16 from N_0)
  rw [Dat.before_out_kept _ 22 rfl t (by omega) (Bool.eq_false_iff.mpr fun h => by have := (flush0_22 _).mp h; dsimp only at this; omega)
    (fun _ => rfl) (fun _ _ => rfl)]
  dsimp only [dats]

/-! ## The body obligation, at a generic point -/

/-- What the body finds at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 4000000 in
/-- The body at any point: from the windows as it finds them it runs to the windows as it leaves them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  have hN : t.val < 16 := lt_of_lt_of_eq t.isLt (show cfg0.N = 16 from N_0)
  by_cases h0 : t.val % 16 = 0
  · rw [outsAt0_A m c t h0]
    unfold out0_A_13 out0_A_14 out0_A_15 out0_A_16 out0_A_17 out0_A_18 out0_A_19 out0_A_20 out0_A_21 out0_A_22; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t)).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_17_B m c t h0, before0_18_B m c t h0, before0_19_B m c t h0, before0_20_B m c t h0, before0_21_B m c t h0, before0_22_B m c t h0]
    unfold out0_B_13 out0_B_14 out0_B_15 out0_B_16 out0_B_17 out0_B_18 out0_B_19 out0_B_20 out0_B_21 out0_B_22; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (X0_6 m c t) (iblk m c 7 t) (iblk m c 8 t) (iblk m c 9 t) (iblk m c 10 t) (iblk m c 11 t) (iblk m c 12 t) _ _ _ _ _ _).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexact H17
    isplitl [H18]; · iexact H18
    isplitl [H19]; · iexact H19
    isplitl [H20]; · iexact H20
    isplitl [H21]; · iexact H21
    isplitl [H22]; · iexact H22
    iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H21]
    · unfold owns; iexists _; isplitr
      swap; · iexact H21
      ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H22
    ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at point `t`'s buffers. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every run ends with the arrays as the points leave them, with the host's last line applied, and with no counter raised. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends with the arrays as the points leave them, with the host's last line applied. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every run keeps the arguments. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- Every run keeps the arguments and leaves no counter raised, for any values of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel10Ideal.Gen

end
-- ==== Proof.MergeBits.lean ====
/- Program 10 over bit-valued floats: its text is that of its idealization, so the run proved there over any
   float values is its run as well. -/
module
public import proofs.«01_k».proof.Proof.MergeFrame
public import proofs.«01_k».proof.Proof.Gen.Kernel10
public import proofs.«01_k».proof.Defs
@[expose] public section
set_option maxRecDepth 16384
set_option maxHeartbeats 4000000
noncomputable section
open Idealize.ShloMosaic Idealize.ShloMosaic.TcCoe Idealize.SL.Sem
open Cert

namespace Cert.Proof.MergeBits

/-- The kernel's body is the idealization's. -/
theorem body_eq : @Kernel10.cc0_merge_bwd Bits _ _ = @Kernel10Ideal.cc0_merge_bwd Bits _ _ := rfl

/-- So is what the one label of the launch runs at a point. -/
theorem label_eq : Kernel10.defs₀ (F := Bits) = Kernel10Ideal.defs₀ (F := Bits) := by
  have h := body_eq
  unfold Kernel10.defs₀ Kernel10Ideal.defs₀
  revert h
  generalize @Kernel10.cc0_merge_bwd Bits _ _ = f
  generalize @Kernel10Ideal.cc0_merge_bwd Bits _ _ = g
  intro h
  subst h
  refine congrArg (Defs.onTc (nD := Kernel10.nD) (τ := Kernel10.τ)) (funext fun l => funext fun x => ?_)
  match l, x with
  | ⟨0, _⟩, (t, s) => rfl
  | ⟨n + 1, h⟩, _ => exact absurd h (Nat.not_lt.2 (Nat.le_add_left _ _))

/-- So are the labels with those of the pipeline around them. -/
theorem defs_eq : Kernel10.defs (F := Bits) = Kernel10Ideal.defs (F := Bits) :=
  congrArg (Pipeline.defs (Kernel10Ideal.pcfgs (F := Bits))) label_eq

/-- So is the program. -/
theorem main_eq : Kernel10.main (F := Bits) = Kernel10Ideal.main (F := Bits) := rfl

end Cert.Proof.MergeBits

namespace Cert.Proof

/-- Program 10 runs, keeps its arguments and leaves no counter raised: its text is that of its idealization. -/
theorem kernel10 : Cert.quiescent_Kernel10 := by
  intro m ρ _
  rw [MergeBits.defs_eq, MergeBits.main_eq]
  exact Cert.Kernel10Ideal.Gen.frame (F := Bits) m ρ

end Cert.Proof
end
-- ==== Proof.MergeGrad.lean ====
/- The gradient of the merge, element by element: what a block of the kernel computes and what the reference does. -/
module
public import proofs.«01_k».proof.Proof.Merge
public import proofs.«01_k».proof.Proof.Gen.Kernel10Ideal.Skeleton
public import proofs.«01_k».proof.Proof.Gen.Reference10Ideal.Read
public import Idealize.ShloMosaic.Lib.Pipeline.ValueKit
public import Idealize.ShloMosaic.Lib.KernelVsHost
@[expose] public section
set_option maxRecDepth 16384
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

/-- The gate of each branch in the kernel's block. -/
theorem gate_apply (z : FVec Ideal S512x1024 .bf16) (b : FVec Ideal S1x1024 .f32) (i : S512x1024.Idx) :
    k0_pay20 (F := Ideal) (k0_pay18 z b) k0_pay19 i = Ffn.sg (z i + b (ix2 0 (i 1)))
    ∧ k0_pay21 (F := Ideal) z b i = Ffn.sg (z i + b (ix2 0 (i 1))) ∧ k0_pay22 (F := Ideal) z b i = Ffn.sg (z i + b (ix2 0 (i 1))) := by
  idx_vars i
  refine ⟨?_, ?_, ?_⟩
  all_goals
    pointwise [k0_pay18, k0_pay19, k0_pay20, k0_pay21, k0_pay22]
    simp only [Ffn.sub_zero_left]
    rfl

section Block
variable (ca : FVec Ideal S512x512 .bf16) (oa : FVec Ideal S512x256 .bf16) (om : FVec Ideal S512x512 .bf16) (z0 z1 z2 : FVec Ideal S512x1024 .bf16)
  (b0 b1 b2 : FVec Ideal S1x1024 .f32) (t dx : FVec Ideal S512x1024 .f32) (mg : FVec Ideal S512x1024 .bf16) (W : Weights) (g : FVec Ideal S1x1024 .f32)
  (r : Fin 512)

/-- The kernel's block of the gradient of the merged rows. -/
abbrev dmB : FVec Ideal S512x1024 .f32 := k0_pay14 (k0_pay12 t g dx) W.out

variable (G : Fin 512 → Grad)
/-- The blocks hold the rows `G`. -/
structure Holds : Prop where
  ca : ∀ r k, ca (ix2 r k) = (G r).ca k
  oa : ∀ r k, oa (ix2 r k) = (G r).oa k
  om : ∀ r k, om (ix2 r k) = (G r).om k
  z0 : ∀ r k, z0 (ix2 r k) = (G r).z (Merge.col 0 k)
  z1 : ∀ r k, z1 (ix2 r k) = (G r).z (Merge.col 1 k)
  z2 : ∀ r k, z2 (ix2 r k) = (G r).z (Merge.col 2 k)
  b0 : ∀ k, b0 (ix2 0 k) = W.b (ix2 0 (Merge.col 0 k))
  b1 : ∀ k, b1 (ix2 0 k) = W.b (ix2 0 (Merge.col 1 k))
  b2 : ∀ k, b2 (ix2 0 k) = W.b (ix2 0 (Merge.col 2 k))
  t : ∀ r k, t (ix2 r k) = (G r).t k
  dx : ∀ r k, dx (ix2 r k) = (G r).dx k
  mg : ∀ r k, mg (ix2 r k) = (G r).mg k

variable (H : Holds ca oa om z0 z1 z2 b0 b1 b2 t dx mg W G)
include H

/-- The gradient of the projection, through the norm. -/
theorem dt_apply (l : Fin 1024) : k0_pay12 (F := Ideal) t g dx (ix2 r l) = (G r).dt g l := by
  pointwise [k0_pay12, k0_pay10, k0_pay9, k0_pay8]
  simp only [H.t, H.dx]
  rfl

/-- The gradient of the merged rows. -/
theorem dm_apply (l : Fin 1024) : dmB t dx W g (ix2 r l) = (G r).dm W g l := by
  pointwise [dmB, k0_pay14, dt_apply _ _ _ _ _ _ _ _ _ _ _ _ _ _ r G H]
  rfl

/-- The three gates of the rows. -/
theorem gates (l : Fin 1024) : k0_pay20 (F := Ideal) (k0_pay18 z0 b0) k0_pay19 (ix2 r l) = (G r).toRow.gate W 0 l
    ∧ k0_pay21 (F := Ideal) z1 b1 (ix2 r l) = (G r).toRow.gate W 1 l ∧ k0_pay22 (F := Ideal) z2 b2 (ix2 r l) = (G r).toRow.gate W 2 l := by
  refine ⟨(gate_apply z0 b0 _).1.trans ?_, (gate_apply z1 b1 _).2.1.trans ?_, (gate_apply z2 b2 _).2.2.trans ?_⟩
  · show Ffn.sg (z0 (ix2 r l) + b0 (ix2 0 l)) = _
    rw [H.z0, H.b0]
  · show Ffn.sg (z1 (ix2 r l) + b1 (ix2 0 l)) = _
    rw [H.z1, H.b1]
  · show Ffn.sg (z2 (ix2 r l) + b2 (ix2 0 l)) = _
    rw [H.z2, H.b2]

/-- The gradients of the three gates. -/
theorem dz_apply (l : Fin 1024) :
    k0_pay23 (F := Ideal) (dmB t dx W g) (k0_pay15 ca W.ca) (k0_pay18 z0 b0) k0_pay19 (ix2 r l) = (G r).dz W g 0 l
    ∧ k0_pay29 (F := Ideal) (dmB t dx W g) (k0_pay16 oa W.oa) (k0_pay21 z1 b1) (ix2 r l) = (G r).dz W g 1 l
    ∧ k0_pay36 (F := Ideal) (dmB t dx W g) (k0_pay17 om W.om) (k0_pay22 z2 b2) (ix2 r l) = (G r).dz W g 2 l := by
  have h := gates _ _ _ _ _ _ _ _ _ _ _ _ _ r G H l
  have hd := dm_apply _ _ _ _ _ _ _ _ _ _ _ _ _ g r G H l
  refine ⟨?_, ?_, ?_⟩
  · pointwise [k0_pay23, k0_pay15]
    rw [hd, h.1, mul_assoc]
    simp only [H.ca]
    rfl
  · pointwise [k0_pay29, k0_pay16]
    rw [hd, h.2.1, mul_assoc]
    simp only [H.oa]
    rfl
  · pointwise [k0_pay36, k0_pay17]
    rw [hd, h.2.2, mul_assoc]
    simp only [H.om]
    rfl

/-- A point adds its rows' gradients of the gates to the gradient of the bias. -/
theorem db_apply (acc : FVec Ideal S1x1024 .f32) (l : Fin 1024) :
    k0_pay25 (F := Ideal) (dmB t dx W g) (k0_pay15 ca W.ca) (k0_pay18 z0 b0) k0_pay19 acc (ix2 0 l) = acc (ix2 0 l) + ∑ r, (G r).dz W g 0 l
    ∧ k0_pay31 (F := Ideal) (dmB t dx W g) (k0_pay16 oa W.oa) (k0_pay21 z1 b1) acc (ix2 0 l) = acc (ix2 0 l) + ∑ r, (G r).dz W g 1 l
    ∧ k0_pay38 (F := Ideal) (dmB t dx W g) (k0_pay17 om W.om) (k0_pay22 z2 b2) acc (ix2 0 l) = acc (ix2 0 l) + ∑ r, (G r).dz W g 2 l := by
  have h := fun r => dz_apply _ _ _ _ _ _ _ _ _ _ _ _ _ g r G H l
  refine ⟨?_, ?_, ?_⟩
  · pointwise [k0_pay25]
    simp only [fun r => (h r).1]
  · pointwise [k0_pay31]
    simp only [fun r => (h r).2.1]
  · pointwise [k0_pay38]
    simp only [fun r => (h r).2.2]

/-- The gradients of the three branch products. -/
theorem dy_apply (l : Fin 1024) :
    k0_pay26 (F := Ideal) (dmB t dx W g) (k0_pay20 (k0_pay18 z0 b0) k0_pay19) (ix2 r l) = (G r).dy W g 0 l
    ∧ k0_pay32 (F := Ideal) (dmB t dx W g) (k0_pay21 z1 b1) (ix2 r l) = (G r).dy W g 1 l
    ∧ k0_pay39 (F := Ideal) (dmB t dx W g) (k0_pay22 z2 b2) (ix2 r l) = (G r).dy W g 2 l := by
  have h := gates _ _ _ _ _ _ _ _ _ _ _ _ _ r G H l
  have hd := dm_apply _ _ _ _ _ _ _ _ _ _ _ _ _ g r G H l
  refine ⟨?_, ?_, ?_⟩
  · pointwise [k0_pay26]
    rw [hd, h.1]
    rfl
  · pointwise [k0_pay32]
    rw [hd, h.2.1]
    rfl
  · pointwise [k0_pay39]
    rw [hd, h.2.2]
    rfl

/-- The gradients of the three branches' outputs. -/
theorem dca_apply (k : Fin 512) : k0_pay28 (F := Ideal) (dmB t dx W g) (k0_pay20 (k0_pay18 z0 b0) k0_pay19) W.ca (ix2 r k)
    = prodT ((G r).dy W g 0) W.ca k := by
  pointwise [k0_pay28]
  simp only [fun l => (dy_apply _ _ _ _ _ _ _ _ _ _ _ _ _ g r G H l).1]

theorem doa_apply (k : Fin 256) : k0_pay35 (F := Ideal) (k0_pay32 (dmB t dx W g) (k0_pay21 z1 b1)) W.oa (ix2 r k)
    = prodT ((G r).dy W g 1) W.oa k := by
  pointwise [k0_pay35]
  simp only [fun l => (dy_apply _ _ _ _ _ _ _ _ _ _ _ _ _ g r G H l).2.1]

theorem dom_apply (k : Fin 512) : k0_pay1 (F := Ideal) (k0_pay39 (dmB t dx W g) (k0_pay22 z2 b2)) W.om (constant S512x512 .f32 0x00000000#32) (ix2 r k)
    = prodT ((G r).dy W g 2) W.om k := by
  pointwise [k0_pay1]
  simp only [fun l => (dy_apply _ _ _ _ _ _ _ _ _ _ _ _ _ g r G H l).2.2]

/-- A point adds its rows' parts of the gradients of the weights and of the norm's scale. -/
theorem dwca_apply (acc : FVec Ideal S512x1024 .f32) (k : Fin 512) (l : Fin 1024) :
    k0_pay27 (F := Ideal) (dmB t dx W g) (k0_pay20 (k0_pay18 z0 b0) k0_pay19) acc ca (ix2 k l)
      = acc (ix2 k l) + ∑ r, (G r).ca k * (G r).dy W g 0 l := by
  pointwise [k0_pay27]
  simp only [fun r => (dy_apply _ _ _ _ _ _ _ _ _ _ _ _ _ g r G H l).1, H.ca]

theorem dwoa_apply (acc : FVec Ideal S256x1024 .f32) (k : Fin 256) (l : Fin 1024) :
    k0_pay34 (F := Ideal) (k0_pay32 (dmB t dx W g) (k0_pay21 z1 b1)) (k0_pay33 acc) oa (ix2 k l)
      = acc (ix2 k l) + ∑ r, (G r).oa k * (G r).dy W g 1 l := by
  pointwise [k0_pay34, k0_pay33]
  simp only [fun r => (dy_apply _ _ _ _ _ _ _ _ _ _ _ _ _ g r G H l).2.1, H.oa]

theorem dwom_apply (acc : FVec Ideal S512x1024 .f32) (k : Fin 512) (l : Fin 1024) :
    k0_pay40 (F := Ideal) (dmB t dx W g) (k0_pay22 z2 b2) acc om (ix2 k l) = acc (ix2 k l) + ∑ r, (G r).om k * (G r).dy W g 2 l := by
  pointwise [k0_pay40]
  simp only [fun r => (dy_apply _ _ _ _ _ _ _ _ _ _ _ _ _ g r G H l).2.2, H.om]

theorem dwout_apply (acc : FVec Ideal S1024x1024 .f32) (k l : Fin 1024) :
    k0_pay13 (F := Ideal) (k0_pay12 t g dx) acc mg (ix2 k l) = acc (ix2 k l) + ∑ r, (G r).mg k * (G r).dt g l := by
  pointwise [k0_pay13]
  simp only [fun r => dt_apply _ _ _ _ _ _ _ _ _ _ _ _ _ g r G H l, H.mg]

theorem dg_apply (acc : FVec Ideal S1x1024 .f32) (l : Fin 1024) :
    k0_pay11 (F := Ideal) t dx acc (ix2 0 l) = acc (ix2 0 l) + ∑ r, (G r).dx l * ((G r).t l * Norm.rs (G r).t) := by
  pointwise [k0_pay11, k0_pay10, k0_pay9, k0_pay8]
  simp only [H.t, H.dx]
  rfl
end Block

/-! The reference. -/

section Reference
variable (ca : FVec Ideal S8192x512 .bf16) (oa : FVec Ideal S8192x256 .bf16) (om : FVec Ideal S8192x512 .bf16) (z : FVec Ideal S8192x6912 .bf16)
  (W : Weights) (g : FVec Ideal S1x1024 .f32) (dx : FVec Ideal S8192x1024 .f32) (r : Fin 8192)

/-- The rows of the argument arrays, with the merged row and its projection as the reference computes them. -/
abbrev gradOf : Grad where
  ca k := ca (ix2 r k)
  oa k := oa (ix2 r k)
  om k := om (ix2 r k)
  z k := z (ix2 r ⟨k.val, by omega⟩)
  t j := val_main_v35 (F := Ideal) ca oa om z W.ca W.oa W.om W.out W.b (ix2 r j)
  mg j := val_main_v34 (F := Ideal) ca oa om z W.ca W.oa W.om W.b (ix2 r j)
  dx j := dx (ix2 r j)

/-- The reference's gates, all columns. -/
theorem reference_gates (k : Fin 3072) : val_main_v16 (F := Ideal) z W.b (ix2 r k) = Ffn.sg (z (ix2 r ⟨k.val, by omega⟩) + W.b (ix2 0 k)) := by
  pointwise [val_main_v16, val_main_v15, val_main_v14, val_main_v13, val_main_v12, val_main_v11, val_main_v10, val_main_v9, val_main_v4, val_main_v0,
    val_main_cst, val_main_cst_0]
  rfl

/-- The reference's gate of each branch. -/
theorem reference_gate (l : Fin 1024) : val_main_v22 (F := Ideal) z W.b (ix2 r l) = (gradOf ca oa om z W dx r).toRow.gate W 0 l
    ∧ val_main_v26 (F := Ideal) z W.b (ix2 r l) = (gradOf ca oa om z W dx r).toRow.gate W 1 l
    ∧ val_main_v31 (F := Ideal) z W.b (ix2 r l) = (gradOf ca oa om z W dx r).toRow.gate W 2 l := by
  refine ⟨?_, ?_, ?_⟩
  · rw [val_main_v22_apply, val_main_v21_apply, val_main_v20_apply]
    exact (congrArg _ (by blk_ext)).trans (reference_gates z W r (Merge.col 0 l))
  · rw [val_main_v26_apply, val_main_v25_apply, val_main_v20_apply]
    exact (congrArg _ (by blk_ext)).trans (reference_gates z W r (Merge.col 1 l))
  · rw [val_main_v31_apply, val_main_v30_apply, val_main_v20_apply]
    exact (congrArg _ (by blk_ext)).trans (reference_gates z W r (Merge.col 2 l))

/-- The reference's gradient of the norm's scale. -/
theorem reference_dg (l : Fin 1024) : val_main_v53 (F := Ideal) ca oa om z W.ca W.oa W.om W.out W.b dx (ix2 0 l)
    = ∑ r, (gradOf ca oa om z W dx r).dx l * ((gradOf ca oa om z W dx r).t l * Norm.rs (gradOf ca oa om z W dx r).t) := by
  pointwise [val_main_v53, val_main_v52, val_main_v51, val_main_v48, val_main_v47, val_main_v43, val_main_v42, val_main_v41, val_main_v40, val_main_v39,
    val_main_v38, val_main_v37, val_main_v36, val_main_cst_2, val_main_cst_3, val_main_cst_4, val_main_cst_6]
  exact Finset.sum_congr rfl fun _ _ => mul_comm _ _

/-- The reference's gradient of the projection. -/
theorem reference_dt (l : Fin 1024) : val_main_v69 (F := Ideal) ca oa om z W.ca W.oa W.om W.out W.b g dx (ix2 r l) = (gradOf ca oa om z W dx r).dt g l := by
  pointwise [val_main_v69, val_main_v68, val_main_v67, val_main_v66, val_main_v65, val_main_v64, val_main_v63, val_main_v62, val_main_v61, val_main_v60,
    val_main_v59, val_main_v58, val_main_v57, val_main_v56, val_main_v55, val_main_v54, val_main_v46, val_main_v45, val_main_v44, val_main_v43, val_main_v42,
    val_main_v41, val_main_v40, val_main_v39, val_main_v38, val_main_v37, val_main_v36, val_main_cst_2, val_main_cst_3, val_main_cst_4, val_main_cst_5,
    val_main_cst_7, val_main_cst_8, val_main_cst_9]
  simp only [Finset.univ_unique, Finset.sum_singleton]
  rw [add_assoc]
  exact Norm.back_eq (gradOf ca oa om z W dx r).t (fun k => dx (ix2 r k) * g (ix2 0 k)) l

/-- The reference's gradient of the output projection's weights. -/
theorem reference_dwout (k l : Fin 1024) : val_main_v71 (F := Ideal) ca oa om z W.ca W.oa W.om W.out W.b g dx (ix2 k l)
    = ∑ r, (gradOf ca oa om z W dx r).mg k * (gradOf ca oa om z W dx r).dt g l := by
  pointwise [val_main_v71, val_main_v70, reference_dt]
  exact Finset.sum_congr rfl fun _ _ => mul_comm _ _

/-- The reference's gradient of the merged rows. -/
theorem reference_dm (l : Fin 1024) : val_main_v72 (F := Ideal) ca oa om z W.ca W.oa W.om W.out W.b g dx (ix2 r l) = (gradOf ca oa om z W dx r).dm W g l := by
  pointwise [val_main_v72, val_main_v8, reference_dt]
  rfl

/-- The reference's gradients of the three branch products. -/
theorem reference_dy (l : Fin 1024) : val_main_v88 (F := Ideal) ca oa om z W.ca W.oa W.om W.out W.b g dx (ix2 r l) = (gradOf ca oa om z W dx r).dy W g 0 l
    ∧ val_main_v80 (F := Ideal) ca oa om z W.ca W.oa W.om W.out W.b g dx (ix2 r l) = (gradOf ca oa om z W dx r).dy W g 1 l
    ∧ val_main_v73 (F := Ideal) ca oa om z W.ca W.oa W.om W.out W.b g dx (ix2 r l) = (gradOf ca oa om z W dx r).dy W g 2 l := by
  have h := reference_gate ca oa om z W dx r l
  refine ⟨?_, ?_, ?_⟩
  · pointwise [val_main_v88, reference_dm]
    rw [h.1]
    exact mul_comm _ _
  · pointwise [val_main_v80, reference_dm]
    rw [h.2.1]
    exact mul_comm _ _
  · pointwise [val_main_v73, reference_dm]
    rw [h.2.2]
    exact mul_comm _ _

/-- The reference's gradients of the branches' weights. -/
theorem reference_dw_ca (k : Fin 512) (l : Fin 1024) : val_main_v91 (F := Ideal) ca oa om z W.ca W.oa W.om W.out W.b g dx (ix2 k l)
    = ∑ r, (gradOf ca oa om z W dx r).ca k * (gradOf ca oa om z W dx r).dy W g 0 l := by
  pointwise [val_main_v91, val_main_v90, val_main_v1]
  simp only [fun r => (reference_dy ca oa om z W g dx r l).1]
  exact Finset.sum_congr rfl fun _ _ => mul_comm _ _

theorem reference_dw_oa (k : Fin 256) (l : Fin 1024) : val_main_v83 (F := Ideal) ca oa om z W.ca W.oa W.om W.out W.b g dx (ix2 k l)
    = ∑ r, (gradOf ca oa om z W dx r).oa k * (gradOf ca oa om z W dx r).dy W g 1 l := by
  pointwise [val_main_v83, val_main_v82, val_main_v2]
  simp only [fun r => (reference_dy ca oa om z W g dx r l).2.1]
  exact Finset.sum_congr rfl fun _ _ => mul_comm _ _

theorem reference_dw_om (k : Fin 512) (l : Fin 1024) : val_main_v76 (F := Ideal) ca oa om z W.ca W.oa W.om W.out W.b g dx (ix2 k l)
    = ∑ r, (gradOf ca oa om z W dx r).om k * (gradOf ca oa om z W dx r).dy W g 2 l := by
  pointwise [val_main_v76, val_main_v75, val_main_v3]
  simp only [fun r => (reference_dy ca oa om z W g dx r l).2.2]
  exact Finset.sum_congr rfl fun _ _ => mul_comm _ _

/-- The reference's gradients of the branches' outputs. -/
theorem reference_ca (k : Fin 512) : val_main_v101 (F := Ideal) ca oa om z W.ca W.oa W.om W.out W.b g dx (ix2 r k) = prodT ((gradOf ca oa om z W dx r).dy W g 0) W.ca k := by
  pointwise [val_main_v101, val_main_v92, val_main_v5]
  simp only [fun l => (reference_dy ca oa om z W g dx r l).1]

theorem reference_oa (k : Fin 256) : val_main_v102 (F := Ideal) ca oa om z W.ca W.oa W.om W.out W.b g dx (ix2 r k) = prodT ((gradOf ca oa om z W dx r).dy W g 1) W.oa k := by
  pointwise [val_main_v102, val_main_v84, val_main_v6]
  simp only [fun l => (reference_dy ca oa om z W g dx r l).2.1]

theorem reference_om (k : Fin 512) : val_main_v103 (F := Ideal) ca oa om z W.ca W.oa W.om W.out W.b g dx (ix2 r k) = prodT ((gradOf ca oa om z W dx r).dy W g 2) W.om k := by
  pointwise [val_main_v103, val_main_v77, val_main_v7]
  simp only [fun l => (reference_dy ca oa om z W g dx r l).2.2]

/-- The gradients of the three gates' values. -/
theorem reference_y (l : Fin 1024) : val_main_v89 (F := Ideal) ca oa om z W.ca W.oa W.om W.out W.b g dx (ix2 r l)
      = (gradOf ca oa om z W dx r).dm W g l * (gradOf ca oa om z W dx r).toRow.y W 0 l
    ∧ val_main_v81 (F := Ideal) ca oa om z W.ca W.oa W.om W.out W.b g dx (ix2 r l) = (gradOf ca oa om z W dx r).dm W g l * (gradOf ca oa om z W dx r).toRow.y W 1 l
    ∧ val_main_v74 (F := Ideal) ca oa om z W.ca W.oa W.om W.out W.b g dx (ix2 r l) = (gradOf ca oa om z W dx r).dm W g l * (gradOf ca oa om z W dx r).toRow.y W 2 l := by
  refine ⟨?_, ?_, ?_⟩
  · pointwise [val_main_v89, reference_dm, val_main_v23, val_main_v1, val_main_v5]
    rfl
  · pointwise [val_main_v81, reference_dm, val_main_v27, val_main_v2, val_main_v6]
    rfl
  · pointwise [val_main_v74, reference_dm, val_main_v32, val_main_v3, val_main_v7]
    rfl

/-- An array put at place `p` of three on the middle axis, zeros at the others. -/
theorem pad_at (x : FVec Ideal Reference10Ideal.S8192x1x1024 .f32) (v : FVec Ideal Reference10Ideal.S_ .f32) (hv : ∀ i, v i = 0) (p n : ℕ)
    (h : Reference10Ideal.S8192x1x1024.Pads ![0, p, 0] ![0, n, 0] ![0, 0, 0] Reference10Ideal.S8192x3x1024) (hu : 0 < Reference10Ideal.S_.numel) (q : Fin 3) (l : Fin 1024) :
    pad Reference10Ideal.S8192x3x1024 ![0, p, 0] ![0, n, 0] ![0, 0, 0] x v h hu (ix3 r q l) = if q.val = p then x (ix3 r 0 l) else 0 := by
  split
  · rename_i e
    refine pad_apply_of_inside _ _ _ _ _ _ _ _ (ix3 r 0 l) fun a => ?_
    fin_cases a
    · show r.val = 0 + r.val * 1
      omega
    · show q.val = p + 0 * 1
      omega
    · show l.val = 0 + l.val * 1
      omega
  · rename_i e
    refine (pad_apply_of_not_inside _ _ _ _ _ _ _ _ 1 fun hh => e ?_).trans (hv _)
    obtain ⟨h1, -, h3⟩ := hh
    have h1 : p ≤ q.val := h1
    have h3 : (q.val - p) / (0 + 1) < 1 := h3
    omega

/-- The gates' values side by side. -/
theorem reference_parts (q : Fin 3) (l : Fin 1024) : val_main_v95 (F := Ideal) ca oa om z W.ca W.oa W.om W.out W.b g dx (ix3 r q l)
    = (gradOf ca oa om z W dx r).dm W g l * (gradOf ca oa om z W dx r).toRow.y W q l := by
  have h := reference_y ca oa om z W g dx r l
  have z0 : Ideal.ofBits FTy.f32 0x00000000#32 = 0 := by simp [Ideal.ofBits, Ideal.ieee]
  refine (congrArg₂ (· + ·) (congrArg₂ (· + ·)
    (pad_at r (val_main_v78 (F := Ideal) ca oa om z W.ca W.oa W.om W.out W.b g dx) (val_main_cst_10 (F := Ideal)) (fun _ => z0) 2 0 Reference10Ideal.Gen.pads_S8192x1x1024_S8192x3x1024_000_200_000 Reference10Ideal.Gen.h_S_ q l)
    (pad_at r (val_main_v85 (F := Ideal) ca oa om z W.ca W.oa W.om W.out W.b g dx) (val_main_cst_11 (F := Ideal)) (fun _ => z0) 1 1 Reference10Ideal.Gen.pads_S8192x1x1024_S8192x3x1024_000_110_000 Reference10Ideal.Gen.h_S_ q l))
    (pad_at r (val_main_v93 (F := Ideal) ca oa om z W.ca W.oa W.om W.out W.b g dx) (val_main_cst_12 (F := Ideal)) (fun _ => z0) 0 2 Reference10Ideal.Gen.pads_S8192x1x1024_S8192x3x1024_000_020_000 Reference10Ideal.Gen.h_S_ q l)).trans ?_
  fin_cases q
  · show (0 : EReal) + 0 + val_main_v93 (F := Ideal) ca oa om z W.ca W.oa W.om W.out W.b g dx (ix3 r 0 l) = _
    rw [zero_add, zero_add, val_main_v93_apply]
    exact (congrArg _ (by blk_ext)).trans h.1
  · show (0 : EReal) + val_main_v85 (F := Ideal) ca oa om z W.ca W.oa W.om W.out W.b g dx (ix3 r 0 l) + 0 = _
    rw [zero_add, add_zero, val_main_v85_apply]
    exact (congrArg _ (by blk_ext)).trans h.2.1
  · show val_main_v78 (F := Ideal) ca oa om z W.ca W.oa W.om W.out W.b g dx (ix3 r 0 l) + (0 : EReal) + 0 = _
    rw [add_zero, add_zero, val_main_v78_apply]
    exact (congrArg _ (by blk_ext)).trans h.2.2

/-- The reference's gradient of the gates before their sigmoid. -/
theorem reference_dz (q : Fin 3) (l : Fin 1024) : val_main_v97 (F := Ideal) ca oa om z W.ca W.oa W.om W.out W.b g dx (ix2 r (Merge.col q l)) = (gradOf ca oa om z W dx r).dz W g q l := by
  pointwise [val_main_v97, val_main_v19, val_main_v18, val_main_v17, val_main_cst_1, reference_gates]
  rw [val_main_v96_apply]
  rw [show idx_main_v96 (ix2 r (Merge.col q l)) = ix3 r q l by blk_ext, reference_parts]
  rfl

/-- The reference's gradient of the gates' bias. -/
theorem reference_db (q : Fin 3) (l : Fin 1024) : val_main_v99 (F := Ideal) ca oa om z W.ca W.oa W.om W.out W.b g dx (ix2 0 (Merge.col q l)) = ∑ r, (gradOf ca oa om z W dx r).dz W g q l := by
  pointwise [val_main_v99, val_main_v98, val_main_cst_13]
  exact Finset.sum_congr rfl fun r _ => (congrArg _ (by blk_ext)).trans (reference_dz ca oa om z W g dx r q l)
end Reference
end Cert.Kernel10Ideal.Final
end
-- ==== Proof.Head.lean ====
/- What the body computes for one head, as sums over the block: the softmax, the gradient of the logits, and the three products. -/
module
public import proofs.«01_k».proof.Proof.Gen.KernelIdeal.Skeleton
public import proofs.«01_k».proof.Proof.Law
public import Idealize.ShloMosaic.Lib.Pointwise
@[expose] public section
set_option maxRecDepth 16384
noncomputable section
open Idealize.ShloMosaic Idealize.ShloMosaic.TcCoe Idealize.SL.Sem

namespace Cert.KernelIdeal.Head
open Cert.KernelIdeal Cert.KernelIdeal.Gen

variable (k v : FVec Ideal S256x128 .bf16) (q d : FVec Ideal S512x128 .bf16) (acc : FVec Ideal S256x128 .f32)

/-- The scale of the logits. -/
abbrev scale : EReal := Ideal.ofBits FTy.f32 0x3DB504F3#32
/-- The logits of one row of the block. -/
def lg (r : Fin 512) (j : Fin 256) : EReal := (∑ x : Fin 128, q (ix2 r x) * k (ix2 j x)) * scale
/-- The gradient of the probabilities of one row of the block. -/
def dp (r : Fin 512) (j : Fin 256) : EReal := ∑ x : Fin 128, d (ix2 r x) * v (ix2 j x)
/-- The gradient of the values that the block adds. -/
def dv (j : Fin 256) (x : Fin 128) : EReal := ∑ r : Fin 512, Law.pr (lg k q r) j * d (ix2 r x)
/-- The gradient of the keys that the block adds. -/
def dk (j : Fin 256) (x : Fin 128) : EReal := (∑ r : Fin 512, Law.ds (lg k q r) (dp v d r) j * q (ix2 r x)) * scale
/-- The gradient of the queries of the block. -/
def dq (r : Fin 512) (x : Fin 128) : EReal := (∑ j : Fin 256, Law.ds (lg k q r) (dp v d r) j * k (ix2 j x)) * scale

/-! ## Head 0 -/

theorem p0 (r : Fin 512) (j : Fin 256) : k0_pay2 (F := Ideal) k q (ix2 r j) = Law.pr (lg k q r) j := by
  unfold k0_pay2 Law.pr Law.tot Law.ex Law.top lg
  pointwise

theorem dv0 (j : Fin 256) (x : Fin 128) :
    k0_pay3 (F := Ideal) k q d acc (ix2 j x) = acc (ix2 j x) + dv k q d j x := by
  have e := p0 k q
  unfold k0_pay3 dv
  simp only [← e]
  generalize k0_pay2 (F := Ideal) k q = P
  pointwise

theorem ds0 (r : Fin 512) (j : Fin 256) :
    k0_pay4 (F := Ideal) k v q d (ix2 r j) = Law.ds (lg k q r) (dp v d r) j := by
  have e := p0 k q
  unfold k0_pay4 Law.ds dp
  simp only [← e]
  generalize k0_pay2 (F := Ideal) k q = P
  pointwise

theorem dq0 (r : Fin 512) (x : Fin 128) :
    k0_pay6 (F := Ideal) (k0_pay5 (F := Ideal) k v q d) (FloatOps.ofBits .f32 0x3DB504F3#32) (ix2 r x) = dq k v q d r x := by
  have e := ds0 k v q d
  unfold k0_pay6 k0_pay5 dq
  simp only [← e]
  generalize k0_pay4 (F := Ideal) k v q d = P
  pointwise

theorem dk0 (j : Fin 256) (x : Fin 128) :
    k0_pay7 (F := Ideal) q (k0_pay4 (F := Ideal) k v q d) acc (ix2 j x) = acc (ix2 j x) + dk k v q d j x := by
  have e := ds0 k v q d
  unfold k0_pay7 dk
  simp only [← e]
  generalize k0_pay4 (F := Ideal) k v q d = P
  pointwise

/-! ## Head 1 -/

theorem p1 (r : Fin 512) (j : Fin 256) : k0_pay8 (F := Ideal) k q (ix2 r j) = Law.pr (lg k q r) j := by
  unfold k0_pay8 Law.pr Law.tot Law.ex Law.top lg
  pointwise

theorem dv1 (j : Fin 256) (x : Fin 128) :
    k0_pay9 (F := Ideal) k q d acc (ix2 j x) = acc (ix2 j x) + dv k q d j x := by
  have e := p1 k q
  unfold k0_pay9 dv
  simp only [← e]
  generalize k0_pay8 (F := Ideal) k q = P
  pointwise

theorem ds1 (r : Fin 512) (j : Fin 256) :
    k0_pay10 (F := Ideal) v d (k0_pay8 (F := Ideal) k q) (ix2 r j) = Law.ds (lg k q r) (dp v d r) j := by
  have e := p1 k q
  unfold k0_pay10 Law.ds dp
  simp only [← e]
  generalize k0_pay8 (F := Ideal) k q = P
  pointwise

theorem dq1 (r : Fin 512) (x : Fin 128) :
    k0_pay11 (F := Ideal) k v d (k0_pay8 (F := Ideal) k q) (ix2 r x) = dq k v q d r x := by
  have e := ds1 k v q d
  unfold k0_pay11 dq
  simp only [← e]
  generalize k0_pay10 (F := Ideal) v d (k0_pay8 (F := Ideal) k q) = P
  pointwise

theorem dk1 (j : Fin 256) (x : Fin 128) :
    k0_pay12 (F := Ideal) v q d (k0_pay8 (F := Ideal) k q) acc (ix2 j x) = acc (ix2 j x) + dk k v q d j x := by
  have e := ds1 k v q d
  unfold k0_pay12 dk
  simp only [← e]
  generalize k0_pay10 (F := Ideal) v d (k0_pay8 (F := Ideal) k q) = P
  pointwise

/-! ## Head 2 -/

theorem p2 (r : Fin 512) (j : Fin 256) : k0_pay15 (F := Ideal) (k0_pay13 (F := Ideal) k q) (k0_pay14 (F := Ideal) k q) (ix2 r j) = Law.pr (lg k q r) j := by
  unfold k0_pay15 k0_pay14 k0_pay13 Law.pr Law.tot Law.ex Law.top lg
  pointwise

theorem dv2 (j : Fin 256) (x : Fin 128) :
    k0_pay16 (F := Ideal) d (k0_pay13 (F := Ideal) k q) (k0_pay14 (F := Ideal) k q) acc (ix2 j x) = acc (ix2 j x) + dv k q d j x := by
  have e := p2 k q
  unfold k0_pay16 dv
  simp only [← e]
  generalize k0_pay15 (F := Ideal) (k0_pay13 (F := Ideal) k q) (k0_pay14 (F := Ideal) k q) = P
  pointwise

theorem ds2 (r : Fin 512) (j : Fin 256) :
    k0_pay17 (F := Ideal) v d (k0_pay13 (F := Ideal) k q) (k0_pay14 (F := Ideal) k q) (ix2 r j) = Law.ds (lg k q r) (dp v d r) j := by
  have e := p2 k q
  unfold k0_pay17 Law.ds dp
  simp only [← e]
  generalize k0_pay15 (F := Ideal) (k0_pay13 (F := Ideal) k q) (k0_pay14 (F := Ideal) k q) = P
  pointwise

theorem dq2 (r : Fin 512) (x : Fin 128) :
    k0_pay18 (F := Ideal) k v d (k0_pay13 (F := Ideal) k q) (k0_pay14 (F := Ideal) k q) (ix2 r x) = dq k v q d r x := by
  have e := ds2 k v q d
  unfold k0_pay18 dq
  simp only [← e]
  generalize k0_pay17 (F := Ideal) v d (k0_pay13 (F := Ideal) k q) (k0_pay14 (F := Ideal) k q) = P
  pointwise

theorem dk2 (j : Fin 256) (x : Fin 128) :
    k0_pay19 (F := Ideal) v q d (k0_pay13 (F := Ideal) k q) (k0_pay14 (F := Ideal) k q) acc (ix2 j x) = acc (ix2 j x) + dk k v q d j x := by
  have e := ds2 k v q d
  unfold k0_pay19 dk
  simp only [← e]
  generalize k0_pay17 (F := Ideal) v d (k0_pay13 (F := Ideal) k q) (k0_pay14 (F := Ideal) k q) = P
  pointwise

/-! ## Head 3 -/

theorem p3 (r : Fin 512) (j : Fin 256) : k0_pay20 (F := Ideal) k q (ix2 r j) = Law.pr (lg k q r) j := by
  unfold k0_pay20 Law.pr Law.tot Law.ex Law.top lg
  pointwise

theorem dv3 (j : Fin 256) (x : Fin 128) :
    k0_pay21 (F := Ideal) k q d acc (ix2 j x) = acc (ix2 j x) + dv k q d j x := by
  have e := p3 k q
  unfold k0_pay21 dv
  simp only [← e]
  generalize k0_pay20 (F := Ideal) k q = P
  pointwise

theorem ds3 (r : Fin 512) (j : Fin 256) :
    k0_pay22 (F := Ideal) k v q d (ix2 r j) = Law.ds (lg k q r) (dp v d r) j := by
  have e := p3 k q
  unfold k0_pay22 Law.ds dp
  simp only [← e]
  generalize k0_pay20 (F := Ideal) k q = P
  pointwise

theorem dq3 (r : Fin 512) (x : Fin 128) :
    k0_pay23 (F := Ideal) k v q d (ix2 r x) = dq k v q d r x := by
  have e := ds3 k v q d
  unfold k0_pay23 dq
  simp only [← e]
  generalize k0_pay22 (F := Ideal) k v q d = P
  pointwise

theorem dk3 (j : Fin 256) (x : Fin 128) :
    k0_pay24 (F := Ideal) k v q d acc (ix2 j x) = acc (ix2 j x) + dk k v q d j x := by
  have e := ds3 k v q d
  unfold k0_pay24 dk
  simp only [← e]
  generalize k0_pay22 (F := Ideal) k v q d = P
  pointwise

/-- The block that the first point starts from is zero. -/
theorem zero_apply (j : S256x1024.Idx) : k0_pay1 (F := Ideal) j = 0 := by
  idx_vars j
  pointwise [k0_pay1]

end Cert.KernelIdeal.Head
end
-- ==== Proof.Block.lean ====
/- What a grid point leaves in the two output blocks, over the blocks of its inputs. -/
module
public import proofs.«01_k».proof.Proof.Gen.KernelIdeal.Value
public import proofs.«01_k».proof.Proof.Head
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem

namespace Cert.KernelIdeal.Block
open Cert.KernelIdeal Cert.KernelIdeal.Gen

variable (Q D : Vec Ideal S512x512 .bf16) (KV : Vec Ideal S256x1024 .bf16)

/-- The columns of head `h` of the queries, or of the gradient of the output. -/
def rows (h : Fin 4) : FVec Ideal S512x128 .bf16 := fun i =>
  Q (ix2 (⟨(i 0).val, (i 0).isLt⟩ : Fin 512) (⟨h.val * 128 + (i 1).val, by have : (i 1).val < 128 := (i 1).isLt; omega⟩ : Fin 512))
/-- The keys of head `h`. -/
def keys (h : Fin 4) : FVec Ideal S256x128 .bf16 := fun i =>
  KV (ix2 (⟨(i 0).val, (i 0).isLt⟩ : Fin 256) (⟨h.val * 128 + (i 1).val, by have : (i 1).val < 128 := (i 1).isLt; omega⟩ : Fin 1024))
/-- The values of head `h`. -/
def vals (h : Fin 4) : FVec Ideal S256x128 .bf16 := fun i =>
  KV (ix2 (⟨(i 0).val, (i 0).isLt⟩ : Fin 256) (⟨512 + h.val * 128 + (i 1).val, by have : (i 1).val < 128 := (i 1).isLt; omega⟩ : Fin 1024))

/-- What a point adds to the gradient of the keys and values: of the keys in the first 512 columns, of the values in the last. -/
def part (j : Fin 256) (l : Fin 1024) : EReal :=
  if l.val < 512 then
    Head.dk (keys KV ⟨l.val / 128 % 4, by omega⟩) (vals KV ⟨l.val / 128 % 4, by omega⟩) (rows Q ⟨l.val / 128 % 4, by omega⟩)
      (rows D ⟨l.val / 128 % 4, by omega⟩) j ⟨l.val % 128, by omega⟩
  else
    Head.dv (keys KV ⟨l.val / 128 % 4, by omega⟩) (rows Q ⟨l.val / 128 % 4, by omega⟩)
      (rows D ⟨l.val / 128 % 4, by omega⟩) j ⟨l.val % 128, by omega⟩
/-- What a point writes into the gradient of the queries. -/
def query (r : Fin 512) (l : Fin 512) : EReal :=
  Head.dq (keys KV ⟨l.val / 128, by omega⟩) (vals KV ⟨l.val / 128, by omega⟩) (rows Q ⟨l.val / 128, by omega⟩)
    (rows D ⟨l.val / 128, by omega⟩) r ⟨l.val % 128, by omega⟩

theorem part_dk (h : Fin 4) (j : Fin 256) (x : Fin 128) (l : Fin 1024) (hl : l.val = h.val * 128 + x.val) :
    part Q D KV j l = Head.dk (keys KV h) (vals KV h) (rows Q h) (rows D h) j x := by
  have e : (⟨l.val / 128 % 4, by omega⟩ : Fin 4) = h := Fin.ext (by show l.val / 128 % 4 = h.val; omega)
  have e' : (⟨l.val % 128, by omega⟩ : Fin 128) = x := Fin.ext (by show l.val % 128 = x.val; omega)
  unfold part
  rw [if_pos (by omega), e, e']
theorem part_dv (h : Fin 4) (j : Fin 256) (x : Fin 128) (l : Fin 1024) (hl : l.val = 512 + h.val * 128 + x.val) :
    part Q D KV j l = Head.dv (keys KV h) (rows Q h) (rows D h) j x := by
  have e : (⟨l.val / 128 % 4, by omega⟩ : Fin 4) = h := Fin.ext (by show l.val / 128 % 4 = h.val; omega)
  have e' : (⟨l.val % 128, by omega⟩ : Fin 128) = x := Fin.ext (by show l.val % 128 = x.val; omega)
  unfold part
  rw [if_neg (by omega), e, e']
theorem query_dq (h : Fin 4) (r : Fin 512) (x : Fin 128) (l : Fin 512) (hl : l.val = h.val * 128 + x.val) :
    query Q D KV r l = Head.dq (keys KV h) (vals KV h) (rows Q h) (rows D h) r x := by
  have e : (⟨l.val / 128, by omega⟩ : Fin 4) = h := Fin.ext (by show l.val / 128 = h.val; omega)
  have e' : (⟨l.val % 128, by omega⟩ : Fin 128) = x := Fin.ext (by show l.val % 128 = x.val; omega)
  unfold query
  rw [e, e']

/-- A load of a block, at one place of it. -/
theorem ld_at {n k a b : ℕ} {e : EltTy} (M : Vec Ideal ⟨2, ![n, k]⟩ e) (o p : ℕ) (inb) (i : (⟨2, ![a, b]⟩ : Shape).Idx) (r : Fin n) (l : Fin k)
    (h0 : r.val = o + (i 0).val) (h1 : l.val = p + (i 1).val) :
    View.ld (Val := Elt Ideal) (e' := e) M (Rect.unit (s := ⟨2, ![n, k]⟩) ![o, p] ![a, b] inb) i = M (ix2 r l) := by
  refine (congrArg M ?_ : M ((Rect.unit (s := ⟨2, ![n, k]⟩) ![o, p] ![a, b] inb).emb i) = M (ix2 r l))
  funext q
  refine Fin.ext ?_
  rw [Rect.emb_apply]
  match q with
  | ⟨0, _⟩ => show o + 1 * (i 0).val = r.val; omega
  | ⟨1, _⟩ => show p + 1 * (i 1).val = l.val; omega

theorem rows0 (inb) : (View.ld (Val := Elt Ideal) (e' := .bf16) Q (Rect.unit (s := S512x512) ![0, 0] ![512, 128] inb) : FVec Ideal S512x128 .bf16) = rows Q 0 := by
  funext i
  unfold rows
  exact ld_at _ _ _ inb i _ _ (by show (i 0).val = 0 + (i 0).val; omega) (by simp)
theorem keys0 (inb) : (View.ld (Val := Elt Ideal) (e' := .bf16) KV (Rect.unit (s := S256x1024) ![0, 0] ![256, 128] inb) : FVec Ideal S256x128 .bf16) = keys KV 0 := by
  funext i
  unfold keys
  exact ld_at _ _ _ inb i _ _ (by show (i 0).val = 0 + (i 0).val; omega) (by simp)
theorem vals0 (inb) : (View.ld (Val := Elt Ideal) (e' := .bf16) KV (Rect.unit (s := S256x1024) ![0, 512] ![256, 128] inb) : FVec Ideal S256x128 .bf16) = vals KV 0 := by
  funext i
  unfold vals
  exact ld_at _ _ _ inb i _ _ (by show (i 0).val = 0 + (i 0).val; omega) (by simp)
theorem rows1 (inb) : (View.ld (Val := Elt Ideal) (e' := .bf16) Q (Rect.unit (s := S512x512) ![0, 128] ![512, 128] inb) : FVec Ideal S512x128 .bf16) = rows Q 1 := by
  funext i
  unfold rows
  exact ld_at _ _ _ inb i _ _ (by show (i 0).val = 0 + (i 0).val; omega) (by simp)
theorem keys1 (inb) : (View.ld (Val := Elt Ideal) (e' := .bf16) KV (Rect.unit (s := S256x1024) ![0, 128] ![256, 128] inb) : FVec Ideal S256x128 .bf16) = keys KV 1 := by
  funext i
  unfold keys
  exact ld_at _ _ _ inb i _ _ (by show (i 0).val = 0 + (i 0).val; omega) (by simp)
theorem vals1 (inb) : (View.ld (Val := Elt Ideal) (e' := .bf16) KV (Rect.unit (s := S256x1024) ![0, 640] ![256, 128] inb) : FVec Ideal S256x128 .bf16) = vals KV 1 := by
  funext i
  unfold vals
  exact ld_at _ _ _ inb i _ _ (by show (i 0).val = 0 + (i 0).val; omega) (by simp)
theorem rows2 (inb) : (View.ld (Val := Elt Ideal) (e' := .bf16) Q (Rect.unit (s := S512x512) ![0, 256] ![512, 128] inb) : FVec Ideal S512x128 .bf16) = rows Q 2 := by
  funext i
  unfold rows
  exact ld_at _ _ _ inb i _ _ (by show (i 0).val = 0 + (i 0).val; omega) (by simp)
theorem keys2 (inb) : (View.ld (Val := Elt Ideal) (e' := .bf16) KV (Rect.unit (s := S256x1024) ![0, 256] ![256, 128] inb) : FVec Ideal S256x128 .bf16) = keys KV 2 := by
  funext i
  unfold keys
  exact ld_at _ _ _ inb i _ _ (by show (i 0).val = 0 + (i 0).val; omega) (by simp)
theorem vals2 (inb) : (View.ld (Val := Elt Ideal) (e' := .bf16) KV (Rect.unit (s := S256x1024) ![0, 768] ![256, 128] inb) : FVec Ideal S256x128 .bf16) = vals KV 2 := by
  funext i
  unfold vals
  exact ld_at _ _ _ inb i _ _ (by show (i 0).val = 0 + (i 0).val; omega) (by simp)
theorem rows3 (inb) : (View.ld (Val := Elt Ideal) (e' := .bf16) Q (Rect.unit (s := S512x512) ![0, 384] ![512, 128] inb) : FVec Ideal S512x128 .bf16) = rows Q 3 := by
  funext i
  unfold rows
  exact ld_at _ _ _ inb i _ _ (by show (i 0).val = 0 + (i 0).val; omega) (by simp)
theorem keys3 (inb) : (View.ld (Val := Elt Ideal) (e' := .bf16) KV (Rect.unit (s := S256x1024) ![0, 384] ![256, 128] inb) : FVec Ideal S256x128 .bf16) = keys KV 3 := by
  funext i
  unfold keys
  exact ld_at _ _ _ inb i _ _ (by show (i 0).val = 0 + (i 0).val; omega) (by simp)
theorem vals3 (inb) : (View.ld (Val := Elt Ideal) (e' := .bf16) KV (Rect.unit (s := S256x1024) ![0, 896] ![256, 128] inb) : FVec Ideal S256x128 .bf16) = vals KV 3 := by
  funext i
  unfold vals
  exact ld_at _ _ _ inb i _ _ (by show (i 0).val = 0 + (i 0).val; omega) (by simp)

/-- Stores all of whose indices one of the later stores covers leave nothing behind. -/
theorem canon_dropLast {S : Shape} {e : EltTy} (y : S.Idx) : ∀ (L : List (View.Piece (Elt Ideal) S e)),
    (∃ p ∈ L.dropLast, y ∈ p.1.set) → View.canon L y = View.canon L.dropLast y
  | [], h => by simp at h
  | [p], h => by simp at h
  | p :: p' :: L, h => by
    rw [List.dropLast_cons_cons] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast y (p' :: L) ?_
      obtain ⟨q, hq, hyq⟩ := h
      rcases List.mem_cons.mp hq with rfl | hq'
      · exact absurd hyq hm
      · exact ⟨q, hq', hyq⟩

variable (A : Vec Ideal S256x1024 .f32)

/-- The store of head 3's gradient of the keys. -/
theorem dk_3 (j : Fin 256) (l : Fin 1024) (x : S256x128.Idx) (h0 : j.val = (x 0).val) (h1 : l.val = 384 + (x 1).val) :
    k0_pay24 (F := Ideal) (View.ld (Val := Elt Ideal) (e' := .bf16) KV (Rect.unit (s := S256x1024) ![0, 384] ![256, 128] (by decide)) : FVec Ideal S256x128 .bf16) (View.ld (Val := Elt Ideal) (e' := .bf16) KV (Rect.unit (s := S256x1024) ![0, 896] ![256, 128] (by decide)) : FVec Ideal S256x128 .bf16) (View.ld (Val := Elt Ideal) (e' := .bf16) Q (Rect.unit (s := S512x512) ![0, 384] ![512, 128] (by decide)) : FVec Ideal S512x128 .bf16) (View.ld (Val := Elt Ideal) (e' := .bf16) D (Rect.unit (s := S512x512) ![0, 384] ![512, 128] (by decide)) : FVec Ideal S512x128 .bf16) (View.ld (Val := Elt Ideal) (e' := .f32) A (Rect.unit (s := S256x1024) ![0, 384] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 384 + b.val := h1
  simp only [keys3, vals3, rows3]
  rw [Head.dk3, part_dk Q D KV 3 j b l (by show l.val = 3 * 128 + b.val; omega)]
  exact congrArg (· + _) (congrArg (f := A) (congrArg (ix2 j) (Fin.ext (by show 3 * 128 + b.val = l.val; omega))))

/-- The store of head 3's gradient of the values. -/
theorem dv_3 (j : Fin 256) (l : Fin 1024) (x : S256x128.Idx) (h0 : j.val = (x 0).val) (h1 : l.val = 896 + (x 1).val) :
    k0_pay21 (F := Ideal) (View.ld (Val := Elt Ideal) (e' := .bf16) KV (Rect.unit (s := S256x1024) ![0, 384] ![256, 128] (by decide)) : FVec Ideal S256x128 .bf16) (View.ld (Val := Elt Ideal) (e' := .bf16) Q (Rect.unit (s := S512x512) ![0, 384] ![512, 128] (by decide)) : FVec Ideal S512x128 .bf16) (View.ld (Val := Elt Ideal) (e' := .bf16) D (Rect.unit (s := S512x512) ![0, 384] ![512, 128] (by decide)) : FVec Ideal S512x128 .bf16) (View.ld (Val := Elt Ideal) (e' := .f32) A (Rect.unit (s := S256x1024) ![0, 896] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 896 + b.val := h1
  simp only [keys3, vals3, rows3]
  rw [Head.dv3, part_dv Q D KV 3 j b l (by show l.val = 512 + 3 * 128 + b.val; omega)]
  exact congrArg (· + _) (congrArg (f := A) (congrArg (ix2 j) (Fin.ext (by show 512 + 3 * 128 + b.val = l.val; omega))))

/-- The store of head 2's gradient of the keys. -/
theorem dk_2 (j : Fin 256) (l : Fin 1024) (x : S256x128.Idx) (h0 : j.val = (x 0).val) (h1 : l.val = 256 + (x 1).val) :
    k0_pay19 (F := Ideal) (View.ld (Val := Elt Ideal) (e' := .bf16) KV (Rect.unit (s := S256x1024) ![0, 768] ![256, 128] (by decide)) : FVec Ideal S256x128 .bf16) (View.ld (Val := Elt Ideal) (e' := .bf16) Q (Rect.unit (s := S512x512) ![0, 256] ![512, 128] (by decide)) : FVec Ideal S512x128 .bf16) (View.ld (Val := Elt Ideal) (e' := .bf16) D (Rect.unit (s := S512x512) ![0, 256] ![512, 128] (by decide)) : FVec Ideal S512x128 .bf16) (k0_pay13 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) (k0_pay14 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) (View.ld (Val := Elt Ideal) (e' := .f32) A (Rect.unit (s := S256x1024) ![0, 256] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 256 + b.val := h1
  simp only [keys2, vals2, rows2]
  rw [Head.dk2, part_dk Q D KV 2 j b l (by show l.val = 2 * 128 + b.val; omega)]
  exact congrArg (· + _) (congrArg (f := A) (congrArg (ix2 j) (Fin.ext (by show 2 * 128 + b.val = l.val; omega))))

/-- The store of head 2's gradient of the values. -/
theorem dv_2 (j : Fin 256) (l : Fin 1024) (x : S256x128.Idx) (h0 : j.val = (x 0).val) (h1 : l.val = 768 + (x 1).val) :
    k0_pay16 (F := Ideal) (View.ld (Val := Elt Ideal) (e' := .bf16) D (Rect.unit (s := S512x512) ![0, 256] ![512, 128] (by decide)) : FVec Ideal S512x128 .bf16) (k0_pay13 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) (k0_pay14 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) (View.ld (Val := Elt Ideal) (e' := .f32) A (Rect.unit (s := S256x1024) ![0, 768] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 768 + b.val := h1
  simp only [keys2, vals2, rows2]
  rw [Head.dv2, part_dv Q D KV 2 j b l (by show l.val = 512 + 2 * 128 + b.val; omega)]
  exact congrArg (· + _) (congrArg (f := A) (congrArg (ix2 j) (Fin.ext (by show 512 + 2 * 128 + b.val = l.val; omega))))

/-- The store of head 1's gradient of the keys. -/
theorem dk_1 (j : Fin 256) (l : Fin 1024) (x : S256x128.Idx) (h0 : j.val = (x 0).val) (h1 : l.val = 128 + (x 1).val) :
    k0_pay12 (F := Ideal) (View.ld (Val := Elt Ideal) (e' := .bf16) KV (Rect.unit (s := S256x1024) ![0, 640] ![256, 128] (by decide)) : FVec Ideal S256x128 .bf16) (View.ld (Val := Elt Ideal) (e' := .bf16) Q (Rect.unit (s := S512x512) ![0, 128] ![512, 128] (by decide)) : FVec Ideal S512x128 .bf16) (View.ld (Val := Elt Ideal) (e' := .bf16) D (Rect.unit (s := S512x512) ![0, 128] ![512, 128] (by decide)) : FVec Ideal S512x128 .bf16) (k0_pay8 (F := Ideal) (View.ld (Val := Elt Ideal) (e' := .bf16) KV (Rect.unit (s := S256x1024) ![0, 128] ![256, 128] (by decide)) : FVec Ideal S256x128 .bf16) (View.ld (Val := Elt Ideal) (e' := .bf16) Q (Rect.unit (s := S512x512) ![0, 128] ![512, 128] (by decide)) : FVec Ideal S512x128 .bf16)) (View.ld (Val := Elt Ideal) (e' := .f32) A (Rect.unit (s := S256x1024) ![0, 128] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 128 + b.val := h1
  simp only [keys1, vals1, rows1]
  rw [Head.dk1, part_dk Q D KV 1 j b l (by show l.val = 1 * 128 + b.val; omega)]
  exact congrArg (· + _) (congrArg (f := A) (congrArg (ix2 j) (Fin.ext (by show 1 * 128 + b.val = l.val; omega))))

/-- The store of head 1's gradient of the values. -/
theorem dv_1 (j : Fin 256) (l : Fin 1024) (x : S256x128.Idx) (h0 : j.val = (x 0).val) (h1 : l.val = 640 + (x 1).val) :
    k0_pay9 (F := Ideal) (View.ld (Val := Elt Ideal) (e' := .bf16) KV (Rect.unit (s := S256x1024) ![0, 128] ![256, 128] (by decide)) : FVec Ideal S256x128 .bf16) (View.ld (Val := Elt Ideal) (e' := .bf16) Q (Rect.unit (s := S512x512) ![0, 128] ![512, 128] (by decide)) : FVec Ideal S512x128 .bf16) (View.ld (Val := Elt Ideal) (e' := .bf16) D (Rect.unit (s := S512x512) ![0, 128] ![512, 128] (by decide)) : FVec Ideal S512x128 .bf16) (View.ld (Val := Elt Ideal) (e' := .f32) A (Rect.unit (s := S256x1024) ![0, 640] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 640 + b.val := h1
  simp only [keys1, vals1, rows1]
  rw [Head.dv1, part_dv Q D KV 1 j b l (by show l.val = 512 + 1 * 128 + b.val; omega)]
  exact congrArg (· + _) (congrArg (f := A) (congrArg (ix2 j) (Fin.ext (by show 512 + 1 * 128 + b.val = l.val; omega))))

/-- The store of head 0's gradient of the keys. -/
theorem dk_0 (j : Fin 256) (l : Fin 1024) (x : S256x128.Idx) (h0 : j.val = (x 0).val) (h1 : l.val = 0 + (x 1).val) :
    k0_pay7 (F := Ideal) (View.ld (Val := Elt Ideal) (e' := .bf16) Q (Rect.unit (s := S512x512) ![0, 0] ![512, 128] (by decide)) : FVec Ideal S512x128 .bf16) (k0_pay4 (F := Ideal) (View.ld (Val := Elt Ideal) (e' := .bf16) KV (Rect.unit (s := S256x1024) ![0, 0] ![256, 128] (by decide)) : FVec Ideal S256x128 .bf16) (View.ld (Val := Elt Ideal) (e' := .bf16) KV (Rect.unit (s := S256x1024) ![0, 512] ![256, 128] (by decide)) : FVec Ideal S256x128 .bf16) (View.ld (Val := Elt Ideal) (e' := .bf16) Q (Rect.unit (s := S512x512) ![0, 0] ![512, 128] (by decide)) : FVec Ideal S512x128 .bf16) (View.ld (Val := Elt Ideal) (e' := .bf16) D (Rect.unit (s := S512x512) ![0, 0] ![512, 128] (by decide)) : FVec Ideal S512x128 .bf16)) (View.ld (Val := Elt Ideal) (e' := .f32) A (Rect.unit (s := S256x1024) ![0, 0] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 0 + b.val := h1
  simp only [keys0, vals0, rows0]
  rw [Head.dk0, part_dk Q D KV 0 j b l (by show l.val = 0 * 128 + b.val; omega)]
  exact congrArg (· + _) (congrArg (f := A) (congrArg (ix2 j) (Fin.ext (by show 0 * 128 + b.val = l.val; omega))))

/-- The store of head 0's gradient of the values. -/
theorem dv_0 (j : Fin 256) (l : Fin 1024) (x : S256x128.Idx) (h0 : j.val = (x 0).val) (h1 : l.val = 512 + (x 1).val) :
    k0_pay3 (F := Ideal) (View.ld (Val := Elt Ideal) (e' := .bf16) KV (Rect.unit (s := S256x1024) ![0, 0] ![256, 128] (by decide)) : FVec Ideal S256x128 .bf16) (View.ld (Val := Elt Ideal) (e' := .bf16) Q (Rect.unit (s := S512x512) ![0, 0] ![512, 128] (by decide)) : FVec Ideal S512x128 .bf16) (View.ld (Val := Elt Ideal) (e' := .bf16) D (Rect.unit (s := S512x512) ![0, 0] ![512, 128] (by decide)) : FVec Ideal S512x128 .bf16) (View.ld (Val := Elt Ideal) (e' := .f32) A (Rect.unit (s := S256x1024) ![0, 512] ![256, 128] (by decide)) : FVec Ideal S256x128 .f32) x = A (ix2 j l) + part Q D KV j l := by
  obtain ⟨a, b, rfl⟩ : ∃ (a : Fin 256) (b : Fin 128), x = ix2 a b := ⟨x 0, x 1, by idx_ext⟩
  obtain rfl : j = a := Fin.ext h0
  have h1 : l.val = 512 + b.val := h1
  simp only [keys0, vals0, rows0]
  rw [Head.dv0, part_dv Q D KV 0 j b l (by show l.val = 512 + 0 * 128 + b.val; omega)]
  exact congrArg (· + _) (congrArg (f := A) (congrArg (ix2 j) (Fin.ext (by show 512 + 0 * 128 + b.val = l.val; omega))))

/-- The store of head 3's gradient of the queries. -/
theorem dq_3 (r : Fin 512) (l : Fin 512) (x : S512x128.Idx) (h0 : r.val = (x 0).val) (h1 : l.val = 384 + (x 1).val) :
    k0_pay23 (F := Ideal) (View.ld (Val := Elt Ideal) (e' := .bf16) KV (Rect.unit (s := S256x1024) ![0, 384] ![256, 128] (by decide)) : FVec Ideal S256x128 .bf16) (View.ld (Val := Elt Ideal) (e' := .bf16) KV (Rect.unit (s := S256x1024) ![0, 896] ![256, 128] (by decide)) : FVec Ideal S256x128 .bf16) (View.ld (Val := Elt Ideal) (e' := .bf16) Q (Rect.unit (s := S512x512) ![0, 384] ![512, 128] (by decide)) : FVec Ideal S512x128 .bf16) (View.ld (Val := Elt Ideal) (e' := .bf16) D (Rect.unit (s := S512x512) ![0, 384] ![512, 128] (by decide)) : FVec Ideal S512x128 .bf16) x = query Q D KV r l := by
  obtain ⟨a, b, rfl⟩ : ∃ (a : Fin 512) (b : Fin 128), x = ix2 a b := ⟨x 0, x 1, by idx_ext⟩
  obtain rfl : r = a := Fin.ext h0
  have h1 : l.val = 384 + b.val := h1
  simp only [keys3, vals3, rows3]
  rw [Head.dq3, query_dq Q D KV 3 r b l (by show l.val = 3 * 128 + b.val; omega)]

/-- The store of head 2's gradient of the queries. -/
theorem dq_2 (r : Fin 512) (l : Fin 512) (x : S512x128.Idx) (h0 : r.val = (x 0).val) (h1 : l.val = 256 + (x 1).val) :
    k0_pay18 (F := Ideal) (View.ld (Val := Elt Ideal) (e' := .bf16) KV (Rect.unit (s := S256x1024) ![0, 256] ![256, 128] (by decide)) : FVec Ideal S256x128 .bf16) (View.ld (Val := Elt Ideal) (e' := .bf16) KV (Rect.unit (s := S256x1024) ![0, 768] ![256, 128] (by decide)) : FVec Ideal S256x128 .bf16) (View.ld (Val := Elt Ideal) (e' := .bf16) D (Rect.unit (s := S512x512) ![0, 256] ![512, 128] (by decide)) : FVec Ideal S512x128 .bf16) (k0_pay13 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) (k0_pay14 (F := Ideal) (View.ld (Val := Elt Ideal) (e' := .bf16) KV (Rect.unit (s := S256x1024) ![0, 256] ![256, 128] (by decide)) : FVec Ideal S256x128 .bf16) (View.ld (Val := Elt Ideal) (e' := .bf16) Q (Rect.unit (s := S512x512) ![0, 256] ![512, 128] (by decide)) : FVec Ideal S512x128 .bf16)) x = query Q D KV r l := by
  obtain ⟨a, b, rfl⟩ : ∃ (a : Fin 512) (b : Fin 128), x = ix2 a b := ⟨x 0, x 1, by idx_ext⟩
  obtain rfl : r = a := Fin.ext h0
  have h1 : l.val = 256 + b.val := h1
  simp only [keys2, vals2, rows2]
  rw [Head.dq2, query_dq Q D KV 2 r b l (by show l.val = 2 * 128 + b.val; omega)]

/-- The store of head 1's gradient of the queries. -/
theorem dq_1 (r : Fin 512) (l : Fin 512) (x : S512x128.Idx) (h0 : r.val = (x 0).val) (h1 : l.val = 128 + (x 1).val) :
    k0_pay11 (F := Ideal) (View.ld (Val := Elt Ideal) (e' := .bf16) KV (Rect.unit (s := S256x1024) ![0, 128] ![256, 128] (by decide)) : FVec Ideal S256x128 .bf16) (View.ld (Val := Elt Ideal) (e' := .bf16) KV (Rect.unit (s := S256x1024) ![0, 640] ![256, 128] (by decide)) : FVec Ideal S256x128 .bf16) (View.ld (Val := Elt Ideal) (e' := .bf16) D (Rect.unit (s := S512x512) ![0, 128] ![512, 128] (by decide)) : FVec Ideal S512x128 .bf16) (k0_pay8 (F := Ideal) (View.ld (Val := Elt Ideal) (e' := .bf16) KV (Rect.unit (s := S256x1024) ![0, 128] ![256, 128] (by decide)) : FVec Ideal S256x128 .bf16) (View.ld (Val := Elt Ideal) (e' := .bf16) Q (Rect.unit (s := S512x512) ![0, 128] ![512, 128] (by decide)) : FVec Ideal S512x128 .bf16)) x = query Q D KV r l := by
  obtain ⟨a, b, rfl⟩ : ∃ (a : Fin 512) (b : Fin 128), x = ix2 a b := ⟨x 0, x 1, by idx_ext⟩
  obtain rfl : r = a := Fin.ext h0
  have h1 : l.val = 128 + b.val := h1
  simp only [keys1, vals1, rows1]
  rw [Head.dq1, query_dq Q D KV 1 r b l (by show l.val = 1 * 128 + b.val; omega)]

/-- The store of head 0's gradient of the queries. -/
theorem dq_0 (r : Fin 512) (l : Fin 512) (x : S512x128.Idx) (h0 : r.val = (x 0).val) (h1 : l.val = 0 + (x 1).val) :
    k0_pay6 (F := Ideal) (k0_pay5 (F := Ideal) (View.ld (Val := Elt Ideal) (e' := .bf16) KV (Rect.unit (s := S256x1024) ![0, 0] ![256, 128] (by decide)) : FVec Ideal S256x128 .bf16) (View.ld (Val := Elt Ideal) (e' := .bf16) KV (Rect.unit (s := S256x1024) ![0, 512] ![256, 128] (by decide)) : FVec Ideal S256x128 .bf16) (View.ld (Val := Elt Ideal) (e' := .bf16) Q (Rect.unit (s := S512x512) ![0, 0] ![512, 128] (by decide)) : FVec Ideal S512x128 .bf16) (View.ld (Val := Elt Ideal) (e' := .bf16) D (Rect.unit (s := S512x512) ![0, 0] ![512, 128] (by decide)) : FVec Ideal S512x128 .bf16)) (FloatOps.ofBits .f32 0x3DB504F3#32) x = query Q D KV r l := by
  obtain ⟨a, b, rfl⟩ : ∃ (a : Fin 512) (b : Fin 128), x = ix2 a b := ⟨x 0, x 1, by idx_ext⟩
  obtain rfl : r = a := Fin.ext h0
  have h1 : l.val = 0 + b.val := h1
  simp only [keys0, vals0, rows0]
  rw [Head.dq0, query_dq Q D KV 0 r b l (by show l.val = 0 * 128 + b.val; omega)]

variable (m : (ℓ : Loc nD τ sig) → Buf (Elt Ideal) ℓ)

/-- A later point adds its part to what the points before it left in the gradient of the keys and values. -/
theorem stepB (c : Dev nD) (t : Fin cfg0.N) (ht : ¬ t.val % 16 = 0) (j : Fin 256) (l : Fin 1024) :
    (outsAt0 m c t.val t.isLt).2 (ix2 j l) = (outsAt0 m c (t.val - 1) (Nat.lt_of_le_of_lt (Nat.sub_le _ _) t.isLt)).2 (ix2 j l)
      + part (X0_0 m c t) (iblk m c 2 t) (iblk m c 1 t) j l := by
  rw [outsAt0_B m c t ht]; frame_out
  canon_tiles x h
  · exact dk_3 _ _ _ _ j l x h0 h1
  · exact dv_3 _ _ _ _ j l x h0 h1
  · exact dk_2 _ _ _ _ j l x h0 h1
  · exact dv_2 _ _ _ _ j l x h0 h1
  · exact dk_1 _ _ _ _ j l x h0 h1
  · exact dv_1 _ _ _ _ j l x h0 h1
  · exact dk_0 _ _ _ _ j l x h0 (h1.trans (Nat.zero_add _).symm)
  · exact dv_0 _ _ _ _ j l x h0 h1

/-- The first point leaves its part in the gradient of the keys and values. -/
theorem stepA (c : Dev nD) (t : Fin cfg0.N) (ht : t.val % 16 = 0) (j : Fin 256) (l : Fin 1024) :
    (outsAt0 m c t.val t.isLt).2 (ix2 j l) = 0
      + part (X0_0 m c t) (iblk m c 2 t) (iblk m c 1 t) j l := by
  rw [outsAt0_A m c t ht]; frame_open
  simp (disch := decide) only [↓ View.readCov_skip, ↓ View.readCov_cons_toLoadRect, ↓ View.readCov_fill]
  frame_out
  rw [canon_dropLast _ _ (View.cover_of_tiled _ ![256, 128] rfl _)]
  simp only [List.dropLast]
  rw [← Head.zero_apply (ix2 j l)]
  canon_tiles x h
  · exact dk_3 _ _ _ _ j l x h0 h1
  · exact dv_3 _ _ _ _ j l x h0 h1
  · exact dk_2 _ _ _ _ j l x h0 h1
  · exact dv_2 _ _ _ _ j l x h0 h1
  · exact dk_1 _ _ _ _ j l x h0 h1
  · exact dv_1 _ _ _ _ j l x h0 h1
  · exact dk_0 _ _ _ _ j l x h0 (h1.trans (Nat.zero_add _).symm)
  · exact dv_0 _ _ _ _ j l x h0 h1

/-- Every point leaves the gradient of its block of queries. -/
theorem step3 (c : Dev nD) (t : Fin cfg0.N) (r : Fin 512) (l : Fin 512) :
    (outsAt0 m c t.val t.isLt).1 (ix2 r l) = query (X0_0 m c t) (iblk m c 2 t) (iblk m c 1 t) r l := by
  by_cases ht : t.val % 16 = 0
  · rw [outsAt0_A m c t ht]; frame_open
    frame_out
    canon_tiles x h
    · exact dq_3 _ _ _ r l x h0 h1
    · exact dq_2 _ _ _ r l x h0 h1
    · exact dq_1 _ _ _ r l x h0 h1
    · exact dq_0 _ _ _ r l x h0 (h1.trans (Nat.zero_add _).symm)
  · rw [outsAt0_B m c t ht]; frame_out
    canon_tiles x h
    · exact dq_3 _ _ _ r l x h0 h1
    · exact dq_2 _ _ _ r l x h0 h1
    · exact dq_1 _ _ _ r l x h0 h1
    · exact dq_0 _ _ _ r l x h0 (h1.trans (Nat.zero_add _).symm)

end Cert.KernelIdeal.Block
end
-- ==== Proof.MergeRows.lean ====
/- The gradient of the merge: the rows that the blocks of each point hold. -/
module
public import proofs.«01_k».proof.Proof.MergeGrad
public import proofs.«01_k».proof.Proof.MergeFrame
public import proofs.«01_k».proof.Proof.Block
public import Idealize.ShloMosaic.Lib.Pipeline.ReadBack
public import Idealize.ShloMosaic.Lib.Claim
@[expose] public section
set_option maxRecDepth 16384
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

/-- The block each window takes at a point. -/
theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0]
    ∧ win0_14.index t = ![t.val, 0] ∧ win0_15.index t = ![t.val, 0] ∧ win0_16.index t = ![t.val, 0] :=
  (by decide +kernel : ∀ t : Fin grid0.N, _)

/-- The columns of one gate in a block of all three. -/
def zcols (M : Vec Ideal S512x3072 .bf16) (q : Fin 3) : FVec Ideal S512x1024 .bf16 := fun i => M (ix2 (i 0) (Merge.col q (i 1)))
def bcols (M : Vec Ideal S1x3072 .f32) (q : Fin 3) : FVec Ideal S1x1024 .f32 := fun i => M (ix2 (i 0) (Merge.col q (i 1)))

/-- Each gate's columns of a block of all three, as loaded. -/
theorem ldz0 (M : Vec Ideal S512x3072 .bf16) (inb) :
    (View.ld (Val := Elt Ideal) (e' := .bf16) M (Rect.unit (s := S512x3072) ![0, 0] ![512, 1024] inb) : FVec Ideal S512x1024 .bf16) = zcols M 0 := by
  funext i
  exact KernelIdeal.Block.ld_at _ _ _ inb i _ _ (by show (i 0).val = 0 + (i 0).val; omega) (by show 0 * 1024 + (i 1).val = 0 + (i 1).val; omega)
theorem ldz1 (M : Vec Ideal S512x3072 .bf16) (inb) :
    (View.ld (Val := Elt Ideal) (e' := .bf16) M (Rect.unit (s := S512x3072) ![0, 1024] ![512, 1024] inb) : FVec Ideal S512x1024 .bf16) = zcols M 1 := by
  funext i
  exact KernelIdeal.Block.ld_at _ _ _ inb i _ _ (by show (i 0).val = 0 + (i 0).val; omega) (by show 1 * 1024 + (i 1).val = 1024 + (i 1).val; omega)
theorem ldz2 (M : Vec Ideal S512x3072 .bf16) (inb) :
    (View.ld (Val := Elt Ideal) (e' := .bf16) M (Rect.unit (s := S512x3072) ![0, 2048] ![512, 1024] inb) : FVec Ideal S512x1024 .bf16) = zcols M 2 := by
  funext i
  exact KernelIdeal.Block.ld_at _ _ _ inb i _ _ (by show (i 0).val = 0 + (i 0).val; omega) (by show 2 * 1024 + (i 1).val = 2048 + (i 1).val; omega)

/-- Each gate's columns of the bias, as loaded. -/
theorem ldb0 (M : Vec Ideal S1x3072 .f32) (inb) :
    (View.ld (Val := Elt Ideal) (e' := .f32) M (Rect.unit (s := S1x3072) ![0, 0] ![1, 1024] inb) : FVec Ideal S1x1024 .f32) = bcols M 0 := by
  funext i
  exact KernelIdeal.Block.ld_at _ _ _ inb i _ _ (by show (i 0).val = 0 + (i 0).val; omega) (by show 0 * 1024 + (i 1).val = 0 + (i 1).val; omega)
theorem ldb1 (M : Vec Ideal S1x3072 .f32) (inb) :
    (View.ld (Val := Elt Ideal) (e' := .f32) M (Rect.unit (s := S1x3072) ![0, 1024] ![1, 1024] inb) : FVec Ideal S1x1024 .f32) = bcols M 1 := by
  funext i
  exact KernelIdeal.Block.ld_at _ _ _ inb i _ _ (by show (i 0).val = 0 + (i 0).val; omega) (by show 1 * 1024 + (i 1).val = 1024 + (i 1).val; omega)
theorem ldb2 (M : Vec Ideal S1x3072 .f32) (inb) :
    (View.ld (Val := Elt Ideal) (e' := .f32) M (Rect.unit (s := S1x3072) ![0, 2048] ![1, 1024] inb) : FVec Ideal S1x1024 .f32) = bcols M 2 := by
  funext i
  exact KernelIdeal.Block.ld_at _ _ _ inb i _ _ (by show (i 0).val = 0 + (i 0).val; omega) (by show 2 * 1024 + (i 1).val = 2048 + (i 1).val; omega)

section Run
variable (m : (ℓ : Loc nD τ sig) → Buf (Elt Ideal) ℓ) (ρ : Dev nD → PrngReg) (c : Dev nD)

/-- The argument arrays. -/
abbrev a0 : FVec Ideal S8192x512 .bf16 := m ((c : Thread nD τ).loc main_arg0)
abbrev a1 : FVec Ideal S8192x256 .bf16 := m ((c : Thread nD τ).loc main_arg1)
abbrev a2 : FVec Ideal S8192x512 .bf16 := m ((c : Thread nD τ).loc main_arg2)
abbrev a3 : FVec Ideal S8192x6912 .bf16 := m ((c : Thread nD τ).loc main_arg3)
abbrev a9 : FVec Ideal S1x1024 .f32 := m ((c : Thread nD τ).loc main_arg9)
abbrev a10 : FVec Ideal S8192x1024 .f32 := m ((c : Thread nD τ).loc main_arg10)
/-- The weights as given. -/
abbrev ws : Weights := ⟨m ((c : Thread nD τ).loc main_arg4), m ((c : Thread nD τ).loc main_arg5), m ((c : Thread nD τ).loc main_arg6),
  m ((c : Thread nD τ).loc main_arg7), m ((c : Thread nD τ).loc main_arg8)⟩

/-- A row of a point's block among all rows. -/
abbrev row (t : Fin 16) (r : Fin 512) : Fin 8192 := ⟨t.val * 512 + r.val, by omega⟩
/-- What the row is made of. -/
abbrev rowAt (t : Fin 16) (r : Fin 512) : Grad := gradOf (a0 m c) (a1 m c) (a2 m c) (a3 m c) (ws m c) (a10 m c) (row t r)

/-- The projection and the merged rows that the host hands to the kernel are the reference's. -/
theorem saved_t : V m c main_v32 = val_main_v35 (F := Ideal) (a0 m c) (a1 m c) (a2 m c) (a3 m c) (ws m c).ca (ws m c).oa (ws m c).om (ws m c).out (ws m c).b := by
  entry_read
  rfl
theorem saved_mg : V m c main_v33 = val_main_v34 (F := Ideal) (a0 m c) (a1 m c) (a2 m c) (a3 m c) (ws m c).ca (ws m c).oa (ws m c).om (ws m c).b := by
  entry_read
  rfl

set_option maxHeartbeats 1000000 in
/-- The windows of the weights, of the bias and of the norm's scale hold them whole at every point. -/
theorem weights0 (t : Fin cfg0.N) : iblk m c 7 t = (ws m c).ca ∧ iblk m c 8 t = (ws m c).oa ∧ iblk m c 9 t = (ws m c).om
    ∧ iblk m c 10 t = (ws m c).out ∧ iblk m c 11 t = (ws m c).b ∧ iblk m c 12 t = a9 m c := by
  refine ⟨?_, ?_, ?_, ?_, ?_, ?_⟩ <;> funext j
  · refine Eq.trans ?_ (congrFun (V_main_arg4 m c) j)
    blk_ext [iblk, idx0 t]
  · refine Eq.trans ?_ (congrFun (V_main_arg5 m c) j)
    blk_ext [iblk, idx0 t]
  · refine Eq.trans ?_ (congrFun (V_main_arg6 m c) j)
    blk_ext [iblk, idx0 t]
  · refine Eq.trans ?_ (congrFun (V_main_arg7 m c) j)
    blk_ext [iblk, idx0 t]
  · refine Eq.trans ?_ (congrFun (V_main_arg8 m c) j)
    blk_ext [iblk, idx0 t]
  · refine Eq.trans ?_ (congrFun (V_main_arg9 m c) j)
    blk_ext [iblk, idx0 t]
/-- The block of `z` holds the gates' columns of the point's rows. -/
theorem z0 (t : Fin 16) (r : Fin 512) (k : Fin 3072) : X0_6 m c t (ix2 r k) = (rowAt m c t r).z k := by
  unfold X0_6 Pipeline.Window.fill
  rw [dif_pos (moved0_6 t _)]
  blk_point [iblk, V, idx0 t]

/-- A point's blocks hold its rows. -/
theorem holds (t : Fin 16) : Holds (iblk m c 3 t) (iblk m c 4 t) (iblk m c 5 t) (zcols (X0_6 m c t) 0) (zcols (X0_6 m c t) 1) (zcols (X0_6 m c t) 2)
    (bcols (ws m c).b 0) (bcols (ws m c).b 1) (bcols (ws m c).b 2) (iblk m c 1 t) (iblk m c 0 t) (iblk m c 2 t) (ws m c) (rowAt m c t) where
  ca r k := by blk_point [iblk, V, idx0 t]
  oa r k := by blk_point [iblk, V, idx0 t]
  om r k := by blk_point [iblk, V, idx0 t]
  z0 r k := z0 m c t r _
  z1 r k := z0 m c t r _
  z2 r k := z0 m c t r _
  b0 k := rfl
  b1 k := rfl
  b2 k := rfl
  t r k := by
    refine Eq.trans ?_ (congrFun (saved_t m c) (ix2 (row t r) k))
    blk_point [iblk, idx0 t]
  dx r k := by blk_point [iblk, V, idx0 t]
  mg r k := by
    refine Eq.trans ?_ (congrFun (saved_mg m c) (ix2 (row t r) k))
    blk_point [iblk, idx0 t]

/-- Where an element of a block of outputs lies in its array. -/
theorem place0 (t : Fin 16) (r : Fin 512) (l : Fin 512) (k : Fin 256) : (win0_14.blk t).view.emb (ix2 r l) = ix2 (row t r) l
    ∧ (win0_15.blk t).view.emb (ix2 r k) = ix2 (row t r) k ∧ (win0_16.blk t).view.emb (ix2 r l) = ix2 (row t r) l := by
  refine ⟨?_, ?_, ?_⟩ <;> blk_ext [idx0 t]

end Run
end Cert.Kernel10Ideal.Final
end
-- ==== Proof.MergeOut.lean ====
/- The gradients of the merge's inputs: each point leaves its rows of the gradients of the three branches' outputs. -/
module
public import proofs.«01_k».proof.Proof.MergeRows
@[expose] public section
set_option maxRecDepth 16384
set_option maxHeartbeats 1000000
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

variable (m : (ℓ : Loc nD τ sig) → Buf (Elt Ideal) ℓ) (ρ : Dev nD → PrngReg) (c : Dev nD)

/-- What every point leaves of the gradient of the convolution's output. -/
theorem step14 (t : Fin cfg0.N) (j : S512x512.Idx) : (outsAt0 m c t.val t.isLt).2.1 j
    = k0_pay28 (F := Ideal) (dmB (iblk m c 1 t) (iblk m c 0 t) (ws m c) (a9 m c)) (k0_pay20 (k0_pay18 (zcols (X0_6 m c t) 0) (bcols (ws m c).b 0)) k0_pay19) (ws m c).ca j := by
  obtain ⟨h7, h8, h9, h10, h11, h12⟩ := weights0 m c t
  by_cases hc : t.val % 16 = 0
  on_goal 1 => rw [outsAt0_A m c t hc]
  on_goal 2 => rw [outsAt0_B m c t hc]
  all_goals
    frame_out
    rw [h7, h10, h12, h11, ldz0, ldb0]

/-- The gradient of the convolution's output. -/
theorem final14 : (dats m 0 c).arrAt 14 cfg0.N = val_main_v101 (F := Ideal) (a0 m c) (a1 m c) (a2 m c) (a3 m c) (ws m c).ca (ws m c).oa (ws m c).om (ws m c).out (ws m c).b (a9 m c) (a10 m c) := by
  refine (dats m 0 c).arrAt_eq_of_covers 14 _ (by decide +kernel) fun t hf y => ?_
  blk_simp
  rw [after0_14]
  idx_vars y
  rw [(place0 t y0 y1 0).1, step14]
  exact (dca_apply _ _ _ _ _ _ _ _ _ _ _ _ (ws m c) (a9 m c) y0 _ (holds m c t) y1).trans
    (reference_ca (a0 m c) (a1 m c) (a2 m c) (a3 m c) (ws m c) (a9 m c) (a10 m c) (row t y0) y1).symm

/-- What every point leaves of the gradient of the attention's output. -/
theorem step15 (t : Fin cfg0.N) (j : S512x256.Idx) : (outsAt0 m c t.val t.isLt).2.2.1 j
    = k0_pay35 (F := Ideal) (k0_pay32 (dmB (iblk m c 1 t) (iblk m c 0 t) (ws m c) (a9 m c)) (k0_pay21 (zcols (X0_6 m c t) 1) (bcols (ws m c).b 1))) (ws m c).oa j := by
  obtain ⟨h7, h8, h9, h10, h11, h12⟩ := weights0 m c t
  by_cases hc : t.val % 16 = 0
  on_goal 1 => rw [outsAt0_A m c t hc]
  on_goal 2 => rw [outsAt0_B m c t hc]
  all_goals
    frame_out
    rw [h8, h10, h12, h11, ldz1, ldb1]

/-- The gradient of the attention's output. -/
theorem final15 : (dats m 0 c).arrAt 15 cfg0.N = val_main_v102 (F := Ideal) (a0 m c) (a1 m c) (a2 m c) (a3 m c) (ws m c).ca (ws m c).oa (ws m c).om (ws m c).out (ws m c).b (a9 m c) (a10 m c) := by
  refine (dats m 0 c).arrAt_eq_of_covers 15 _ (by decide +kernel) fun t hf y => ?_
  blk_simp
  rw [after0_15]
  idx_vars y
  rw [(place0 t y0 0 y1).2.1, step15]
  exact (doa_apply _ _ _ _ _ _ _ _ _ _ _ _ (ws m c) (a9 m c) y0 _ (holds m c t) y1).trans
    (reference_oa (a0 m c) (a1 m c) (a2 m c) (a3 m c) (ws m c) (a9 m c) (a10 m c) (row t y0) y1).symm

/-- What every point leaves of the gradient of the memory's output. -/
theorem step16 (t : Fin cfg0.N) (j : S512x512.Idx) : (outsAt0 m c t.val t.isLt).2.2.2.1 j
    = k0_pay1 (F := Ideal) (k0_pay39 (dmB (iblk m c 1 t) (iblk m c 0 t) (ws m c) (a9 m c)) (k0_pay22 (zcols (X0_6 m c t) 2) (bcols (ws m c).b 2))) (ws m c).om (constant S512x512 .f32 0x00000000#32) j := by
  obtain ⟨h7, h8, h9, h10, h11, h12⟩ := weights0 m c t
  by_cases hc : t.val % 16 = 0
  on_goal 1 => rw [outsAt0_A m c t hc]
  on_goal 2 => rw [outsAt0_B m c t hc]
  all_goals
    frame_out
    rw [h9, h10, h12, h11, ldz2, ldb2]

/-- The gradient of the memory's output. -/
theorem final16 : (dats m 0 c).arrAt 16 cfg0.N = val_main_v103 (F := Ideal) (a0 m c) (a1 m c) (a2 m c) (a3 m c) (ws m c).ca (ws m c).oa (ws m c).om (ws m c).out (ws m c).b (a9 m c) (a10 m c) := by
  refine (dats m 0 c).arrAt_eq_of_covers 16 _ (by decide +kernel) fun t hf y => ?_
  blk_simp
  rw [after0_16]
  idx_vars y
  rw [(place0 t y0 y1 0).2.2, step16]
  exact (dom_apply _ _ _ _ _ _ _ _ _ _ _ _ (ws m c) (a9 m c) y0 _ (holds m c t) y1).trans
    (reference_om (a0 m c) (a1 m c) (a2 m c) (a3 m c) (ws m c) (a9 m c) (a10 m c) (row t y0) y1).symm

end Cert.Kernel10Ideal.Final
end
-- ==== Proof.MergeSum.lean ====
/- The gradients of the merge's weights and of its norm's scale: each point adds its rows' part, and the parts add up to the reference's sum over all rows. -/
module
public import proofs.«01_k».proof.Proof.MergeRows
@[expose] public section
set_option maxRecDepth 16384
set_option maxHeartbeats 1000000
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

variable (m : (ℓ : Loc nD τ sig) → Buf (Elt Ideal) ℓ) (ρ : Dev nD → PrngReg) (c : Dev nD)

/-- The accumulators start at zero. -/
theorem zeros : (∀ i, k0_pay2 (F := Ideal) i = 0) ∧ (∀ i, k0_pay3 (F := Ideal) i = 0) ∧ (∀ i, k0_pay4 (F := Ideal) i = 0)
    ∧ (∀ i, k0_pay5 (F := Ideal) i = 0) ∧ (∀ i, k0_pay7 (F := Ideal) i = 0) := by
  have z : Ideal.ofBits FTy.f32 0x00000000#32 = 0 := by simp [Ideal.ofBits, Ideal.ieee]
  exact ⟨fun _ => z, fun _ => z, fun _ => z, fun _ => z, fun _ => z⟩

/-- The first point leaves its part of the gradient of the convolution branch's weights. -/
theorem step17A (t : Fin cfg0.N) (hc : t.val % 16 = 0) (i : S512x1024.Idx) : (outsAt0 m c t.val t.isLt).2.2.2.2.1 i
    = 0 + ∑ r, (rowAt m c t r).ca (i 0) * (rowAt m c t r).dy (ws m c) (a9 m c) 0 (i 1) := by
  obtain ⟨h7, h8, h9, h10, h11, h12⟩ := weights0 m c t
  rw [outsAt0_A m c t hc]
  frame_out
  rw [h10, h12, h11, ldz0, ldb0]
  idx_vars i
  exact (dwca_apply _ _ _ _ _ _ _ _ _ _ _ _ (ws m c) (a9 m c) (rowAt m c t) (holds m c t) _ i0 i1).trans (congrArg (· + _) (zeros.1 _))

/-- The later points add theirs. -/
theorem step17B (t : Fin cfg0.N) (hc : ¬t.val % 16 = 0) (i : S512x1024.Idx) : (outsAt0 m c t.val t.isLt).2.2.2.2.1 i
    = (outsAt0 m c (t.val - 1) (Nat.lt_of_le_of_lt (Nat.sub_le _ _) t.isLt)).2.2.2.2.1 i + ∑ r, (rowAt m c t r).ca (i 0) * (rowAt m c t r).dy (ws m c) (a9 m c) 0 (i 1) := by
  obtain ⟨h7, h8, h9, h10, h11, h12⟩ := weights0 m c t
  rw [outsAt0_B m c t hc]
  frame_out
  rw [h10, h12, h11, ldz0, ldb0]
  idx_vars i
  exact (dwca_apply _ _ _ _ _ _ _ _ _ _ _ _ (ws m c) (a9 m c) (rowAt m c t) (holds m c t) _ i0 i1)

/-- The gradient of the convolution branch's weights. -/
theorem final17 : (dats m 0 c).arrAt 17 cfg0.N = val_main_v91 (F := Ideal) (a0 m c) (a1 m c) (a2 m c) (a3 m c) (ws m c).ca (ws m c).oa (ws m c).om (ws m c).out (ws m c).b (a9 m c) (a10 m c) := by
  refine (dats m 0 c).arrAt_eq_of_after_last 17 t0_15 (by decide +kernel) _ fun j => ?_
  blk_simp
  idx_vars j
  rw [after0_17, Pipeline.eq_sum_fin_of_reset_step_apply_last (fun n h => (outsAt0 m c n h).2.2.2.2.1) 16 (fun _ => (0 : EReal))
    (fun t i => ∑ r, (rowAt m c t r).ca (i 0) * (rowAt m c t r).dy (ws m c) (a9 m c) 0 (i 1)) (step17A m c) (step17B m c) (le_of_eq N_0) t0_15 rfl _, zero_add]
  refine Eq.trans ?_ (reference_dw_ca (a0 m c) (a1 m c) (a2 m c) (a3 m c) (ws m c) (a9 m c) (a10 m c) j0 j1).symm
  exact Fin.sum_mul_add_congr (S := cfg0.N) (n := 512) fun s k hl => rfl

/-- The first point leaves its part of the gradient of the attention branch's weights. -/
theorem step18A (t : Fin cfg0.N) (hc : t.val % 16 = 0) (i : S256x1024.Idx) : (outsAt0 m c t.val t.isLt).2.2.2.2.2.1 i
    = 0 + ∑ r, (rowAt m c t r).oa (i 0) * (rowAt m c t r).dy (ws m c) (a9 m c) 1 (i 1) := by
  obtain ⟨h7, h8, h9, h10, h11, h12⟩ := weights0 m c t
  rw [outsAt0_A m c t hc]
  frame_out
  rw [h10, h12, h11, ldz1, ldb1]
  idx_vars i
  exact (dwoa_apply _ _ _ _ _ _ _ _ _ _ _ _ (ws m c) (a9 m c) (rowAt m c t) (holds m c t) _ i0 i1).trans (congrArg (· + _) (zeros.2.1 _))

/-- The later points add theirs. -/
theorem step18B (t : Fin cfg0.N) (hc : ¬t.val % 16 = 0) (i : S256x1024.Idx) : (outsAt0 m c t.val t.isLt).2.2.2.2.2.1 i
    = (outsAt0 m c (t.val - 1) (Nat.lt_of_le_of_lt (Nat.sub_le _ _) t.isLt)).2.2.2.2.2.1 i + ∑ r, (rowAt m c t r).oa (i 0) * (rowAt m c t r).dy (ws m c) (a9 m c) 1 (i 1) := by
  obtain ⟨h7, h8, h9, h10, h11, h12⟩ := weights0 m c t
  rw [outsAt0_B m c t hc]
  frame_out
  rw [h10, h12, h11, ldz1, ldb1]
  idx_vars i
  exact (dwoa_apply _ _ _ _ _ _ _ _ _ _ _ _ (ws m c) (a9 m c) (rowAt m c t) (holds m c t) _ i0 i1)

/-- The gradient of the attention branch's weights. -/
theorem final18 : (dats m 0 c).arrAt 18 cfg0.N = val_main_v83 (F := Ideal) (a0 m c) (a1 m c) (a2 m c) (a3 m c) (ws m c).ca (ws m c).oa (ws m c).om (ws m c).out (ws m c).b (a9 m c) (a10 m c) := by
  refine (dats m 0 c).arrAt_eq_of_after_last 18 t0_15 (by decide +kernel) _ fun j => ?_
  blk_simp
  idx_vars j
  rw [after0_18, Pipeline.eq_sum_fin_of_reset_step_apply_last (fun n h => (outsAt0 m c n h).2.2.2.2.2.1) 16 (fun _ => (0 : EReal))
    (fun t i => ∑ r, (rowAt m c t r).oa (i 0) * (rowAt m c t r).dy (ws m c) (a9 m c) 1 (i 1)) (step18A m c) (step18B m c) (le_of_eq N_0) t0_15 rfl _, zero_add]
  refine Eq.trans ?_ (reference_dw_oa (a0 m c) (a1 m c) (a2 m c) (a3 m c) (ws m c) (a9 m c) (a10 m c) j0 j1).symm
  exact Fin.sum_mul_add_congr (S := cfg0.N) (n := 512) fun s k hl => rfl

/-- The first point leaves its part of the gradient of the memory branch's weights. -/
theorem step19A (t : Fin cfg0.N) (hc : t.val % 16 = 0) (i : S512x1024.Idx) : (outsAt0 m c t.val t.isLt).2.2.2.2.2.2.1 i
    = 0 + ∑ r, (rowAt m c t r).om (i 0) * (rowAt m c t r).dy (ws m c) (a9 m c) 2 (i 1) := by
  obtain ⟨h7, h8, h9, h10, h11, h12⟩ := weights0 m c t
  rw [outsAt0_A m c t hc]
  frame_out
  rw [h10, h12, h11, ldz2, ldb2]
  idx_vars i
  exact (dwom_apply _ _ _ _ _ _ _ _ _ _ _ _ (ws m c) (a9 m c) (rowAt m c t) (holds m c t) _ i0 i1).trans (congrArg (· + _) (zeros.2.2.1 _))

/-- The later points add theirs. -/
theorem step19B (t : Fin cfg0.N) (hc : ¬t.val % 16 = 0) (i : S512x1024.Idx) : (outsAt0 m c t.val t.isLt).2.2.2.2.2.2.1 i
    = (outsAt0 m c (t.val - 1) (Nat.lt_of_le_of_lt (Nat.sub_le _ _) t.isLt)).2.2.2.2.2.2.1 i + ∑ r, (rowAt m c t r).om (i 0) * (rowAt m c t r).dy (ws m c) (a9 m c) 2 (i 1) := by
  obtain ⟨h7, h8, h9, h10, h11, h12⟩ := weights0 m c t
  rw [outsAt0_B m c t hc]
  frame_out
  rw [h10, h12, h11, ldz2, ldb2]
  idx_vars i
  exact (dwom_apply _ _ _ _ _ _ _ _ _ _ _ _ (ws m c) (a9 m c) (rowAt m c t) (holds m c t) _ i0 i1)

/-- The gradient of the memory branch's weights. -/
theorem final19 : (dats m 0 c).arrAt 19 cfg0.N = val_main_v76 (F := Ideal) (a0 m c) (a1 m c) (a2 m c) (a3 m c) (ws m c).ca (ws m c).oa (ws m c).om (ws m c).out (ws m c).b (a9 m c) (a10 m c) := by
  refine (dats m 0 c).arrAt_eq_of_after_last 19 t0_15 (by decide +kernel) _ fun j => ?_
  blk_simp
  idx_vars j
  rw [after0_19, Pipeline.eq_sum_fin_of_reset_step_apply_last (fun n h => (outsAt0 m c n h).2.2.2.2.2.2.1) 16 (fun _ => (0 : EReal))
    (fun t i => ∑ r, (rowAt m c t r).om (i 0) * (rowAt m c t r).dy (ws m c) (a9 m c) 2 (i 1)) (step19A m c) (step19B m c) (le_of_eq N_0) t0_15 rfl _, zero_add]
  refine Eq.trans ?_ (reference_dw_om (a0 m c) (a1 m c) (a2 m c) (a3 m c) (ws m c) (a9 m c) (a10 m c) j0 j1).symm
  exact Fin.sum_mul_add_congr (S := cfg0.N) (n := 512) fun s k hl => rfl

/-- The first point leaves its part of the gradient of the output projection's weights. -/
theorem step20A (t : Fin cfg0.N) (hc : t.val % 16 = 0) (i : S1024x1024.Idx) : (outsAt0 m c t.val t.isLt).2.2.2.2.2.2.2.1 i
    = 0 + ∑ r, (rowAt m c t r).mg (i 0) * (rowAt m c t r).dt (a9 m c) (i 1) := by
  obtain ⟨h7, h8, h9, h10, h11, h12⟩ := weights0 m c t
  rw [outsAt0_A m c t hc]
  frame_out
  rw [h12]
  idx_vars i
  exact (dwout_apply _ _ _ _ _ _ _ _ _ _ _ _ (ws m c) (a9 m c) (rowAt m c t) (holds m c t) _ i0 i1).trans (congrArg (· + _) (zeros.2.2.2.1 _))

/-- The later points add theirs. -/
theorem step20B (t : Fin cfg0.N) (hc : ¬t.val % 16 = 0) (i : S1024x1024.Idx) : (outsAt0 m c t.val t.isLt).2.2.2.2.2.2.2.1 i
    = (outsAt0 m c (t.val - 1) (Nat.lt_of_le_of_lt (Nat.sub_le _ _) t.isLt)).2.2.2.2.2.2.2.1 i + ∑ r, (rowAt m c t r).mg (i 0) * (rowAt m c t r).dt (a9 m c) (i 1) := by
  obtain ⟨h7, h8, h9, h10, h11, h12⟩ := weights0 m c t
  rw [outsAt0_B m c t hc]
  frame_out
  rw [h12]
  idx_vars i
  exact (dwout_apply _ _ _ _ _ _ _ _ _ _ _ _ (ws m c) (a9 m c) (rowAt m c t) (holds m c t) _ i0 i1)

/-- The gradient of the output projection's weights. -/
theorem final20 : (dats m 0 c).arrAt 20 cfg0.N = val_main_v71 (F := Ideal) (a0 m c) (a1 m c) (a2 m c) (a3 m c) (ws m c).ca (ws m c).oa (ws m c).om (ws m c).out (ws m c).b (a9 m c) (a10 m c) := by
  refine (dats m 0 c).arrAt_eq_of_after_last 20 t0_15 (by decide +kernel) _ fun j => ?_
  blk_simp
  idx_vars j
  rw [after0_20, Pipeline.eq_sum_fin_of_reset_step_apply_last (fun n h => (outsAt0 m c n h).2.2.2.2.2.2.2.1) 16 (fun _ => (0 : EReal))
    (fun t i => ∑ r, (rowAt m c t r).mg (i 0) * (rowAt m c t r).dt (a9 m c) (i 1)) (step20A m c) (step20B m c) (le_of_eq N_0) t0_15 rfl _, zero_add]
  refine Eq.trans ?_ (reference_dwout (a0 m c) (a1 m c) (a2 m c) (a3 m c) (ws m c) (a9 m c) (a10 m c) j0 j1).symm
  exact Fin.sum_mul_add_congr (S := cfg0.N) (n := 512) fun s k hl => rfl

/-- The first point leaves its part of the gradient of the norm's scale. -/
theorem step22A (t : Fin cfg0.N) (hc : t.val % 16 = 0) (i : S1x1024.Idx) : (outsAt0 m c t.val t.isLt).2.2.2.2.2.2.2.2.2 i
    = 0 + ∑ r, (rowAt m c t r).dx (i 1) * ((rowAt m c t r).t (i 1) * Norm.rs (rowAt m c t r).t) := by
  rw [outsAt0_A m c t hc]
  frame_out
  idx_vars i
  obtain rfl : i0 = 0 := Subsingleton.elim _ _
  exact (dg_apply _ _ _ _ _ _ _ _ _ _ _ _ (ws m c) (rowAt m c t) (holds m c t) _ i1).trans (congrArg (· + _) (zeros.2.2.2.2 _))

/-- The later points add theirs. -/
theorem step22B (t : Fin cfg0.N) (hc : ¬t.val % 16 = 0) (i : S1x1024.Idx) : (outsAt0 m c t.val t.isLt).2.2.2.2.2.2.2.2.2 i
    = (outsAt0 m c (t.val - 1) (Nat.lt_of_le_of_lt (Nat.sub_le _ _) t.isLt)).2.2.2.2.2.2.2.2.2 i + ∑ r, (rowAt m c t r).dx (i 1) * ((rowAt m c t r).t (i 1) * Norm.rs (rowAt m c t r).t) := by
  rw [outsAt0_B m c t hc]
  frame_out
  idx_vars i
  obtain rfl : i0 = 0 := Subsingleton.elim _ _
  exact (dg_apply _ _ _ _ _ _ _ _ _ _ _ _ (ws m c) (rowAt m c t) (holds m c t) _ i1)

/-- The gradient of the norm's scale. -/
theorem final22 : (dats m 0 c).arrAt 22 cfg0.N = val_main_v53 (F := Ideal) (a0 m c) (a1 m c) (a2 m c) (a3 m c) (ws m c).ca (ws m c).oa (ws m c).om (ws m c).out (ws m c).b (a10 m c) := by
  refine (dats m 0 c).arrAt_eq_of_after_last 22 t0_15 (by decide +kernel) _ fun j => ?_
  blk_simp
  idx_vars j
  obtain rfl : j0 = 0 := Subsingleton.elim _ _
  rw [after0_22, Pipeline.eq_sum_fin_of_reset_step_apply_last (fun n h => (outsAt0 m c n h).2.2.2.2.2.2.2.2.2) 16 (fun _ => (0 : EReal))
    (fun t i => ∑ r, (rowAt m c t r).dx (i 1) * ((rowAt m c t r).t (i 1) * Norm.rs (rowAt m c t r).t)) (step22A m c) (step22B m c) (le_of_eq N_0) t0_15 rfl _, zero_add]
  refine Eq.trans ?_ (reference_dg (a0 m c) (a1 m c) (a2 m c) (a3 m c) (ws m c) (a10 m c) j1).symm
  exact Fin.sum_mul_add_congr (S := cfg0.N) (n := 512) fun s k hl => rfl

end Cert.Kernel10Ideal.Final
end
-- ==== Proof.MergeGate.lean ====
/- The gradients of the merge's gates and of their bias: each point leaves the three gates' columns of its rows, and adds their sums to the bias's gradient. -/
module
public import proofs.«01_k».proof.Proof.MergeRows
@[expose] public section
set_option maxRecDepth 16384
set_option maxHeartbeats 1000000
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

variable (m : (ℓ : Loc nD τ sig) → Buf (Elt Ideal) ℓ) (ρ : Dev nD → PrngReg) (c : Dev nD)

/-- A column of one gate's part is that gate's column among those of all three. -/
theorem piece {n : ℕ} (f : Fin n → Fin 3 → Fin 1024 → EReal) (P : (⟨2, ![n, 1024]⟩ : Shape).Idx → EReal) (p : Fin 3) (hP : ∀ r l, P (ix2 r l) = f r p l)
    (r : Fin n) (q : Fin 3) (l : Fin 1024) (x : (⟨2, ![n, 1024]⟩ : Shape).Idx) (e0 : r.val = (x 0).val) (e1 : (Merge.col q l).val = p.val * 1024 + (x 1).val) :
    P x = f r q l := by
  have e : q.val * 1024 + l.val = p.val * 1024 + (x 1).val := e1
  have := p.isLt
  have := q.isLt
  have := l.isLt
  have b1 : (x 1).val < 1024 := (x 1).isLt
  obtain rfl : q = p := Fin.ext (by omega)
  have hx : x = ix2 r l := by
    funext a
    match a with
    | ⟨0, _⟩ => exact Fin.ext e0.symm
    | ⟨1, _⟩ => exact Fin.ext (by show (x 1).val = l.val; omega)
  rw [hx, hP]

/-- What every point leaves of the gradients of the gates. -/
theorem step13 (t : Fin cfg0.N) (r : Fin 512) (q : Fin 3) (l : Fin 1024) : (outsAt0 m c t.val t.isLt).1 (ix2 r (Merge.col q l))
    = (rowAt m c t r).dz (ws m c) (a9 m c) q l := by
  obtain ⟨h7, h8, h9, h10, h11, h12⟩ := weights0 m c t
  have h := fun r l => dz_apply _ _ _ _ _ _ _ _ _ _ _ _ (ws m c) (a9 m c) r _ (holds m c t) l
  by_cases hc : t.val % 16 = 0
  on_goal 1 => rw [outsAt0_A m c t hc]
  on_goal 2 => rw [outsAt0_B m c t hc]
  all_goals
    frame_out
    simp only [h10, h12, h11, h7, h8, h9, ldz0, ldb0, ldz1, ldb1, ldz2, ldb2]
    canon_tiles x e
    · exact piece (fun r => (rowAt m c t r).dz (ws m c) (a9 m c)) _ 2 (fun r l => (h r l).2.2) r q l x e0 e1
    · exact piece (fun r => (rowAt m c t r).dz (ws m c) (a9 m c)) _ 1 (fun r l => (h r l).2.1) r q l x e0 e1
    · exact piece (fun r => (rowAt m c t r).dz (ws m c) (a9 m c)) _ 0 (fun r l => (h r l).1) r q l x e0 (e1.trans (Nat.zero_add _).symm)

/-- The first point leaves its part of the gradient of the gates' bias. -/
theorem step21A (t : Fin cfg0.N) (hc : t.val % 16 = 0) (q : Fin 3) (l : Fin 1024) : (outsAt0 m c t.val t.isLt).2.2.2.2.2.2.2.2.1 (ix2 0 (Merge.col q l))
    = 0 + ∑ r, (rowAt m c t r).dz (ws m c) (a9 m c) q l := by
  obtain ⟨h7, h8, h9, h10, h11, h12⟩ := weights0 m c t
  have h := fun (acc : FVec Ideal S1x1024 .f32) l => db_apply _ _ _ _ _ _ _ _ _ _ _ _ (ws m c) (a9 m c) _ (holds m c t) acc l
  have z : Ideal.ofBits FTy.f32 0x00000000#32 = 0 := by simp [Ideal.ofBits, Ideal.ieee]
  have hz : ∀ q l, bcols (k0_pay6 (F := Ideal)) q (ix2 0 l) = 0 := fun _ _ => z
  rw [outsAt0_A m c t hc]
  frame_open
  simp (disch := decide) only [↓ View.readCov_skip, ↓ View.readCov_cons_toLoadRect, ↓ View.readCov_fill]
  frame_out
  rw [KernelIdeal.Block.canon_dropLast _ _ (View.cover_of_tiled _ ![1, 1024] rfl _)]
  simp only [List.dropLast]
  simp only [h10, h12, h11, h7, h8, h9, ldz0, ldb0, ldz1, ldb1, ldz2, ldb2]
  canon_tiles x e
  · exact piece (fun _ q l => 0 + ∑ r, (rowAt m c t r).dz (ws m c) (a9 m c) q l) _ 2
      (fun r l => by obtain rfl : r = 0 := Subsingleton.elim _ _; exact (h _ l).2.2.trans (congrArg (· + _) (hz 2 l))) 0 q l x e0 e1
  · exact piece (fun _ q l => 0 + ∑ r, (rowAt m c t r).dz (ws m c) (a9 m c) q l) _ 1
      (fun r l => by obtain rfl : r = 0 := Subsingleton.elim _ _; exact (h _ l).2.1.trans (congrArg (· + _) (hz 1 l))) 0 q l x e0 e1
  · exact piece (fun _ q l => 0 + ∑ r, (rowAt m c t r).dz (ws m c) (a9 m c) q l) _ 0
      (fun r l => by obtain rfl : r = 0 := Subsingleton.elim _ _; exact (h _ l).1.trans (congrArg (· + _) (hz 0 l))) 0 q l x e0 (e1.trans (Nat.zero_add _).symm)

/-- The later points add theirs. -/
theorem step21B (t : Fin cfg0.N) (hc : ¬t.val % 16 = 0) (q : Fin 3) (l : Fin 1024) : (outsAt0 m c t.val t.isLt).2.2.2.2.2.2.2.2.1 (ix2 0 (Merge.col q l))
    = (outsAt0 m c (t.val - 1) (Nat.lt_of_le_of_lt (Nat.sub_le _ _) t.isLt)).2.2.2.2.2.2.2.2.1 (ix2 0 (Merge.col q l))
      + ∑ r, (rowAt m c t r).dz (ws m c) (a9 m c) q l := by
  obtain ⟨h7, h8, h9, h10, h11, h12⟩ := weights0 m c t
  have h := fun (acc : FVec Ideal S1x1024 .f32) l => db_apply _ _ _ _ _ _ _ _ _ _ _ _ (ws m c) (a9 m c) _ (holds m c t) acc l
  rw [outsAt0_B m c t hc]
  frame_out
  simp only [h10, h12, h11, h7, h8, h9, ldz0, ldb0, ldz1, ldb1, ldz2, ldb2]
  generalize (outsAt0 m c (t.val - 1) (Nat.lt_of_le_of_lt (Nat.sub_le _ _) t.isLt)).2.2.2.2.2.2.2.2.1 = A
  canon_tiles x e
  · exact piece (fun _ q l => A (ix2 0 (Merge.col q l)) + ∑ r, (rowAt m c t r).dz (ws m c) (a9 m c) q l) _ 2
      (fun r l => by obtain rfl : r = 0 := Subsingleton.elim _ _; exact (h _ l).2.2) 0 q l x e0 e1
  · exact piece (fun _ q l => A (ix2 0 (Merge.col q l)) + ∑ r, (rowAt m c t r).dz (ws m c) (a9 m c) q l) _ 1
      (fun r l => by obtain rfl : r = 0 := Subsingleton.elim _ _; exact (h _ l).2.1) 0 q l x e0 e1
  · exact piece (fun _ q l => A (ix2 0 (Merge.col q l)) + ∑ r, (rowAt m c t r).dz (ws m c) (a9 m c) q l) _ 0
      (fun r l => by obtain rfl : r = 0 := Subsingleton.elim _ _; exact (h _ l).1) 0 q l x e0 (e1.trans (Nat.zero_add _).symm)

/-- Every column is one of a gate's. -/
theorem cols (k : Fin 3072) : ∃ (q : Fin 3) (l : Fin 1024), k = Merge.col q l :=
  ⟨⟨k.val / 1024, by omega⟩, ⟨k.val % 1024, by omega⟩, Fin.ext (by show k.val = k.val / 1024 * 1024 + k.val % 1024; omega)⟩

/-- The gradient of the gates' bias. -/
theorem final21 : (dats m 0 c).arrAt 21 cfg0.N = val_main_v99 (F := Ideal) (a0 m c) (a1 m c) (a2 m c) (a3 m c) (ws m c).ca (ws m c).oa (ws m c).om (ws m c).out (ws m c).b (a9 m c) (a10 m c) := by
  refine (dats m 0 c).arrAt_eq_of_after_last 21 t0_15 (by decide +kernel) _ fun j => ?_
  blk_simp
  idx_vars j
  obtain rfl : j0 = 0 := Subsingleton.elim _ _
  obtain ⟨q, l, rfl⟩ := cols j1
  rw [after0_21]
  refine (Pipeline.eq_sum_fin_of_reset_step_apply_last (ι := Fin 3 × Fin 1024) (fun n h i => (outsAt0 m c n h).2.2.2.2.2.2.2.2.1 (ix2 0 (Merge.col i.1 i.2))) 16
    (fun _ => (0 : EReal)) (fun t i => ∑ r, (rowAt m c t r).dz (ws m c) (a9 m c) i.1 i.2) (fun t hc i => step21A m c t hc i.1 i.2)
    (fun t hc i => step21B m c t hc i.1 i.2) (le_of_eq N_0) t0_15 rfl (q, l)).trans ?_
  rw [zero_add]
  refine Eq.trans ?_ (reference_db (a0 m c) (a1 m c) (a2 m c) (a3 m c) (ws m c) (a9 m c) (a10 m c) q l).symm
  exact Fin.sum_mul_add_congr (S := cfg0.N) (n := 512) fun s k hl => rfl

/-- The block of the gates' gradient is never cut. -/
theorem xsize13 : ∀ (t : Fin cfg0.N), (cfg0.win 13).xsize (cfg0.grid.coords t) 0 = 512 ∧ (cfg0.win 13).xsize (cfg0.grid.coords t) 1 = 3072 := by decide +kernel

/-- Where an element of the block of the gates' gradient lies in the block and in the array. -/
theorem place13 (t : Fin 16) (y : ((cfg0.win 13).xblock (cfg0.grid.coords t)).Idx) : ∃ (r : Fin 512) (k : Fin 3072),
    (cfg0.win 13).xinj (cfg0.grid.coords t) y = ix2 r k ∧ (win0_13.blk t).view.emb y = ix2 (row t r) (⟨k.val, by omega⟩ : Fin 6912) := by
  have b0 : (y 0).val < (cfg0.win 13).xsize (cfg0.grid.coords t) 0 := (y 0).isLt
  have b1 : (y 1).val < (cfg0.win 13).xsize (cfg0.grid.coords t) 1 := (y 1).isLt
  rw [(xsize13 t).1] at b0
  rw [(xsize13 t).2] at b1
  refine ⟨⟨(y 0).val, b0⟩, ⟨(y 1).val, b1⟩, ?_, ?_⟩
  · funext a
    match a with
    | ⟨0, _⟩ => rfl
    | ⟨1, _⟩ => rfl
  · have e := fun a => (cfg0.win 13).rect_emb_val t y a
    have i : (cfg0.win 13).index t = ![t.val, 0] := (idx0 t).2.2.2.2.2.2.2.2.2.2.2.2.2.1
    funext a
    refine Fin.ext ?_
    match a with
    | ⟨0, _⟩ => exact (e 0).trans (by rw [i]; rfl)
    | ⟨1, _⟩ => exact (e 1).trans (by rw [i]; exact Nat.zero_add _)

/-- The gates' columns of the gradient of `z`, as the reference computes them. -/
def gates13 : FVec Ideal S8192x6912 .bf16 := fun i => if h : (i 1).val < 3072
  then val_main_v100 (F := Ideal) (a0 m c) (a1 m c) (a2 m c) (a3 m c) (ws m c).ca (ws m c).oa (ws m c).om (ws m c).out (ws m c).b (a9 m c) (a10 m c) (ix2 (i 0) ⟨(i 1).val, h⟩)
  else 0

/-- The gradient of the gates lies in the first columns of the kernel's first array. -/
theorem final13 (r : Fin 8192) (k : Fin 3072) : (dats m 0 c).arrAt 13 cfg0.N (ix2 r (⟨k.val, by omega⟩ : Fin 6912))
    = val_main_v100 (F := Ideal) (a0 m c) (a1 m c) (a2 m c) (a3 m c) (ws m c).ca (ws m c).oa (ws m c).om (ws m c).out (ws m c).b (a9 m c) (a10 m c) (ix2 r k) := by
  have e : (dats m 0 c).arrAt 13 cfg0.N = fun i => if (i 1 : ℕ) < 3072 then gates13 m c i else V m c main_v34_0 i := by
    refine (dats m 0 c).arrAt_eq_of_coversWhere 13 _ (fun β => β 1 = 0) (by decide +kernel) (fun t hf y => ?_)
      (fun j => by blk_simp [Pipeline.Window.cell_apply]; omega)
    blk_simp
    rw [after0_13]
    obtain ⟨r, k, hx, he⟩ := place13 t y
    refine (congrArg (outsAt0 m c t.val t.isLt).1 hx).trans (Eq.trans ?_ (congrArg (gates13 m c) he).symm)
    obtain ⟨q, l, rfl⟩ := cols k
    rw [step13]
    refine Eq.trans ?_ (dif_pos (Merge.col q l).isLt).symm
    exact (reference_dz (a0 m c) (a1 m c) (a2 m c) (a3 m c) (ws m c) (a9 m c) (a10 m c) (row t r) q l).symm
  rw [e]
  refine (if_pos k.isLt).trans ?_
  exact dif_pos k.isLt

end Cert.Kernel10Ideal.Final
end
-- ==== Proof.MergeBwd.lean ====
/- The gradient of the merge: every run of the kernel ends with the arrays that the reference computes. -/
module
public import proofs.«01_k».proof.Proof.MergeOut
public import proofs.«01_k».proof.Proof.MergeSum
public import proofs.«01_k».proof.Proof.MergeGate
@[expose] public section
set_option maxRecDepth 16384
set_option maxHeartbeats 1000000
noncomputable section
open Idealize.ShloMosaic Idealize.ShloMosaic.TcCoe Idealize.SL.Sem

namespace Cert.Kernel10Ideal.Final
open Cert.Kernel10Ideal Cert.Kernel10Ideal.Gen
open Cert.Reference10Ideal.Read
open Cert.Merge (Grad Weights prodT)

variable (m : (ℓ : Loc nD τ sig) → Buf (Elt Ideal) ℓ) (ρ : Dev nD → PrngReg) (c : Dev nD)

/-- The last line of the host cuts the gates' columns from the first array. -/
theorem cut_of (V : Valuation τ sig (Elt Ideal)) : StableHlo.after hostOps1 V (Proc.devRef .tc main_v35)
    = extractStridedSlice S8192x3072 ![0, 0] (V (Proc.devRef .tc main_v34_0)) slices_S8192x6912_S8192x3072_0_0 := by
  unfold hostOps1
  after_results

/-- What it cuts is the gradient of the gates. -/
theorem cut : Pipeline.afterTail₀ cfgs (dats m) 0 (V0 m) [hostOps1] c main_v35
    = val_main_v100 (F := Ideal) (a0 m c) (a1 m c) (a2 m c) (a3 m c) (ws m c).ca (ws m c).oa (ws m c).om (ws m c).out (ws m c).b (a9 m c) (a10 m c) := by
  refine (cut_of _).trans ?_
  refine (congrArg (extractStridedSlice S8192x3072 ![0, 0] · slices_S8192x6912_S8192x3072_0_0)
    (Pipeline.withArrays_arr (cfgs 0).spec launch0.win.arr_inj c (V0 m c) (fun w => (dats m 0 c).arrAt w (cfgs 0).N) 13)).trans ?_
  funext i
  idx_vars i
  refine Eq.trans ?_ (final13 m c i0 i1)
  exact congrArg ((dats m 0 c).arrAt 13 cfg0.N) (by blk_ext <;> rfl)

/-- Every run ends with the reference's gradients in the result arrays and with the arguments as they were. -/
theorem run : θ_run defs (onTc (τ := τ) (main (F := Ideal))) ⟨m, fun _ => 0, ρ⟩ (fun r => ∀ c : Dev nD,
      r.2.mem ((c.tc : Thread nD τ).loc main_v35) = val_main_v100 (F := Ideal) (a0 m c) (a1 m c) (a2 m c) (a3 m c) (ws m c).ca (ws m c).oa (ws m c).om (ws m c).out (ws m c).b (a9 m c) (a10 m c)
      ∧ r.2.mem ((c.tc : Thread nD τ).loc main_v34_1) = val_main_v101 (F := Ideal) (a0 m c) (a1 m c) (a2 m c) (a3 m c) (ws m c).ca (ws m c).oa (ws m c).om (ws m c).out (ws m c).b (a9 m c) (a10 m c)
      ∧ r.2.mem ((c.tc : Thread nD τ).loc main_v34_2) = val_main_v102 (F := Ideal) (a0 m c) (a1 m c) (a2 m c) (a3 m c) (ws m c).ca (ws m c).oa (ws m c).om (ws m c).out (ws m c).b (a9 m c) (a10 m c)
      ∧ r.2.mem ((c.tc : Thread nD τ).loc main_v34_3) = val_main_v103 (F := Ideal) (a0 m c) (a1 m c) (a2 m c) (a3 m c) (ws m c).ca (ws m c).oa (ws m c).om (ws m c).out (ws m c).b (a9 m c) (a10 m c)
      ∧ r.2.mem ((c.tc : Thread nD τ).loc main_v34_4) = val_main_v91 (F := Ideal) (a0 m c) (a1 m c) (a2 m c) (a3 m c) (ws m c).ca (ws m c).oa (ws m c).om (ws m c).out (ws m c).b (a9 m c) (a10 m c)
      ∧ r.2.mem ((c.tc : Thread nD τ).loc main_v34_5) = val_main_v83 (F := Ideal) (a0 m c) (a1 m c) (a2 m c) (a3 m c) (ws m c).ca (ws m c).oa (ws m c).om (ws m c).out (ws m c).b (a9 m c) (a10 m c)
      ∧ r.2.mem ((c.tc : Thread nD τ).loc main_v34_6) = val_main_v76 (F := Ideal) (a0 m c) (a1 m c) (a2 m c) (a3 m c) (ws m c).ca (ws m c).oa (ws m c).om (ws m c).out (ws m c).b (a9 m c) (a10 m c)
      ∧ r.2.mem ((c.tc : Thread nD τ).loc main_v34_7) = val_main_v71 (F := Ideal) (a0 m c) (a1 m c) (a2 m c) (a3 m c) (ws m c).ca (ws m c).oa (ws m c).om (ws m c).out (ws m c).b (a9 m c) (a10 m c)
      ∧ r.2.mem ((c.tc : Thread nD τ).loc main_v34_8) = val_main_v99 (F := Ideal) (a0 m c) (a1 m c) (a2 m c) (a3 m c) (ws m c).ca (ws m c).oa (ws m c).om (ws m c).out (ws m c).b (a9 m c) (a10 m c)
      ∧ r.2.mem ((c.tc : Thread nD τ).loc main_v34_9) = val_main_v53 (F := Ideal) (a0 m c) (a1 m c) (a2 m c) (a3 m c) (ws m c).ca (ws m c).oa (ws m c).om (ws m c).out (ws m c).b (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (θ_run_and (run_main m ρ) (unchanged m ρ))
  exact ⟨((h.1 c).2 main_v35 (Pipeline.mem_restRefs_of main_v35 rfl (by decide))).trans (cut m c), ((h.1 c).1 14).trans (final14 m c), ((h.1 c).1 15).trans (final15 m c), ((h.1 c).1 16).trans (final16 m c), ((h.1 c).1 17).trans (final17 m c), ((h.1 c).1 18).trans (final18 m c), ((h.1 c).1 19).trans (final19 m c), ((h.1 c).1 20).trans (final20 m c), ((h.1 c).1 21).trans (final21 m c), ((h.1 c).1 22).trans (final22 m c), h.2 c⟩

end Cert.Kernel10Ideal.Final
end
-- ==== Proof.Stages.lean ====
/- The reference read at an index: the logits, the softmax, its gradient, and the two arrays of the result. -/
module
public import proofs.«01_k».proof.Proof.Law
public import proofs.«01_k».proof.Proof.Gen.ReferenceIdeal.Read
public import Idealize.ShloMosaic.Lib.Pointwise
@[expose] public section
set_option maxRecDepth 16384
noncomputable section
open Idealize.ShloMosaic Idealize.ShloMosaic.TcCoe Idealize.SL.Sem

namespace Cert.ReferenceIdeal.Stages
open Cert.ReferenceIdeal Cert.ReferenceIdeal.Read

variable (z : FVec Ideal S8192x6912 .bf16) (kv : FVec Ideal S256x1024 .bf16) (dom : FVec Ideal S8192x512 .bf16)

/-- The scale of the logits. -/
abbrev scale : EReal := Ideal.ofBits FTy.f32 0x3DB504F3#32

/-- The logits of row `r` under head `h`. -/
def logit (h : Fin 4) (r : Fin 8192) (j : Fin 256) : EReal :=
  (∑ x : Fin 128, z (ix2 r ⟨4096 + (↑h * 128 + ↑x), by omega⟩) * kv (ix2 j ⟨↑h * 128 + ↑x, by omega⟩)) * scale
/-- The gradient of the probabilities of row `r` under head `h`. -/
def dprob (h : Fin 4) (r : Fin 8192) (j : Fin 256) : EReal :=
  ∑ x : Fin 128, dom (ix2 r ⟨↑h * 128 + ↑x, by omega⟩) * kv (ix2 j ⟨512 + ↑h * 128 + ↑x, by omega⟩)

theorem v11_eq (h : Fin 4) (r : Fin 8192) (j : Fin 256) :
    val_main_v11 (F := Ideal) z kv (ix3 h r j) = logit z kv h r j := by
  unfold logit
  pointwise [val_main_v11, val_main_v10, val_main_v9, val_main_v6, val_main_v5, val_main_v4, val_main_v3, val_main_v2, val_main_v1, val_main_v0, val_main_cst]

theorem v46_eq (h : Fin 4) (r : Fin 8192) (j : Fin 256) :
    val_main_v46 (F := Ideal) kv dom (ix3 h r j) = dprob kv dom h r j := by
  unfold dprob
  pointwise [val_main_v46, val_main_v45, val_main_v44, val_main_v43, val_main_v8, val_main_v7, val_main_v4, val_main_v2]

/-- A maximum along the last axis that starts at −∞. -/
theorem hostMax_eq (L : FVec Ideal S4x8192x256 .f32) (h : Fin 4) (r : Fin 8192) :
    (Host.reduce FloatOps.maximumf L (constant S_ .f32 0xFF800000#32) Facts₀.reducesTo_S4x8192x256_S4x8192_d2 Facts₀.h_S_
      : FVec Ideal S4x8192 .f32) (ix2 h r) = Law.top (fun j => L (ix3 h r j)) := by
  rw [Host.reduce_eq_fold_single (FloatOps.maximumf (F := Ideal) (φ := .f32)) L _ _
    (by decide : S4x8192x256.Reduces [2] S4x8192) _]
  exact congrArg (fun f => Finset.fold max (Ideal.ofBits FTy.f32 0xFF800000#32) f (Finset.univ : Finset (Fin 256)))
    (funext fun k => congrArg L (funext fun a => Fin.ext (by match a with | ⟨0, _⟩ => rfl | ⟨1, _⟩ => rfl | ⟨2, _⟩ => rfl)))

theorem v12_eq (h : Fin 4) (r : Fin 8192) :
    val_main_v12 (F := Ideal) z kv (ix2 h r) = Law.top (logit z kv h r) := by
  have e : ∀ j, val_main_v11 (F := Ideal) z kv (ix3 h r j) = logit z kv h r j := v11_eq z kv h r
  unfold val_main_v12 val_main_cst_0
  generalize val_main_v11 (F := Ideal) z kv = L at e ⊢
  rw [hostMax_eq]
  exact congrArg Law.top (funext e)

/-- A maximum that starts at −∞ is not changed by one more −∞. -/
theorem max_negInf (x : EReal) : max (Ideal.ofBits FTy.f32 0xFF800000#32) x = x := by
  rw [Law.ofBits_negInf]
  exact max_eq_right bot_le

theorem v19_eq (h : Fin 4) (r : Fin 8192) :
    val_main_v19 (F := Ideal) z kv (ix2 h r) = Law.top (logit z kv h r) := by
  rw [val_main_v19_apply, val_main_v18_apply, v12_eq]
  exact max_negInf _

theorem v32_eq (h : Fin 4) (r : Fin 8192) (j : Fin 256) :
    val_main_v32 (F := Ideal) z kv (ix3 h r j) = Law.ex (logit z kv h r) j := by
  have e := v11_eq z kv h r j
  have t := v19_eq z kv h r
  unfold val_main_v32 val_main_v31 val_main_v30 val_main_v29
  generalize val_main_v11 (F := Ideal) z kv = L at e ⊢
  generalize val_main_v19 (F := Ideal) z kv = T at t ⊢
  pointwise
  rw [e, t]
  rfl

theorem v33_eq (h : Fin 4) (r : Fin 8192) :
    val_main_v33 (F := Ideal) z kv (ix2 h r) = Law.tot (logit z kv h r) := by
  have e : ∀ j, val_main_v32 (F := Ideal) z kv (ix3 h r j) = Law.ex (logit z kv h r) j := v32_eq z kv h r
  unfold val_main_v33 val_main_cst_8
  generalize val_main_v32 (F := Ideal) z kv = L at e ⊢
  pointwise
  simp only [e]
  rfl

theorem v36_eq (h : Fin 4) (r : Fin 8192) (j : Fin 256) :
    val_main_v36 (F := Ideal) z kv (ix3 h r j) = Law.pr (logit z kv h r) j := by
  have e := v32_eq z kv h r j
  have t := v33_eq z kv h r
  unfold val_main_v36 val_main_v35 val_main_v34
  generalize val_main_v32 (F := Ideal) z kv = L at e ⊢
  generalize val_main_v33 (F := Ideal) z kv = T at t ⊢
  pointwise
  rw [e, t]
  rfl

theorem v52_eq (h : Fin 4) (r : Fin 8192) :
    val_main_v52 (F := Ideal) z kv dom (ix2 h r) = ∑ x, dprob kv dom h r x
      * Ideal.div 1 (Law.tot (logit z kv h r) * Law.tot (logit z kv h r)) * Law.ex (logit z kv h r) x := by
  have e : ∀ j, val_main_v32 (F := Ideal) z kv (ix3 h r j) = Law.ex (logit z kv h r) j := v32_eq z kv h r
  have d : ∀ j, val_main_v46 (F := Ideal) kv dom (ix3 h r j) = dprob kv dom h r j := v46_eq kv dom h r
  have t := v33_eq z kv h r
  unfold val_main_v52 val_main_v51 val_main_v50 val_main_v49 val_main_v39 val_main_v38 val_main_v37 val_main_v34 val_main_cst_9 val_main_cst_10
  generalize val_main_v32 (F := Ideal) z kv = L at e ⊢
  generalize val_main_v33 (F := Ideal) z kv = T at t ⊢
  generalize val_main_v46 (F := Ideal) kv dom = D at d ⊢
  pointwise
  simp only [e, t, d]

theorem v62_eq (h : Fin 4) (r : Fin 8192) (j : Fin 256) :
    val_main_v62 (F := Ideal) z kv dom (ix3 h r j) = Law.dsBack (logit z kv h r) (dprob kv dom h r) j * scale := by
  have e := v32_eq z kv h r j
  have d := v46_eq kv dom h r j
  have t := v33_eq z kv h r
  have s := v52_eq z kv dom h r
  unfold val_main_v62 val_main_v61 val_main_v60 val_main_v59 val_main_v58 val_main_v57 val_main_v56 val_main_v55 val_main_v54 val_main_v53 val_main_v34 val_main_cst_11 val_main_cst_12
  generalize val_main_v32 (F := Ideal) z kv = L at e ⊢
  generalize val_main_v33 (F := Ideal) z kv = T at t ⊢
  generalize val_main_v46 (F := Ideal) kv dom = D at d ⊢
  generalize val_main_v52 (F := Ideal) z kv dom = W at s ⊢
  pointwise
  rw [e, d, t, s]
  unfold Law.dsBack
  simp

/-- The gradient of the values: column `d` of head `h`. -/
theorem v48_eq (h : Fin 4) (m : Fin 256) (d : Fin 128) :
    val_main_v48 (F := Ideal) z kv dom (ix3 m h d)
      = ∑ r : Fin 8192, dom (ix2 r ⟨↑h * 128 + ↑d, by omega⟩) * Law.pr (logit z kv h r) m := by
  have e : ∀ r, val_main_v36 (F := Ideal) z kv (ix3 h r m) = Law.pr (logit z kv h r) m := fun r => v36_eq z kv h r m
  unfold val_main_v48 val_main_v47 val_main_v45 val_main_v44 val_main_v43
  generalize val_main_v36 (F := Ideal) z kv = L at e ⊢
  pointwise
  simp only [e]

/-- The gradient of the keys: column `d` of head `h`. -/
theorem v64_eq (h : Fin 4) (m : Fin 256) (d : Fin 128) :
    val_main_v64 (F := Ideal) z kv dom (ix3 m h d)
      = ∑ r : Fin 8192, Law.dsBack (logit z kv h r) (dprob kv dom h r) m * scale * z (ix2 r ⟨4096 + (↑h * 128 + ↑d), by omega⟩) := by
  have e : ∀ r, val_main_v62 (F := Ideal) z kv dom (ix3 h r m) = _ := fun r => v62_eq z kv dom h r m
  unfold val_main_v64 val_main_v63 val_main_v3 val_main_v1 val_main_v0
  generalize val_main_v62 (F := Ideal) z kv dom = L at e ⊢
  pointwise
  simp only [e]

/-- The gradient of the queries: column `d` of head `h`. -/
theorem v66_eq (h : Fin 4) (r : Fin 8192) (d : Fin 128) :
    val_main_v66 (F := Ideal) z kv dom (ix3 r h d)
      = ∑ m : Fin 256, Law.dsBack (logit z kv h r) (dprob kv dom h r) m * scale * kv (ix2 m ⟨↑h * 128 + ↑d, by omega⟩) := by
  have e : ∀ m, val_main_v62 (F := Ideal) z kv dom (ix3 h r m) = _ := fun m => v62_eq z kv dom h r m
  unfold val_main_v66 val_main_v65 val_main_v6 val_main_v5 val_main_v4 val_main_v2
  generalize val_main_v62 (F := Ideal) z kv dom = L at e ⊢
  pointwise
  simp only [e]

/-- The second result: the gradient of the keys in the first 512 columns, of the values in the last. -/
theorem v72_eq (m : Fin 256) (j : Fin 1024) :
    val_main_v72 (F := Ideal) z kv dom (ix2 m j)
      = if (j : ℕ) < 512 then val_main_v64 (F := Ideal) z kv dom (ix3 m ⟨↑j / 128 % 4, by omega⟩ ⟨↑j % 128, by omega⟩)
        else val_main_v48 (F := Ideal) z kv dom (ix3 m ⟨↑j / 128 % 4, by omega⟩ ⟨↑j % 128, by omega⟩) := by
  unfold val_main_v72 val_main_v71 val_main_v70 val_main_v69 val_main_v68 val_main_v67 val_main_cst_13 val_main_cst_14
  generalize val_main_v64 (F := Ideal) z kv dom = L
  generalize val_main_v48 (F := Ideal) z kv dom = A
  pointwise
  have hj := j.isLt
  by_cases h : (j : ℕ) < 512
  · have a : ¬ ((1 ≤ (j : ℕ) / 512 ∧ (j : ℕ) / 512 - 1 < 1) ∧ (j : ℕ) / 128 % 4 < 4 ∧ (j : ℕ) % 128 < 128) := by omega
    have b : (j : ℕ) / 512 < 1 ∧ (j : ℕ) / 128 % 4 < 4 ∧ (j : ℕ) % 128 < 128 := by omega
    simp only [dif_neg a, dif_pos b, if_pos h, zero_add]
  · have a : (1 ≤ (j : ℕ) / 512 ∧ (j : ℕ) / 512 - 1 < 1) ∧ (j : ℕ) / 128 % 4 < 4 ∧ (j : ℕ) % 128 < 128 := by omega
    have b : ¬ ((j : ℕ) / 512 < 1 ∧ (j : ℕ) / 128 % 4 < 4 ∧ (j : ℕ) % 128 < 128) := by omega
    simp only [dif_pos a, dif_neg b, if_neg h, add_zero]

/-- The first result: the gradient of the queries in columns 4096 to 4607, the array it is written into elsewhere. -/
theorem v77_eq (dz : FVec Ideal S8192x6912 .bf16) (r : Fin 8192) (j : Fin 6912) :
    val_main_v77 (F := Ideal) z kv dom dz (ix2 r j)
      = if h : 4096 ≤ (j : ℕ) ∧ (j : ℕ) < 4608 then val_main_v66 (F := Ideal) z kv dom (ix3 r ⟨(↑j - 4096) / 128, by omega⟩ ⟨↑j % 128, by omega⟩)
        else dz (ix2 r j) := by
  unfold val_main_v77 val_main_v76 val_main_v75 val_main_v74 val_main_v73
  generalize val_main_v66 (F := Ideal) z kv dom = L
  pointwise
  have hj := j.isLt
  by_cases h1 : (j : ℕ) < 4096
  · have a : ¬ (4096 ≤ (j : ℕ) ∧ (j : ℕ) < 4608) := by omega
    simp only [h1, a, dite_true, dite_false]
  · by_cases h2 : (j : ℕ) < 4608
    · have a : 4096 ≤ (j : ℕ) ∧ (j : ℕ) < 4608 := by omega
      have b : (j : ℕ) - 4096 < 512 := by omega
      simp only [h1, a, b, dite_true, dite_false, and_self]
      have e : ((j : ℕ) - 4096) % 128 = j % 128 := by omega
      simp only [e]
    · have a : ¬ (4096 ≤ (j : ℕ) ∧ (j : ℕ) < 4608) := by omega
      have b : ¬ (j : ℕ) - 4096 < 512 := by omega
      simp only [h1, a, b, dite_true, dite_false]
      have e : 4608 + ((j : ℕ) - 4096 - 512) = j := by omega
      simp only [e]

end Cert.ReferenceIdeal.Stages
end
-- ==== Proof.Rows.lean ====
/- A block of the kernel against the rows of the whole arrays: the same logits, and so the same gradients. -/
module
public import proofs.«01_k».proof.Proof.Block
public import proofs.«01_k».proof.Proof.Stages
@[expose] public section
set_option maxRecDepth 16384
noncomputable section
open Idealize.ShloMosaic Idealize.ShloMosaic.TcCoe Idealize.SL.Sem

namespace Cert.KernelIdeal.Rows
open Cert.KernelIdeal Cert.KernelIdeal.Gen Cert.KernelIdeal.Block

variable (z : FVec Ideal S8192x6912 .bf16) (kv : FVec Ideal S256x1024 .bf16) (dom : FVec Ideal S8192x512 .bf16)
variable (Q D : Vec Ideal S512x512 .bf16) (t : Fin 16)

/-- Row `r` of block `t`. -/
abbrev row (r : Fin 512) : Fin 8192 := ⟨t.val * 512 + r.val, by omega⟩

/-- The block holds the rows `512 t …` of the queries and of the gradient of the output. -/
def IsBlock : Prop :=
  (∀ (r : Fin 512) (l : Fin 512), Q (ix2 r l) = z (ix2 (row t r) ⟨4096 + l.val, by omega⟩)) ∧
  (∀ (r : Fin 512) (l : Fin 512), D (ix2 r l) = dom (ix2 (row t r) l))

variable {z dom Q D t}

theorem lg_eq (hb : IsBlock z dom Q D t) (h : Fin 4) (r : Fin 512) :
    Head.lg (keys kv h) (rows Q h) r = Cert.ReferenceIdeal.Stages.logit z kv h (row t r) := by
  funext j
  unfold Head.lg Cert.ReferenceIdeal.Stages.logit
  refine congrArg (· * _) (Finset.sum_congr rfl fun x _ => ?_)
  exact congrArg₂ (· * ·) (hb.1 r ⟨h.val * 128 + x.val, by omega⟩) rfl

theorem dp_eq (hb : IsBlock z dom Q D t) (h : Fin 4) (r : Fin 512) :
    Head.dp (vals kv h) (rows D h) r = Cert.ReferenceIdeal.Stages.dprob kv dom h (row t r) := by
  funext j
  unfold Head.dp Cert.ReferenceIdeal.Stages.dprob
  refine (Finset.sum_congr rfl fun x _ => ?_)
  exact congrArg₂ (· * ·) (hb.2 r ⟨h.val * 128 + x.val, by omega⟩) rfl

/-- The scale goes into the sum. -/
theorem scale_sum {n : ℕ} (f g : Fin n → EReal) :
    (∑ i, f i * g i) * Head.scale = ∑ i, f i * Head.scale * g i := by
  obtain ⟨c, hc, e⟩ := Law.ofBits_scale
  unfold Head.scale
  rw [e, mul_comm, Law.mul_sum_nonneg _ hc]
  exact Finset.sum_congr rfl fun i _ => by ac_rfl

variable (hl : ∀ (h : Fin 4) (r : Fin 8192) (j : Fin 256), ∃ x : ℝ, Cert.ReferenceIdeal.Stages.logit z kv h r j = (x : EReal))
include hl

/-- What a point writes into the gradient of the queries is the reference's gradient there. -/
theorem query_eq (hb : IsBlock z dom Q D t) (r : Fin 512) (l : Fin 512) :
    query Q D kv r l = Cert.ReferenceIdeal.Read.val_main_v66 (F := Ideal) z kv dom
      (ix3 (row t r) (⟨l.val / 128, by omega⟩ : Fin 4) (⟨l.val % 128, by omega⟩ : Fin 128)) := by
  rw [Cert.ReferenceIdeal.Stages.v66_eq]
  unfold query Head.dq
  rw [scale_sum]
  refine Finset.sum_congr rfl fun j _ => ?_
  rw [lg_eq kv hb, dp_eq kv hb, Law.dsBack_eq _ _ (hl _ _)]
  rfl

/-- What a point adds to the gradient of the keys and values is the sum of the reference's terms over its rows. -/
theorem part_eq (hb : IsBlock z dom Q D t) (j : Fin 256) (l : Fin 1024) :
    part Q D kv j l = ∑ r : Fin 512, (if l.val < 512 then
        Law.ds (Cert.ReferenceIdeal.Stages.logit z kv ⟨l.val / 128 % 4, by omega⟩ (row t r))
          (Cert.ReferenceIdeal.Stages.dprob kv dom ⟨l.val / 128 % 4, by omega⟩ (row t r)) j * Head.scale
          * z (ix2 (row t r) ⟨4096 + (l.val / 128 % 4 * 128 + l.val % 128), by omega⟩)
      else dom (ix2 (row t r) ⟨l.val / 128 % 4 * 128 + l.val % 128, by omega⟩)
          * Law.pr (Cert.ReferenceIdeal.Stages.logit z kv ⟨l.val / 128 % 4, by omega⟩ (row t r)) j) := by
  unfold part
  by_cases h : l.val < 512
  · rw [if_pos h]
    unfold Head.dk
    rw [scale_sum]
    refine Finset.sum_congr rfl fun r _ => ?_
    rw [if_pos h, lg_eq kv hb, dp_eq kv hb]
    exact congrArg (_ * ·) (hb.1 r _)
  · rw [if_neg h]
    unfold Head.dv
    refine Finset.sum_congr rfl fun r _ => ?_
    rw [if_neg h, lg_eq kv hb, mul_comm]
    exact congrArg (· * _) (hb.2 r _)

/-- The reference's gradient of the keys and values is the sum of those terms over all rows. -/
theorem total_eq (dom : FVec Ideal S8192x512 .bf16) (j : Fin 256) (l : Fin 1024) :
    Cert.ReferenceIdeal.Read.val_main_v72 (F := Ideal) z kv dom (ix2 j l) = ∑ r : Fin 8192, (if l.val < 512 then
        Law.ds (Cert.ReferenceIdeal.Stages.logit z kv ⟨l.val / 128 % 4, by omega⟩ r)
          (Cert.ReferenceIdeal.Stages.dprob kv dom ⟨l.val / 128 % 4, by omega⟩ r) j * Head.scale
          * z (ix2 r ⟨4096 + (l.val / 128 % 4 * 128 + l.val % 128), by omega⟩)
      else dom (ix2 r ⟨l.val / 128 % 4 * 128 + l.val % 128, by omega⟩)
          * Law.pr (Cert.ReferenceIdeal.Stages.logit z kv ⟨l.val / 128 % 4, by omega⟩ r) j) := by
  rw [Cert.ReferenceIdeal.Stages.v72_eq]
  by_cases h : l.val < 512
  · rw [if_pos h, Cert.ReferenceIdeal.Stages.v64_eq]
    refine Finset.sum_congr rfl fun r _ => ?_
    rw [if_pos h, Law.dsBack_eq _ _ (hl _ _)]
  · rw [if_neg h, Cert.ReferenceIdeal.Stages.v48_eq]
    refine Finset.sum_congr rfl fun r _ => ?_
    rw [if_neg h]

end Cert.KernelIdeal.Rows
end
-- ==== Proof.Arrays.lean ====
/- The arrays that the grid leaves: the gradient of the queries block by block, the gradient of the keys and values summed over the blocks. -/
module
public import proofs.«01_k».proof.Proof.Rows
public import Idealize.ShloMosaic.Lib.Claim
@[expose] public section
set_option maxRecDepth 16384
noncomputable section
open Idealize.ShloMosaic Idealize.ShloMosaic.TcCoe Idealize.SL.Sem

namespace Cert.KernelIdeal.Arrays
open Cert.KernelIdeal Cert.KernelIdeal.Gen Cert.KernelIdeal.Block
open Cert.ReferenceIdeal.Read (val_main_v72 val_main_v77)

variable (m : (ℓ : Loc nD τ sig) → Buf (Elt Ideal) ℓ) (c : Dev nD)

/-- The block each window takes at a point. -/
theorem idx : ∀ t : Fin cfg0.N, win0_0.index t = ![t.val, 8] ∧ win0_1.index t = ![0, 0] ∧ win0_2.index t = ![t.val, 0] ∧ win0_3.index t = ![t.val, 8] ∧ win0_4.index t = ![0, 0] :=
  (by decide +kernel : ∀ t : Fin grid0.N, _)

theorem xsize3 : ∀ (t : Fin cfg0.N) (a), (cfg0.win 3).xsize (cfg0.grid.coords t) a = 512 := by decide +kernel

/-- Where an element of the block of the gradient of the queries lies in the block and in the array. -/
theorem place (t : Fin cfg0.N) (y : ((cfg0.win 3).xblock (cfg0.grid.coords t)).Idx) : ∃ (r : Fin 512) (l : Fin 512),
    (cfg0.win 3).xinj (cfg0.grid.coords t) y = ix2 r l ∧
    (win0_3.blk t).view.emb y = ix2 (⟨t.val * 512 + r.val, by have := t.isLt; have : cfg0.N = 16 := N_0; omega⟩ : Fin 8192) (⟨4096 + l.val, by omega⟩ : Fin 6912) := by
  have b0 : (y 0).val < (cfg0.win 3).xsize (cfg0.grid.coords t) 0 := (y 0).isLt
  have b1 : (y 1).val < (cfg0.win 3).xsize (cfg0.grid.coords t) 1 := (y 1).isLt
  rw [xsize3] at b0 b1
  refine ⟨⟨(y 0).val, b0⟩, ⟨(y 1).val, b1⟩, ?_, ?_⟩
  · funext a
    match a with
    | ⟨0, _⟩ => rfl
    | ⟨1, _⟩ => rfl
  · have e := fun a => (cfg0.win 3).rect_emb_val t y a
    have i := (idx t).2.2.2.1
    funext a
    refine Fin.ext ?_
    match a with
    | ⟨0, _⟩ =>
      refine (e 0).trans ?_
      rw [show (cfg0.win 3).index t 0 = t.val from congrFun i 0]
      show t.val * 512 + (y 0).val = t.val * 512 + (y 0).val
      rfl
    | ⟨1, _⟩ =>
      refine (e 1).trans ?_
      rw [show (cfg0.win 3).index t 1 = 8 from congrFun i 1]
      show 8 * 512 + (y 1).val = 4096 + (y 1).val
      rfl

theorem q_block (t : Fin cfg0.N) (r : Fin 512) (l : Fin 512) :
    X0_0 m c t (ix2 r l) = m ((c : Thread nD τ).loc main_arg0) (ix2 (⟨t.val * 512 + r.val, by have := t.isLt; have : cfg0.N = 16 := N_0; omega⟩ : Fin 8192) (⟨4096 + l.val, by omega⟩ : Fin 6912)) := by
  unfold X0_0 Pipeline.Window.fill
  rw [dif_pos (moved0_0 t _)]
  blk_ext [iblk, V, idx t]
theorem d_block (t : Fin cfg0.N) (r : Fin 512) (l : Fin 512) :
    iblk m c 2 t (ix2 r l) = m ((c : Thread nD τ).loc main_arg2) (ix2 (⟨t.val * 512 + r.val, by have := t.isLt; have : cfg0.N = 16 := N_0; omega⟩ : Fin 8192) l) := by
  blk_ext [iblk, V, idx t]
theorem kv_block (t : Fin cfg0.N) : iblk m c 1 t = m ((c : Thread nD τ).loc main_arg1) := by
  funext j
  blk_ext [iblk, V, idx t]

/-- The argument arrays. -/
abbrev z : FVec Ideal S8192x6912 .bf16 := m ((c : Thread nD τ).loc main_arg0)
abbrev kv : FVec Ideal S256x1024 .bf16 := m ((c : Thread nD τ).loc main_arg1)
abbrev dom : FVec Ideal S8192x512 .bf16 := m ((c : Thread nD τ).loc main_arg2)
abbrev dz : FVec Ideal S8192x6912 .bf16 := m ((c : Thread nD τ).loc main_arg3)

/-- The number of a point. -/
abbrev pt (t : Fin cfg0.N) : Fin 16 := ⟨t.val, lt_of_lt_of_eq t.isLt N_0⟩

/-- The sums over the blocks add up to the sum over all rows. -/
theorem sum_blocks (f : Fin 8192 → EReal) : ∑ t : Fin cfg0.N, ∑ r : Fin 512, f (Rows.row (pt t) r) = ∑ r : Fin 8192, f r :=
  Fin.sum_mul_add_congr (S := cfg0.N) (n := 512) (f := f) fun t k hlt => rfl

theorem isBlock (t : Fin cfg0.N) : Rows.IsBlock (z m c) (dom m c) (X0_0 m c t) (iblk m c 2 t) (pt t) :=
  ⟨fun r l => q_block m c t r l, fun r l => d_block m c t r l⟩

/-- The array of the gradient of `z` starts as the argument. -/
theorem V_out : V m c main_v0_0 = m ((c : Thread nD τ).loc main_arg3) := by
  unfold V; after_results; try rfl

variable (hl : ∀ (h : Fin 4) (r : Fin 8192) (j : Fin 256), ∃ x : ℝ, Cert.ReferenceIdeal.Stages.logit (z m c) (kv m c) h r j = (x : EReal))
include hl

/-- The gradient of the keys and values. -/
theorem final4 : (dats m 0 c).arrAt 4 cfg0.N = val_main_v72 (F := Ideal) (z m c) (kv m c) (dom m c) := by
  refine (dats m 0 c).arrAt_eq_of_after_last 4 t0_15 (by decide +kernel) _ fun j => ?_
  blk_simp
  idx_vars j
  rw [after0_4, Pipeline.eq_sum_fin_of_reset_step_apply_last (fun n h => (outsAt0 m c n h).2) 16 (fun _ => (0 : EReal))
    (fun t i => part (X0_0 m c t) (iblk m c 2 t) (iblk m c 1 t) (i 0) (i 1))
    (fun t h i => by idx_vars i; exact stepA m c t h _ _) (fun t h i => by idx_vars i; exact stepB m c t h _ _) (le_of_eq N_0) t0_15 rfl (ix2 j0 j1)]
  show (0 : EReal) + ∑ t : Fin cfg0.N, part (X0_0 m c t) (iblk m c 2 t) (iblk m c 1 t) j0 j1 = _
  rw [zero_add, Rows.total_eq (kv m c) hl]
  refine Eq.trans (Finset.sum_congr rfl fun t _ => ?_) (sum_blocks _)
  rw [kv_block]
  exact Rows.part_eq (kv m c) hl (isBlock m c t) j0 j1

/-- The gradient of `z`: the columns of the queries are written, the others are kept. -/
theorem final3 : (dats m 0 c).arrAt 3 cfg0.N = val_main_v77 (F := Ideal) (z m c) (kv m c) (dom m c) (dz m c) := by
  have e : (dats m 0 c).arrAt 3 cfg0.N = fun i => if 4096 ≤ (i 1 : ℕ) ∧ (i 1 : ℕ) < 4608
      then val_main_v77 (F := Ideal) (z m c) (kv m c) (dom m c) (dz m c) i else V m c main_v0_0 i := by
    refine (dats m 0 c).arrAt_eq_of_coversWhere 3 _ (fun β => β 1 = 8) (by decide +kernel) (fun t hf y => ?_)
      (fun j => by blk_simp [Pipeline.Window.cell_apply]; omega)
    blk_simp
    rw [after0_3]
    obtain ⟨r, l, hx, he⟩ := place t y
    refine (congrArg (outsAt0 m c t.val t.isLt).1 hx).trans (Eq.trans ?_ (congrArg (val_main_v77 (F := Ideal) (z m c) (kv m c) (dom m c) (dz m c)) he).symm)
    have h1 : 4096 ≤ 4096 + l.val ∧ 4096 + l.val < 4608 := by omega
    rw [step3, kv_block, Rows.query_eq (kv m c) hl (isBlock m c t), Cert.ReferenceIdeal.Stages.v77_eq, dif_pos h1]
    have e1 : (4096 + l.val - 4096) / 128 = l.val / 128 := by omega
    have e2 : (4096 + l.val) % 128 = l.val % 128 := by omega
    simp only [e1, e2]
  rw [e, V_out]
  funext i
  split
  · rfl
  · idx_vars i
    rw [Cert.ReferenceIdeal.Stages.v77_eq, dif_neg (by assumption)]

end Cert.KernelIdeal.Arrays
end
-- ==== Proof.Finite.lean ====
/- The precondition read: the queries and the keys are real numbers, and so is every logit. -/
module
public import proofs.«01_k».proof.Pre_finite_logits
public import proofs.«01_k».proof.Proof.Stages
public import Idealize.ShloMosaic.Lib.ReduceAll
public import Idealize.ShloMosaic.Lib.Pointwise
@[expose] public section
set_option maxRecDepth 16384
noncomputable section
open Idealize.ShloMosaic Idealize.ShloMosaic.TcCoe Idealize.SL.Sem

namespace Cert.Finite

variable [Cert.Pre_finite_logits.Facts]
variable (z : FVec Ideal Cert.Pre_finite_logits.S8192x6912 .bf16) (kv : FVec Ideal Cert.Pre_finite_logits.S256x1024 .bf16)
  (dom : FVec Ideal Cert.Pre_finite_logits.S8192x512 .bf16) (dz : FVec Ideal Cert.Pre_finite_logits.S8192x6912 .bf16)

theorem query_real (h : Cert.Pre_finite_logits.fn (F := Ideal) z kv dom dz = fun _ => 1#1) (r : Fin 8192) (l : Fin 512) :
    ∃ x : ℝ, z (ix2 r (⟨4096 + l.val, by omega⟩ : Fin 6912)) = (x : EReal) := by
  have h0 := (IntOp.andi_eq_one.1 (congrFun h ix0)).1
  refine Law.real_of_abs _ (Eq.trans ?_ (Host.reduce_andi_all _ _ _ _ _ h0 (ix2 r l)))
  pointwise
  rfl

theorem key_real (h : Cert.Pre_finite_logits.fn (F := Ideal) z kv dom dz = fun _ => 1#1) (j : Fin 256) (l : Fin 512) :
    ∃ x : ℝ, kv (ix2 j (⟨l.val, by omega⟩ : Fin 1024)) = (x : EReal) := by
  have h0 := (IntOp.andi_eq_one.1 (congrFun h ix0)).2
  refine Law.real_of_abs _ (Eq.trans ?_ (Host.reduce_andi_all _ _ _ _ _ h0 (ix2 j l)))
  pointwise
  rfl

/-- Under the precondition every logit is a real number. -/
theorem logit_real (h : Cert.Pre_finite_logits.fn (F := Ideal) z kv dom dz = fun _ => 1#1) (a : Fin 4) (r : Fin 8192) (j : Fin 256) :
    ∃ x : ℝ, Cert.ReferenceIdeal.Stages.logit z kv a r j = (x : EReal) := by
  obtain ⟨c, -, hc⟩ := Law.ofBits_scale
  choose q hq using fun x : Fin 128 => query_real z kv dom dz h r ⟨a.val * 128 + x.val, by omega⟩
  choose k hk using fun x : Fin 128 => key_real z kv dom dz h j ⟨a.val * 128 + x.val, by omega⟩
  refine ⟨(∑ x, q x * k x) * c, ?_⟩
  unfold Cert.ReferenceIdeal.Stages.logit Cert.ReferenceIdeal.Stages.scale
  rw [hc, EReal.coe_mul, Law.coe_sum]
  refine congrArg (· * _) (Finset.sum_congr rfl fun x _ => ?_)
  rw [EReal.coe_mul]
  exact congrArg₂ (· * ·) (hq x) (hk x)

end Cert.Finite
end
-- ==== Proof.lean ====
/- The claims about the kernels of one training step: each runs and leaves its arguments alone, and each
   computes the gradients that the plain reference computes. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_logits
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.NormIn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.NormFfn
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.WeightIn
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.WeightFfnIn
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.WeightFfnOut
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.ForwardIn
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.ForwardFfn
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Pre_finite_ffn
public import proofs.«01_k».proof.Proof.FfnOut
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.MergeFwd
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Loss
public import proofs.«01_k».proof.Proof.MergeBits
public import proofs.«01_k».proof.Proof.MergeBwd
public import proofs.«01_k».proof.Proof.Arrays
public import proofs.«01_k».proof.Proof.Finite
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference runs, keeps its arguments and leaves no counter raised. -/
theorem reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same under the precondition. -/
theorem referencePre : Cert.quiescent_ReferenceIdeal_pre_finite_logits := fun m ρ _ => reference m ρ trivial

/-- The kernel leaves the gradients that the reference computes. -/
theorem value : Cert.algebraic_KernelIdeal_ReferenceIdeal_pre_finite_logits := by
  pair_intro
  · run_from Cert.KernelIdeal.Value.run_blocks m g
  · run_from Cert.ReferenceIdeal.Value.run m' g'
    · rw [Cert.ReferenceIdeal.Read.val_main_v77_eq, (hagree c).1, (hagree c).2.1, (hagree c).2.2.1, (hagree c).2.2.2]
      exact (Cert.KernelIdeal.Arrays.final3 m c (Cert.Finite.logit_real _ _ _ _ (hpre c))).symm
    · rw [Cert.ReferenceIdeal.Read.val_main_v72_eq, (hagree c).1, (hagree c).2.1, (hagree c).2.2.1]
      exact (Cert.KernelIdeal.Arrays.final4 m c (Cert.Finite.logit_real _ _ _ _ (hpre c))).symm

/-- Program 2's reference runs, keeps its arguments and leaves no counter raised. -/
theorem reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The gradients of the input and of its norm are those that the reference computes. -/
theorem value2 : Cert.algebraic_Kernel2Ideal_Reference2Ideal := by
  pair_intro
  · run_from Cert.Kernel2Ideal.Value.run_blocks m g
  · refine (θ_run Cert.Reference2Ideal.defs _ _).mono (fun r h c => ?_) (Cert.Reference2Ideal.Value.run (F := Ideal) m' g')
    refine ⟨(h c).1.trans ?_, (h c).2.1.trans ?_, (h c).2.2⟩
    · rw [Cert.Reference2Ideal.Read.val_main_v38_eq, (hagree c).1, (hagree c).2.1, (hagree c).2.2.1, (hagree c).2.2.2.1, (hagree c).2.2.2.2]
      exact (Cert.Kernel2Ideal.Final.final5 m c).symm
    · rw [Cert.Reference2Ideal.Read.val_main_v21_eq, (hagree c).1, (hagree c).2.1, (hagree c).2.2.1]
      exact (Cert.Kernel2Ideal.Final.final6 m c).symm

/-- Program 3's reference runs, keeps its arguments and leaves no counter raised. -/
theorem reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The gradients of the feed-forward input and of its norm are those that the reference computes. -/
theorem value3 : Cert.algebraic_Kernel3Ideal_Reference3Ideal := by
  pair_intro
  · run_from Cert.Kernel3Ideal.Value.run_blocks m g
  · refine (θ_run Cert.Reference3Ideal.defs _ _).mono (fun r h c => ?_) (Cert.Reference3Ideal.Value.run (F := Ideal) m' g')
    refine ⟨(h c).1.trans ?_, (h c).2.1.trans ?_, (h c).2.2⟩
    · rw [Cert.Reference3Ideal.Read.val_main_v38_eq, (hagree c).1, (hagree c).2.1, (hagree c).2.2.1, (hagree c).2.2.2.1, (hagree c).2.2.2.2]
      exact (Cert.Kernel3Ideal.Final.final5 m c).symm
    · rw [Cert.Reference3Ideal.Read.val_main_v21_eq, (hagree c).1, (hagree c).2.1, (hagree c).2.2.1]
      exact (Cert.Kernel3Ideal.Final.final6 m c).symm

/-- Program 4's reference runs, keeps its arguments and leaves no counter raised. -/
theorem reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gradient of the input projection is the one that the reference computes. -/
theorem value4 : Cert.algebraic_Kernel4Ideal_Reference4Ideal := by
  pair_intro
  · run_from Cert.Kernel4Ideal.Value.run_blocks m g
  · run_from Cert.Reference4Ideal.Value.run m' g'
    rw [Cert.Reference4Ideal.Read.val_main_v3_eq]
    exact (Cert.Kernel4Ideal.Final.final m c).symm

/-- Program 5's reference runs, keeps its arguments and leaves no counter raised. -/
theorem reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The gradient of the feed-forward input weights is the one that the reference computes. -/
theorem value5 : Cert.algebraic_Kernel5Ideal_Reference5Ideal := by
  pair_intro
  · run_from Cert.Kernel5Ideal.Value.run_blocks m g
  · run_from Cert.Reference5Ideal.Value.run m' g'
    rw [Cert.Reference5Ideal.Read.val_main_v3_eq]
    exact (Cert.Kernel5Ideal.Final.final m c).symm

/-- Program 6's reference runs, keeps its arguments and leaves no counter raised. -/
theorem reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient of the feed-forward output weights is the one that the reference computes. -/
theorem value6 : Cert.algebraic_Kernel6Ideal_Reference6Ideal := by
  pair_intro
  · run_from Cert.Kernel6Ideal.Value.run_blocks m g
  · run_from Cert.Reference6Ideal.Value.run m' g'
    rw [Cert.Reference6Ideal.Read.val_main_v3_eq]
    exact (Cert.Kernel6Ideal.Final.final m c).symm

/-- Program 7's reference runs, keeps its arguments and leaves no counter raised. -/
theorem reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The input projection is the reference's product. -/
theorem value7 : Cert.algebraic_Kernel7Ideal_Reference7Ideal := by
  pair_intro
  · run_from Cert.Kernel7Ideal.Value.run_blocks m g
  · run_from Cert.Reference7Ideal.Value.run m' g'
    rw [Cert.Reference7Ideal.Read.val_main_v3_eq]
    exact (Cert.Kernel7Ideal.Final.final m c).symm

/-- Program 8's reference runs, keeps its arguments and leaves no counter raised. -/
theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The feed-forward input product is the reference's. -/
theorem value8 : Cert.algebraic_Kernel8Ideal_Reference8Ideal := by
  pair_intro
  · run_from Cert.Kernel8Ideal.Value.run_blocks m g
  · run_from Cert.Reference8Ideal.Value.run m' g'
    rw [Cert.Reference8Ideal.Read.val_main_v3_eq]
    exact (Cert.Kernel8Ideal.Final.final m c).symm

/-- Program 9's reference runs, keeps its arguments and leaves no counter raised. -/
theorem reference9 : Cert.quiescent_Reference9Ideal := fun m ρ _ =>
  (θ_run Cert.Reference9Ideal.defs _ _).mono (fun r h => ⟨fun c => (h c).2.2.2.2.2.2, sem_eq_zero_of_no_sems (by decide) r.2⟩)
    (Cert.Reference9Ideal.Value.run (F := Ideal) m ρ)

/-- The same under the precondition. -/
theorem reference9Pre : Cert.quiescent_Reference9Ideal_pre_finite_ffn := fun m ρ _ => reference9 m ρ trivial

/-- Program 11's reference runs, keeps its arguments and leaves no counter raised. -/
theorem reference11 : Cert.quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

/-- Program 10's reference runs, keeps its arguments and leaves no counter raised. -/
theorem reference10 : Cert.quiescent_Reference10Ideal := fun m ρ _ =>
  (θ_run Cert.Reference10Ideal.defs _ _).mono (fun r h => ⟨fun c => (h c).2.2.2.2.2.2.2.2.2.2, sem_eq_zero_of_no_sems (by decide) r.2⟩)
    (Cert.Reference10Ideal.Value.run (F := Ideal) m ρ)

/-- The second half of the feed-forward part and its gradient are those that the reference computes. -/
theorem value9 : Cert.algebraic_Kernel9Ideal_Reference9Ideal_pre_finite_ffn := by
  pair_intro
  · exact Cert.Kernel9Ideal.Final.run m g hpre
  · refine (θ_run Cert.Reference9Ideal.defs _ _).mono (fun r h c => ?_) (Cert.Reference9Ideal.Value.run (F := Ideal) m' g')
    refine ⟨(h c).1.trans ?_, (h c).2.1.trans ?_, (h c).2.2.1.trans ?_, (h c).2.2.2.1.trans ?_, (h c).2.2.2.2.1.trans ?_, (h c).2.2.2.2.2.1.trans ?_,
      (h c).2.2.2.2.2.2⟩
    · rw [Cert.Reference9Ideal.Read.val_main_v41_eq, (hagree c).1, (hagree c).2.1, (hagree c).2.2.1, (hagree c).2.2.2.1]
    · rw [Cert.Reference9Ideal.Read.val_main_v54_eq, (hagree c).1, (hagree c).2.1, (hagree c).2.2.1, (hagree c).2.2.2.1, (hagree c).2.2.2.2.1]
    · rw [Cert.Reference9Ideal.Read.val_main_v62_eq, (hagree c).2.1, (hagree c).2.2.1, (hagree c).2.2.2.1, (hagree c).2.2.2.2.2]
    · rw [Cert.Reference9Ideal.Read.val_main_v63_eq, (hagree c).2.1, (hagree c).2.2.1, (hagree c).2.2.2.1, (hagree c).2.2.2.2.2]
    · rw [Cert.Reference9Ideal.Read.val_main_v64_eq, (hagree c).2.1]
    · rw [Cert.Reference9Ideal.Read.val_main_v24_eq, (hagree c).2.1, (hagree c).2.2.1, (hagree c).2.2.2.2.2]

/-- The gate merge, its sum with the input and the next block's input are those that the reference computes. -/
theorem value11 : Cert.algebraic_Kernel11Ideal_Reference11Ideal := by
  pair_intro
  · run_from Cert.Kernel11Ideal.Value.run_blocks m g
  · refine (θ_run Cert.Reference11Ideal.defs _ _).mono (fun r h c => ?_) (Cert.Reference11Ideal.Value.run (F := Ideal) m' g')
    refine ⟨(h c).1.trans ?_, (h c).2.1.trans ?_, (h c).2.2.1.trans ?_, (h c).2.2.2.1.trans ?_, (h c).2.2.2.2⟩
    · rw [Cert.Reference11Ideal.Read.val_main_v45_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
      exact (Cert.Kernel11Ideal.Final.final12 m c).symm
    · rw [Cert.Reference11Ideal.Read.val_main_v46_eq, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.1]
      exact (Cert.Kernel11Ideal.Final.final13 m c).symm
    · rw [Cert.Reference11Ideal.Read.val_main_v32_eq, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
      exact (Cert.Kernel11Ideal.Final.final14 m c).symm
    · rw [Cert.Reference11Ideal.Read.val_main_v59_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
      exact (Cert.Kernel11Ideal.Final.final15 m c).symm

/-- The gradients of the gate merge are those that the reference computes. -/
theorem value10 : Cert.algebraic_Kernel10Ideal_Reference10Ideal := by
  pair_intro
  · run_from Cert.Kernel10Ideal.Final.run m g
  · refine (θ_run Cert.Reference10Ideal.defs _ _).mono (fun r h c => ?_) (Cert.Reference10Ideal.Value.run (F := Ideal) m' g')
    have h0 : StableHlo.launchContents m' c (Proc.devRef .tc Cert.Reference10Ideal.main_arg0) = m ((c.tc : Thread Cert.Kernel10Ideal.nD Cert.Kernel10Ideal.τ).loc Cert.Kernel10Ideal.main_arg0) := (hagree c).1
    have h1 : StableHlo.launchContents m' c (Proc.devRef .tc Cert.Reference10Ideal.main_arg1) = m ((c.tc : Thread Cert.Kernel10Ideal.nD Cert.Kernel10Ideal.τ).loc Cert.Kernel10Ideal.main_arg1) := (hagree c).2.1
    have h2 : StableHlo.launchContents m' c (Proc.devRef .tc Cert.Reference10Ideal.main_arg2) = m ((c.tc : Thread Cert.Kernel10Ideal.nD Cert.Kernel10Ideal.τ).loc Cert.Kernel10Ideal.main_arg2) := (hagree c).2.2.1
    have h3 : StableHlo.launchContents m' c (Proc.devRef .tc Cert.Reference10Ideal.main_arg3) = m ((c.tc : Thread Cert.Kernel10Ideal.nD Cert.Kernel10Ideal.τ).loc Cert.Kernel10Ideal.main_arg3) := (hagree c).2.2.2.1
    have h4 : StableHlo.launchContents m' c (Proc.devRef .tc Cert.Reference10Ideal.main_arg4) = m ((c.tc : Thread Cert.Kernel10Ideal.nD Cert.Kernel10Ideal.τ).loc Cert.Kernel10Ideal.main_arg4) := (hagree c).2.2.2.2.1
    have h5 : StableHlo.launchContents m' c (Proc.devRef .tc Cert.Reference10Ideal.main_arg5) = m ((c.tc : Thread Cert.Kernel10Ideal.nD Cert.Kernel10Ideal.τ).loc Cert.Kernel10Ideal.main_arg5) := (hagree c).2.2.2.2.2.1
    have h6 : StableHlo.launchContents m' c (Proc.devRef .tc Cert.Reference10Ideal.main_arg6) = m ((c.tc : Thread Cert.Kernel10Ideal.nD Cert.Kernel10Ideal.τ).loc Cert.Kernel10Ideal.main_arg6) := (hagree c).2.2.2.2.2.2.1
    have h7 : StableHlo.launchContents m' c (Proc.devRef .tc Cert.Reference10Ideal.main_arg7) = m ((c.tc : Thread Cert.Kernel10Ideal.nD Cert.Kernel10Ideal.τ).loc Cert.Kernel10Ideal.main_arg7) := (hagree c).2.2.2.2.2.2.2.1
    have h8 : StableHlo.launchContents m' c (Proc.devRef .tc Cert.Reference10Ideal.main_arg8) = m ((c.tc : Thread Cert.Kernel10Ideal.nD Cert.Kernel10Ideal.τ).loc Cert.Kernel10Ideal.main_arg8) := (hagree c).2.2.2.2.2.2.2.2.1
    have h9 : StableHlo.launchContents m' c (Proc.devRef .tc Cert.Reference10Ideal.main_arg9) = m ((c.tc : Thread Cert.Kernel10Ideal.nD Cert.Kernel10Ideal.τ).loc Cert.Kernel10Ideal.main_arg9) := (hagree c).2.2.2.2.2.2.2.2.2.1
    have h10 : StableHlo.launchContents m' c (Proc.devRef .tc Cert.Reference10Ideal.main_arg10) = m ((c.tc : Thread Cert.Kernel10Ideal.nD Cert.Kernel10Ideal.τ).loc Cert.Kernel10Ideal.main_arg10) := (hagree c).2.2.2.2.2.2.2.2.2.2
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
    · rw [Cert.Reference10Ideal.Read.val_main_v100_eq, h0, h1, h2, h3, h4, h5, h6, h7, h8, h9, h10]
    · rw [Cert.Reference10Ideal.Read.val_main_v101_eq, h0, h1, h2, h3, h4, h5, h6, h7, h8, h9, h10]
    · rw [Cert.Reference10Ideal.Read.val_main_v102_eq, h0, h1, h2, h3, h4, h5, h6, h7, h8, h9, h10]
    · rw [Cert.Reference10Ideal.Read.val_main_v103_eq, h0, h1, h2, h3, h4, h5, h6, h7, h8, h9, h10]
    · rw [Cert.Reference10Ideal.Read.val_main_v91_eq, h0, h1, h2, h3, h4, h5, h6, h7, h8, h9, h10]
    · rw [Cert.Reference10Ideal.Read.val_main_v83_eq, h0, h1, h2, h3, h4, h5, h6, h7, h8, h9, h10]
    · rw [Cert.Reference10Ideal.Read.val_main_v76_eq, h0, h1, h2, h3, h4, h5, h6, h7, h8, h9, h10]
    · rw [Cert.Reference10Ideal.Read.val_main_v71_eq, h0, h1, h2, h3, h4, h5, h6, h7, h8, h9, h10]
    · rw [Cert.Reference10Ideal.Read.val_main_v99_eq, h0, h1, h2, h3, h4, h5, h6, h7, h8, h9, h10]
    · rw [Cert.Reference10Ideal.Read.val_main_v53_eq, h0, h1, h2, h3, h4, h5, h6, h7, h8, h10]

/-- Program 12's reference runs, keeps its arguments and leaves no counter raised. -/
theorem reference12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

/-- The last layer's projection, the gradient of the loss and the loss are those that the reference computes. -/
theorem value12 : Cert.algebraic_Kernel12Ideal_Reference12Ideal := by
  pair_intro
  · run_from Cert.Kernel12Ideal.Value.run_blocks m g
  · refine (θ_run Cert.Reference12Ideal.defs _ _).mono (fun r h c => ?_) (Cert.Reference12Ideal.Value.run (F := Ideal) m' g')
    refine ⟨(h c).1.trans ?_, (h c).2.1.trans ?_, (h c).2.2.1.trans ?_, (h c).2.2.2⟩
    · rw [Cert.Reference12Ideal.Read.val_main_v34_eq, (hagree c).1, (hagree c).2.1, (hagree c).2.2.1, (hagree c).2.2.2.1, (hagree c).2.2.2.2]
      exact (Cert.Kernel12Ideal.Final.final5 m c).symm
    · rw [Cert.Reference12Ideal.Read.val_main_v6_eq, (hagree c).2.1, (hagree c).2.2.1]
      exact (Cert.Kernel12Ideal.Final.final6 m c).symm
    · rw [Cert.Reference12Ideal.Read.val_main_v35_eq, (hagree c).1, (hagree c).2.1, (hagree c).2.2.1, (hagree c).2.2.2.1, (hagree c).2.2.2.2]
      exact (Cert.Kernel12Ideal.Final.final7 m c).symm

/-- All the claims together. -/
theorem claim : Cert.Claim := ⟨Cert.Kernel.Gen.facts, Cert.KernelIdeal.Gen.facts, Cert.ReferenceIdeal.Gen.facts, Cert.Kernel10.Gen.facts, Cert.Kernel10Ideal.Gen.facts,
  Cert.Reference10Ideal.Gen.facts, Cert.Kernel11.Gen.facts, Cert.Kernel11Ideal.Gen.facts, Cert.Reference11Ideal.Gen.facts,
  Cert.Kernel12.Gen.facts, Cert.Kernel12Ideal.Gen.facts, Cert.Reference12Ideal.Gen.facts, Cert.Kernel9.Gen.facts, Cert.Kernel9Ideal.Gen.facts,
  Cert.Reference9Ideal.Gen.facts, Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Pre_finite_logits.Gen.facts, Cert.Pre_finite_ffn.Gen.facts, fun m ρ _ => Cert.Kernel.Gen.frame m ρ,
  fun m ρ _ => Cert.KernelIdeal.Gen.frame m ρ, fun m ρ _ => Cert.KernelIdeal.Gen.frame m ρ, reference, referencePre, kernel10,
  fun m ρ _ => Cert.Kernel10Ideal.Gen.frame m ρ, reference10, fun m ρ _ => Cert.Kernel11.Gen.frame m ρ,
  fun m ρ _ => Cert.Kernel11Ideal.Gen.frame m ρ, reference11, fun m ρ _ => Cert.Kernel12.Gen.frame m ρ,
  fun m ρ _ => Cert.Kernel12Ideal.Gen.frame m ρ, reference12, fun m ρ _ => Cert.Kernel9.Gen.frame m ρ,
  fun m ρ _ => Cert.Kernel9Ideal.Gen.frame m ρ, fun m ρ _ => Cert.Kernel9Ideal.Gen.frame m ρ, reference9, reference9Pre,
  fun m ρ _ => Cert.Kernel2.Gen.frame m ρ, fun m ρ _ => Cert.Kernel2Ideal.Gen.frame m ρ, reference2, fun m ρ _ => Cert.Kernel3.Gen.frame m ρ,
  fun m ρ _ => Cert.Kernel3Ideal.Gen.frame m ρ, reference3, fun m ρ _ => Cert.Kernel4.Gen.frame m ρ,
  fun m ρ _ => Cert.Kernel4Ideal.Gen.frame m ρ, reference4, fun m ρ _ => Cert.Kernel5.Gen.frame m ρ,
  fun m ρ _ => Cert.Kernel5Ideal.Gen.frame m ρ, reference5, fun m ρ _ => Cert.Kernel6.Gen.frame m ρ,
  fun m ρ _ => Cert.Kernel6Ideal.Gen.frame m ρ, reference6, fun m ρ _ => Cert.Kernel7.Gen.frame m ρ,
  fun m ρ _ => Cert.Kernel7Ideal.Gen.frame m ρ, reference7, fun m ρ _ => Cert.Kernel8.Gen.frame m ρ,
  fun m ρ _ => Cert.Kernel8Ideal.Gen.frame m ρ, reference8, trivial, value, trivial, value10, trivial, value11, trivial, value12, trivial,
  value9, trivial, value2, trivial, value3, trivial, value4, trivial, value5, trivial, value6, trivial, value7, trivial, value8⟩

end Cert.Proof

end
